-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S4096x2048 : Shape := ⟨2, ![4096, 2048]⟩
abbrev S4x64x2048 : Shape := ⟨3, ![4, 64, 2048]⟩
abbrev S64x2048 : Shape := ⟨2, ![64, 2048]⟩
abbrev S2x4 : Shape := ⟨2, ![2, 4]⟩
abbrev S_ : Shape := ⟨0, ![]⟩
abbrev S256x256 : Shape := ⟨2, ![256, 256]⟩
abbrev S1x64x2048 : Shape := ⟨3, ![1, 64, 2048]⟩
abbrev S1x1 : Shape := ⟨2, ![1, 1]⟩

abbrev nBuf : Space → Nat
  | .hbm => 5
  | .vmem => 15
  | .smem => 2
  | _ => 0

abbrev bufTy : (tb : Table) → Fin (tcTables nBuf tb) → BufTy
  | .hbm, ⟨0, _⟩ => ⟨S4096x256, .i8⟩
  | .hbm, ⟨1, _⟩ => ⟨S256x2048, .i8⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x256, .i8⟩
  | .local _ .vmem, ⟨1, _⟩ => ⟨S256x2048, .i8⟩
  | .local _ .vmem, ⟨2, _⟩ => ⟨S4096x2048, .f32⟩
  | .local _ .vmem, ⟨3, _⟩ => ⟨S4x64x2048, .bf16⟩
  | .local _ .vmem, ⟨4, _⟩ => ⟨S4x64x2048, .bf16⟩
  | .local _ .vmem, ⟨5, _⟩ => ⟨S4x64x2048, .bf16⟩
  | .local _ .vmem, ⟨6, _⟩ => ⟨S4x64x2048, .bf16⟩
  | .local _ .vmem, ⟨7, _⟩ => ⟨S4x64x2048, .bf16⟩
  | .local _ .vmem, ⟨8, _⟩ => ⟨S4x64x2048, .bf16⟩
  | .local _ .vmem, ⟨9, _⟩ => ⟨S4x64x2048, .bf16⟩
  | .local _ .vmem, ⟨10, _⟩ => ⟨S4x64x2048, .bf16⟩
  | .local _ .vmem, ⟨11, _⟩ => ⟨S64x2048, .bf16⟩
  | .local _ .vmem, ⟨12, _⟩ => ⟨S64x2048, .bf16⟩
  | .local _ .vmem, ⟨13, _⟩ => ⟨S64x2048, .bf16⟩
  | .local _ .vmem, ⟨14, _⟩ => ⟨S64x2048, .bf16⟩
  | .local _ .smem, ⟨0, _⟩ => ⟨S1, .f32⟩
  | .local _ .smem, ⟨1, _⟩ => ⟨S1, .f32⟩
  | _, _ => ⟨S4096x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 5 37 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 16
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v8 : BitVec 32 := Scalar.addi v2 c0_i32
  let c16_i32_5 : BitVec 32 := 16#32
  let v9 : BitVec 32 := Scalar.addi v8 c16_i32_5
  let c16_i32_6 : BitVec 32 := 16#32
  let v10 : BitVec 32 := Scalar.remsi v9 c16_i32_6
  let c256_i32 : BitVec 32 := 256#32
  let v11 : BitVec 32 := Scalar.muli v10 c256_i32
  let v12 : Index := Scalar.indexCast v11
  let c0 : Index := 0#32
  ![v12.toNat, 0]
def k0_off1_at (r : Fin 16) : BitVec 32 :=
  if r.val < 8 then
    if r.val < 4 then
      if r.val < 2 then
        if r.val < 1 then
          0#32
        else
          1#32
      else
        if r.val < 3 then
          4294967295#32
        else
          2#32
    else
      if r.val < 6 then
        if r.val < 5 then
          4294967294#32
        else
          3#32
      else
        if r.val < 7 then
          4294967293#32
        else
          4#32
  else
    if r.val < 12 then
      if r.val < 10 then
        if r.val < 9 then
          4294967292#32
        else
          5#32
      else
        if r.val < 11 then
          4294967291#32
        else
          6#32
    else
      if r.val < 14 then
        if r.val < 13 then
          4294967290#32
        else
          7#32
      else
        if r.val < 15 then
          4294967289#32
        else
          8#32
def k0_off2 (d0 : Dev nD) (c0_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v8 : BitVec 32 := Scalar.addi v2 c0_i32
  let c16_i32_5 : BitVec 32 := 16#32
  let v9 : BitVec 32 := Scalar.addi v8 c16_i32_5
  let c16_i32_6 : BitVec 32 := 16#32
  let v10 : BitVec 32 := Scalar.remsi v9 c16_i32_6
  let c256_i32_9 : BitVec 32 := 256#32
  let v19 : BitVec 32 := Scalar.muli v10 c256_i32_9
  let v20 : Index := Scalar.indexCast v19
  let c0_10 : Index := 0#32
  ![v20.toNat, 0]
def k0_off2_at (r : Fin 16) : BitVec 32 :=
  if r.val < 8 then
    if r.val < 4 then
      if r.val < 2 then
        if r.val < 1 then
          0#32
        else
          1#32
      else
        if r.val < 3 then
          4294967295#32
        else
          2#32
    else
      if r.val < 6 then
        if r.val < 5 then
          4294967294#32
        else
          3#32
      else
        if r.val < 7 then
          4294967293#32
        else
          4#32
  else
    if r.val < 12 then
      if r.val < 10 then
        if r.val < 9 then
          4294967292#32
        else
          5#32
      else
        if r.val < 11 then
          4294967291#32
        else
          6#32
    else
      if r.val < 14 then
        if r.val < 13 then
          4294967290#32
        else
          7#32
      else
        if r.val < 15 then
          4294967289#32
        else
          8#32
def k0_off3 (d0 : Dev nD) (c0_i32_31 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_30 : BitVec 32 := 256#32
  let v50 : BitVec 32 := Scalar.muli v2 c256_i32_30
  let v51 : BitVec 32 := Scalar.addi v50 c0_i32_31
  let v52 : Index := Scalar.indexCast v51
  let c0_32 : Index := 0#32
  ![v52.toNat, 0]
def k0_dev1 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_52 : BitVec 32 := 1#32
  let v87 : BitVec 32 := Scalar.muli v5 c1_i32_52
  let v88 : BitVec 32 := Scalar.addi c0_i32_53 v87
  v88.toNat
def k0_dev2 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_55 : BitVec 32 := 1#32
  let v89 : BitVec 32 := Scalar.muli v7 c1_i32_55
  let v90 : BitVec 32 := Scalar.addi c0_i32_56 v89
  v90.toNat
def k0_dev3 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_63 : BitVec 32 := 1#32
  let v91 : BitVec 32 := Scalar.muli v7 c1_i32_63
  let v92 : BitVec 32 := Scalar.addi c0_i32_64 v91
  v92.toNat
def k0_dev4 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_75 : BitVec 32 := 1#32
  let v101 : BitVec 32 := Scalar.muli v5 c1_i32_75
  let v102 : BitVec 32 := Scalar.addi c0_i32_76 v101
  v102.toNat
def k0_dev5 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_87 : BitVec 32 := 1#32
  let v111 : BitVec 32 := Scalar.muli v7 c1_i32_87
  let v112 : BitVec 32 := Scalar.addi c0_i32_88 v111
  v112.toNat
def k0_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_99 : BitVec 32 := 1#32
  let v121 : BitVec 32 := Scalar.muli v5 c1_i32_99
  let v122 : BitVec 32 := Scalar.addi c0_i32_100 v121
  v122.toNat
def k0_off4 (d0 : Dev nD) (c1_i32_235 : BitVec 32) (c0_i32_238 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v321 : BitVec 32 := Scalar.subi v2 c1_i32_235
  let c32_i32 : BitVec 32 := 32#32
  let v322 : BitVec 32 := Scalar.addi v321 c32_i32
  let c16_i32_236 : BitVec 32 := 16#32
  let v323 : BitVec 32 := Scalar.remsi v322 c16_i32_236
  let c256_i32_237 : BitVec 32 := 256#32
  let v324 : BitVec 32 := Scalar.muli v323 c256_i32_237
  let v325 : BitVec 32 := Scalar.addi v324 c0_i32_238
  let v326 : Index := Scalar.indexCast v325
  let c0_239 : Index := 0#32
  ![v326.toNat, 0]
def k0_off4_at (r : Fin 64) : BitVec 32 × BitVec 32 :=
  if r.val < 32 then
    if r.val < 16 then
      if r.val < 8 then
        if r.val < 4 then
          if r.val < 2 then
            if r.val < 1 then
              (1#32, 0#32)
            else
              (4294967295#32, 128#32)
          else
            if r.val < 3 then
              (1#32, 64#32)
            else
              (4294967295#32, 192#32)
        else
          if r.val < 6 then
            if r.val < 5 then
              (2#32, 0#32)
            else
              (4294967294#32, 128#32)
          else
            if r.val < 7 then
              (2#32, 64#32)
            else
              (4294967294#32, 192#32)
      else
        if r.val < 12 then
          if r.val < 10 then
            if r.val < 9 then
              (3#32, 0#32)
            else
              (4294967293#32, 128#32)
          else
            if r.val < 11 then
              (3#32, 64#32)
            else
              (4294967293#32, 192#32)
        else
          if r.val < 14 then
            if r.val < 13 then
              (4#32, 0#32)
            else
              (4294967292#32, 128#32)
          else
            if r.val < 15 then
              (4#32, 64#32)
            else
              (4294967292#32, 192#32)
    else
      if r.val < 24 then
        if r.val < 20 then
          if r.val < 18 then
            if r.val < 17 then
              (5#32, 0#32)
            else
              (4294967291#32, 128#32)
          else
            if r.val < 19 then
              (5#32, 64#32)
            else
              (4294967291#32, 192#32)
        else
          if r.val < 22 then
            if r.val < 21 then
              (6#32, 0#32)
            else
              (4294967290#32, 128#32)
          else
            if r.val < 23 then
              (6#32, 64#32)
            else
              (4294967290#32, 192#32)
      else
        if r.val < 28 then
          if r.val < 26 then
            if r.val < 25 then
              (7#32, 0#32)
            else
              (4294967289#32, 128#32)
          else
            if r.val < 27 then
              (7#32, 64#32)
            else
              (4294967289#32, 192#32)
        else
          if r.val < 30 then
            if r.val < 29 then
              (8#32, 0#32)
            else
              (4294967288#32, 128#32)
          else
            if r.val < 31 then
              (8#32, 64#32)
            else
              (4294967288#32, 192#32)
  else
    if r.val < 48 then
      if r.val < 40 then
        if r.val < 36 then
          if r.val < 34 then
            if r.val < 33 then
              (9#32, 0#32)
            else
              (4294967287#32, 128#32)
          else
            if r.val < 35 then
              (9#32, 64#32)
            else
              (4294967287#32, 192#32)
        else
          if r.val < 38 then
            if r.val < 37 then
              (10#32, 0#32)
            else
              (4294967286#32, 128#32)
          else
            if r.val < 39 then
              (10#32, 64#32)
            else
              (4294967286#32, 192#32)
      else
        if r.val < 44 then
          if r.val < 42 then
            if r.val < 41 then
              (11#32, 0#32)
            else
              (4294967285#32, 128#32)
          else
            if r.val < 43 then
              (11#32, 64#32)
            else
              (4294967285#32, 192#32)
        else
          if r.val < 46 then
            if r.val < 45 then
              (12#32, 0#32)
            else
              (4294967284#32, 128#32)
          else
            if r.val < 47 then
              (12#32, 64#32)
            else
              (4294967284#32, 192#32)
    else
      if r.val < 56 then
        if r.val < 52 then
          if r.val < 50 then
            if r.val < 49 then
              (13#32, 0#32)
            else
              (4294967283#32, 128#32)
          else
            if r.val < 51 then
              (13#32, 64#32)
            else
              (4294967283#32, 192#32)
        else
          if r.val < 54 then
            if r.val < 53 then
              (14#32, 0#32)
            else
              (4294967282#32, 128#32)
          else
            if r.val < 55 then
              (14#32, 64#32)
            else
              (4294967282#32, 192#32)
      else
        if r.val < 60 then
          if r.val < 58 then
            if r.val < 57 then
              (15#32, 0#32)
            else
              (4294967281#32, 128#32)
          else
            if r.val < 59 then
              (15#32, 64#32)
            else
              (4294967281#32, 192#32)
        else
          if r.val < 62 then
            if r.val < 61 then
              (0#32, 0#32)
            else
              (0#32, 128#32)
          else
            if r.val < 63 then
              (0#32, 64#32)
            else
              (0#32, 192#32)
def k0_dev7 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_254 : BitVec 32 := 1#32
  let v341 : BitVec 32 := Scalar.muli v7 c1_i32_254
  let v342 : BitVec 32 := Scalar.addi c0_i32_255 v341
  v342.toNat
def k0_dev8 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_261 : BitVec 32 := 1#32
  let v351 : BitVec 32 := Scalar.muli v5 c1_i32_261
  let v352 : BitVec 32 := Scalar.addi c0_i32_262 v351
  v352.toNat
def k0_dev9 (d0 : Dev nD) : Nat :=
  let c0_i32_297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_296 : BitVec 32 := 1#32
  let v381 : BitVec 32 := Scalar.muli v5 c1_i32_296
  let v382 : BitVec 32 := Scalar.addi c0_i32_297 v381
  v382.toNat
def k0_dev10 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_303 : BitVec 32 := 1#32
  let v391 : BitVec 32 := Scalar.muli v7 c1_i32_303
  let v392 : BitVec 32 := Scalar.addi c0_i32_304 v391
  v392.toNat
def k0_dev11 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_338 : BitVec 32 := 1#32
  let v421 : BitVec 32 := Scalar.muli v7 c1_i32_338
  let v422 : BitVec 32 := Scalar.addi c0_i32_339 v421
  v422.toNat
def k0_dev12 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_345 : BitVec 32 := 1#32
  let v431 : BitVec 32 := Scalar.muli v5 c1_i32_345
  let v432 : BitVec 32 := Scalar.addi c0_i32_346 v431
  v432.toNat
def k0_dev13 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_380 : BitVec 32 := 1#32
  let v461 : BitVec 32 := Scalar.muli v5 c1_i32_380
  let v462 : BitVec 32 := Scalar.addi c0_i32_381 v461
  v462.toNat
def k0_dev14 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_387 : BitVec 32 := 1#32
  let v471 : BitVec 32 := Scalar.muli v7 c1_i32_387
  let v472 : BitVec 32 := Scalar.addi c0_i32_388 v471
  v472.toNat
def k0_dev15 (d0 : Dev nD) : Nat :=
  let c0_i32_422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_421 : BitVec 32 := 1#32
  let v501 : BitVec 32 := Scalar.muli v7 c1_i32_421
  let v502 : BitVec 32 := Scalar.addi c0_i32_422 v501
  v502.toNat
def k0_dev16 (d0 : Dev nD) : Nat :=
  let c0_i32_429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_428 : BitVec 32 := 1#32
  let v511 : BitVec 32 := Scalar.muli v5 c1_i32_428
  let v512 : BitVec 32 := Scalar.addi c0_i32_429 v511
  v512.toNat
def k0_dev17 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_463 : BitVec 32 := 1#32
  let v541 : BitVec 32 := Scalar.muli v5 c1_i32_463
  let v542 : BitVec 32 := Scalar.addi c0_i32_464 v541
  v542.toNat
def k0_dev18 (d0 : Dev nD) : Nat :=
  let c0_i32_471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_470 : BitVec 32 := 1#32
  let v551 : BitVec 32 := Scalar.muli v7 c1_i32_470
  let v552 : BitVec 32 := Scalar.addi c0_i32_471 v551
  v552.toNat
def k0_dev19 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_505 : BitVec 32 := 1#32
  let v581 : BitVec 32 := Scalar.muli v7 c1_i32_505
  let v582 : BitVec 32 := Scalar.addi c0_i32_506 v581
  v582.toNat
def k0_dev20 (d0 : Dev nD) : Nat :=
  let c0_i32_513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_512 : BitVec 32 := 1#32
  let v591 : BitVec 32 := Scalar.muli v5 c1_i32_512
  let v592 : BitVec 32 := Scalar.addi c0_i32_513 v591
  v592.toNat
def k0_dev21 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_547 : BitVec 32 := 1#32
  let v621 : BitVec 32 := Scalar.muli v5 c1_i32_547
  let v622 : BitVec 32 := Scalar.addi c0_i32_548 v621
  v622.toNat
def k0_dev22 (d0 : Dev nD) : Nat :=
  let c0_i32_555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_554 : BitVec 32 := 1#32
  let v631 : BitVec 32 := Scalar.muli v7 c1_i32_554
  let v632 : BitVec 32 := Scalar.addi c0_i32_555 v631
  v632.toNat
def k0_dev23 (d0 : Dev nD) : Nat :=
  let c0_i32_589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_588 : BitVec 32 := 1#32
  let v661 : BitVec 32 := Scalar.muli v7 c1_i32_588
  let v662 : BitVec 32 := Scalar.addi c0_i32_589 v661
  v662.toNat
def k0_dev24 (d0 : Dev nD) : Nat :=
  let c0_i32_596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_595 : BitVec 32 := 1#32
  let v671 : BitVec 32 := Scalar.muli v5 c1_i32_595
  let v672 : BitVec 32 := Scalar.addi c0_i32_596 v671
  v672.toNat
def k0_dev25 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_630 : BitVec 32 := 1#32
  let v701 : BitVec 32 := Scalar.muli v5 c1_i32_630
  let v702 : BitVec 32 := Scalar.addi c0_i32_631 v701
  v702.toNat
def k0_dev26 (d0 : Dev nD) : Nat :=
  let c0_i32_638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_637 : BitVec 32 := 1#32
  let v711 : BitVec 32 := Scalar.muli v7 c1_i32_637
  let v712 : BitVec 32 := Scalar.addi c0_i32_638 v711
  v712.toNat
def k0_dev27 (d0 : Dev nD) : Nat :=
  let c0_i32_673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_672 : BitVec 32 := 1#32
  let v741 : BitVec 32 := Scalar.muli v7 c1_i32_672
  let v742 : BitVec 32 := Scalar.addi c0_i32_673 v741
  v742.toNat
def k0_dev28 (d0 : Dev nD) : Nat :=
  let c0_i32_680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_679 : BitVec 32 := 1#32
  let v751 : BitVec 32 := Scalar.muli v5 c1_i32_679
  let v752 : BitVec 32 := Scalar.addi c0_i32_680 v751
  v752.toNat
def k0_dev29 (d0 : Dev nD) : Nat :=
  let c0_i32_715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_714 : BitVec 32 := 1#32
  let v781 : BitVec 32 := Scalar.muli v5 c1_i32_714
  let v782 : BitVec 32 := Scalar.addi c0_i32_715 v781
  v782.toNat
def k0_dev30 (d0 : Dev nD) : Nat :=
  let c0_i32_722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_721 : BitVec 32 := 1#32
  let v791 : BitVec 32 := Scalar.muli v7 c1_i32_721
  let v792 : BitVec 32 := Scalar.addi c0_i32_722 v791
  v792.toNat
def k0_dev31 (d0 : Dev nD) : Nat :=
  let c0_i32_770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_769 : BitVec 32 := 1#32
  let v827 : BitVec 32 := Scalar.muli v7 c1_i32_769
  let v828 : BitVec 32 := Scalar.addi c0_i32_770 v827
  v828.toNat
def k0_dev32 (d0 : Dev nD) : Nat :=
  let c0_i32_777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_776 : BitVec 32 := 1#32
  let v837 : BitVec 32 := Scalar.muli v5 c1_i32_776
  let v838 : BitVec 32 := Scalar.addi c0_i32_777 v837
  v838.toNat
def k0_dev33 (d0 : Dev nD) : Nat :=
  let c0_i32_825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_824 : BitVec 32 := 1#32
  let v873 : BitVec 32 := Scalar.muli v5 c1_i32_824
  let v874 : BitVec 32 := Scalar.addi c0_i32_825 v873
  v874.toNat
def k0_dev34 (d0 : Dev nD) : Nat :=
  let c0_i32_832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_831 : BitVec 32 := 1#32
  let v883 : BitVec 32 := Scalar.muli v7 c1_i32_831
  let v884 : BitVec 32 := Scalar.addi c0_i32_832 v883
  v884.toNat
def k0_dev35 (d0 : Dev nD) : Nat :=
  let c0_i32_880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_879 : BitVec 32 := 1#32
  let v919 : BitVec 32 := Scalar.muli v7 c1_i32_879
  let v920 : BitVec 32 := Scalar.addi c0_i32_880 v919
  v920.toNat
def k0_dev36 (d0 : Dev nD) : Nat :=
  let c0_i32_887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_886 : BitVec 32 := 1#32
  let v929 : BitVec 32 := Scalar.muli v5 c1_i32_886
  let v930 : BitVec 32 := Scalar.addi c0_i32_887 v929
  v930.toNat
def k0_dev37 (d0 : Dev nD) : Nat :=
  let c0_i32_935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_934 : BitVec 32 := 1#32
  let v965 : BitVec 32 := Scalar.muli v5 c1_i32_934
  let v966 : BitVec 32 := Scalar.addi c0_i32_935 v965
  v966.toNat
def k0_dev38 (d0 : Dev nD) : Nat :=
  let c0_i32_942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_941 : BitVec 32 := 1#32
  let v975 : BitVec 32 := Scalar.muli v7 c1_i32_941
  let v976 : BitVec 32 := Scalar.addi c0_i32_942 v975
  v976.toNat
def k0_dev39 (d0 : Dev nD) : Nat :=
  let c0_i32_990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_989 : BitVec 32 := 1#32
  let v1011 : BitVec 32 := Scalar.muli v7 c1_i32_989
  let v1012 : BitVec 32 := Scalar.addi c0_i32_990 v1011
  v1012.toNat
def k0_dev40 (d0 : Dev nD) : Nat :=
  let c0_i32_997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_996 : BitVec 32 := 1#32
  let v1021 : BitVec 32 := Scalar.muli v5 c1_i32_996
  let v1022 : BitVec 32 := Scalar.addi c0_i32_997 v1021
  v1022.toNat
def k0_dev41 (d0 : Dev nD) : Nat :=
  let c0_i32_1045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1044 : BitVec 32 := 1#32
  let v1057 : BitVec 32 := Scalar.muli v5 c1_i32_1044
  let v1058 : BitVec 32 := Scalar.addi c0_i32_1045 v1057
  v1058.toNat
def k0_dev42 (d0 : Dev nD) : Nat :=
  let c0_i32_1052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1051 : BitVec 32 := 1#32
  let v1067 : BitVec 32 := Scalar.muli v7 c1_i32_1051
  let v1068 : BitVec 32 := Scalar.addi c0_i32_1052 v1067
  v1068.toNat
def k0_dev43 (d0 : Dev nD) : Nat :=
  let c0_i32_1100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1099 : BitVec 32 := 1#32
  let v1103 : BitVec 32 := Scalar.muli v7 c1_i32_1099
  let v1104 : BitVec 32 := Scalar.addi c0_i32_1100 v1103
  v1104.toNat
def k0_dev44 (d0 : Dev nD) : Nat :=
  let c0_i32_1107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1106 : BitVec 32 := 1#32
  let v1113 : BitVec 32 := Scalar.muli v5 c1_i32_1106
  let v1114 : BitVec 32 := Scalar.addi c0_i32_1107 v1113
  v1114.toNat
def k0_dev45 (d0 : Dev nD) : Nat :=
  let c0_i32_1155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1154 : BitVec 32 := 1#32
  let v1149 : BitVec 32 := Scalar.muli v5 c1_i32_1154
  let v1150 : BitVec 32 := Scalar.addi c0_i32_1155 v1149
  v1150.toNat
def k0_dev46 (d0 : Dev nD) : Nat :=
  let c0_i32_1162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1161 : BitVec 32 := 1#32
  let v1159 : BitVec 32 := Scalar.muli v7 c1_i32_1161
  let v1160 : BitVec 32 := Scalar.addi c0_i32_1162 v1159
  v1160.toNat
def k0_dev47 (d0 : Dev nD) : Nat :=
  let c0_i32_1210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1209 : BitVec 32 := 1#32
  let v1195 : BitVec 32 := Scalar.muli v7 c1_i32_1209
  let v1196 : BitVec 32 := Scalar.addi c0_i32_1210 v1195
  v1196.toNat
def k0_dev48 (d0 : Dev nD) : Nat :=
  let c0_i32_1217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1216 : BitVec 32 := 1#32
  let v1205 : BitVec 32 := Scalar.muli v5 c1_i32_1216
  let v1206 : BitVec 32 := Scalar.addi c0_i32_1217 v1205
  v1206.toNat
def k0_dev49 (d0 : Dev nD) : Nat :=
  let c0_i32_1265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1264 : BitVec 32 := 1#32
  let v1241 : BitVec 32 := Scalar.muli v5 c1_i32_1264
  let v1242 : BitVec 32 := Scalar.addi c0_i32_1265 v1241
  v1242.toNat
def k0_dev50 (d0 : Dev nD) : Nat :=
  let c0_i32_1272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1271 : BitVec 32 := 1#32
  let v1251 : BitVec 32 := Scalar.muli v7 c1_i32_1271
  let v1252 : BitVec 32 := Scalar.addi c0_i32_1272 v1251
  v1252.toNat
def k0_dev51 (d0 : Dev nD) : Nat :=
  let c0_i32_1320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1319 : BitVec 32 := 1#32
  let v1287 : BitVec 32 := Scalar.muli v7 c1_i32_1319
  let v1288 : BitVec 32 := Scalar.addi c0_i32_1320 v1287
  v1288.toNat
def k0_dev52 (d0 : Dev nD) : Nat :=
  let c0_i32_1327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1326 : BitVec 32 := 1#32
  let v1297 : BitVec 32 := Scalar.muli v5 c1_i32_1326
  let v1298 : BitVec 32 := Scalar.addi c0_i32_1327 v1297
  v1298.toNat
def k0_dev53 (d0 : Dev nD) : Nat :=
  let c0_i32_1375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1374 : BitVec 32 := 1#32
  let v1333 : BitVec 32 := Scalar.muli v5 c1_i32_1374
  let v1334 : BitVec 32 := Scalar.addi c0_i32_1375 v1333
  v1334.toNat
def k0_dev54 (d0 : Dev nD) : Nat :=
  let c0_i32_1382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1381 : BitVec 32 := 1#32
  let v1343 : BitVec 32 := Scalar.muli v7 c1_i32_1381
  let v1344 : BitVec 32 := Scalar.addi c0_i32_1382 v1343
  v1344.toNat
def k0_dev55 (d0 : Dev nD) : Nat :=
  let c0_i32_1430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1429 : BitVec 32 := 1#32
  let v1379 : BitVec 32 := Scalar.muli v7 c1_i32_1429
  let v1380 : BitVec 32 := Scalar.addi c0_i32_1430 v1379
  v1380.toNat
def k0_dev56 (d0 : Dev nD) : Nat :=
  let c0_i32_1437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1436 : BitVec 32 := 1#32
  let v1389 : BitVec 32 := Scalar.muli v5 c1_i32_1436
  let v1390 : BitVec 32 := Scalar.addi c0_i32_1437 v1389
  v1390.toNat
def k0_dev57 (d0 : Dev nD) : Nat :=
  let c0_i32_1485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1484 : BitVec 32 := 1#32
  let v1425 : BitVec 32 := Scalar.muli v5 c1_i32_1484
  let v1426 : BitVec 32 := Scalar.addi c0_i32_1485 v1425
  v1426.toNat
def k0_dev58 (d0 : Dev nD) : Nat :=
  let c0_i32_1492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1491 : BitVec 32 := 1#32
  let v1435 : BitVec 32 := Scalar.muli v7 c1_i32_1491
  let v1436 : BitVec 32 := Scalar.addi c0_i32_1492 v1435
  v1436.toNat
def k0_dev59 (d0 : Dev nD) : Nat :=
  let c0_i32_1540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1539 : BitVec 32 := 1#32
  let v1471 : BitVec 32 := Scalar.muli v7 c1_i32_1539
  let v1472 : BitVec 32 := Scalar.addi c0_i32_1540 v1471
  v1472.toNat
def k0_dev60 (d0 : Dev nD) : Nat :=
  let c0_i32_1547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1546 : BitVec 32 := 1#32
  let v1481 : BitVec 32 := Scalar.muli v5 c1_i32_1546
  let v1482 : BitVec 32 := Scalar.addi c0_i32_1547 v1481
  v1482.toNat
def k0_dev61 (d0 : Dev nD) : Nat :=
  let c0_i32_1595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1594 : BitVec 32 := 1#32
  let v1517 : BitVec 32 := Scalar.muli v5 c1_i32_1594
  let v1518 : BitVec 32 := Scalar.addi c0_i32_1595 v1517
  v1518.toNat
def k0_dev62 (d0 : Dev nD) : Nat :=
  let c0_i32_1602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1601 : BitVec 32 := 1#32
  let v1527 : BitVec 32 := Scalar.muli v7 c1_i32_1601
  let v1528 : BitVec 32 := Scalar.addi c0_i32_1602 v1527
  v1528.toNat
def k0_dev63 (d0 : Dev nD) : Nat :=
  let c0_i32_1650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1649 : BitVec 32 := 1#32
  let v1563 : BitVec 32 := Scalar.muli v7 c1_i32_1649
  let v1564 : BitVec 32 := Scalar.addi c0_i32_1650 v1563
  v1564.toNat
def k0_dev64 (d0 : Dev nD) : Nat :=
  let c0_i32_1657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1656 : BitVec 32 := 1#32
  let v1573 : BitVec 32 := Scalar.muli v5 c1_i32_1656
  let v1574 : BitVec 32 := Scalar.addi c0_i32_1657 v1573
  v1574.toNat
def k0_dev65 (d0 : Dev nD) : Nat :=
  let c0_i32_1704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1703 : BitVec 32 := 1#32
  let v1609 : BitVec 32 := Scalar.muli v5 c1_i32_1703
  let v1610 : BitVec 32 := Scalar.addi c0_i32_1704 v1609
  v1610.toNat
def k0_dev66 (d0 : Dev nD) : Nat :=
  let c0_i32_1711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1710 : BitVec 32 := 1#32
  let v1619 : BitVec 32 := Scalar.muli v7 c1_i32_1710
  let v1620 : BitVec 32 := Scalar.addi c0_i32_1711 v1619
  v1620.toNat
def k0_dev67 (d0 : Dev nD) : Nat :=
  let c0_i32_1759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1758 : BitVec 32 := 1#32
  let v1655 : BitVec 32 := Scalar.muli v7 c1_i32_1758
  let v1656 : BitVec 32 := Scalar.addi c0_i32_1759 v1655
  v1656.toNat
def k0_dev68 (d0 : Dev nD) : Nat :=
  let c0_i32_1766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1765 : BitVec 32 := 1#32
  let v1665 : BitVec 32 := Scalar.muli v5 c1_i32_1765
  let v1666 : BitVec 32 := Scalar.addi c0_i32_1766 v1665
  v1666.toNat
def k0_dev69 (d0 : Dev nD) : Nat :=
  let c0_i32_1814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1813 : BitVec 32 := 1#32
  let v1701 : BitVec 32 := Scalar.muli v5 c1_i32_1813
  let v1702 : BitVec 32 := Scalar.addi c0_i32_1814 v1701
  v1702.toNat
def k0_dev70 (d0 : Dev nD) : Nat :=
  let c0_i32_1821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1820 : BitVec 32 := 1#32
  let v1711 : BitVec 32 := Scalar.muli v7 c1_i32_1820
  let v1712 : BitVec 32 := Scalar.addi c0_i32_1821 v1711
  v1712.toNat
def k0_dev71 (d0 : Dev nD) : Nat :=
  let c0_i32_1868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1867 : BitVec 32 := 1#32
  let v1747 : BitVec 32 := Scalar.muli v7 c1_i32_1867
  let v1748 : BitVec 32 := Scalar.addi c0_i32_1868 v1747
  v1748.toNat
def k0_dev72 (d0 : Dev nD) : Nat :=
  let c0_i32_1875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1874 : BitVec 32 := 1#32
  let v1757 : BitVec 32 := Scalar.muli v5 c1_i32_1874
  let v1758 : BitVec 32 := Scalar.addi c0_i32_1875 v1757
  v1758.toNat
def k0_dev73 (d0 : Dev nD) : Nat :=
  let c0_i32_1922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1921 : BitVec 32 := 1#32
  let v1793 : BitVec 32 := Scalar.muli v5 c1_i32_1921
  let v1794 : BitVec 32 := Scalar.addi c0_i32_1922 v1793
  v1794.toNat
def k0_dev74 (d0 : Dev nD) : Nat :=
  let c0_i32_1929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1928 : BitVec 32 := 1#32
  let v1803 : BitVec 32 := Scalar.muli v7 c1_i32_1928
  let v1804 : BitVec 32 := Scalar.addi c0_i32_1929 v1803
  v1804.toNat
def k0_dev75 (d0 : Dev nD) : Nat :=
  let c0_i32_1977 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1976 : BitVec 32 := 1#32
  let v1839 : BitVec 32 := Scalar.muli v7 c1_i32_1976
  let v1840 : BitVec 32 := Scalar.addi c0_i32_1977 v1839
  v1840.toNat
def k0_dev76 (d0 : Dev nD) : Nat :=
  let c0_i32_1984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1983 : BitVec 32 := 1#32
  let v1849 : BitVec 32 := Scalar.muli v5 c1_i32_1983
  let v1850 : BitVec 32 := Scalar.addi c0_i32_1984 v1849
  v1850.toNat
def k0_dev77 (d0 : Dev nD) : Nat :=
  let c0_i32_2032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2031 : BitVec 32 := 1#32
  let v1885 : BitVec 32 := Scalar.muli v5 c1_i32_2031
  let v1886 : BitVec 32 := Scalar.addi c0_i32_2032 v1885
  v1886.toNat
def k0_dev78 (d0 : Dev nD) : Nat :=
  let c0_i32_2039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2038 : BitVec 32 := 1#32
  let v1895 : BitVec 32 := Scalar.muli v7 c1_i32_2038
  let v1896 : BitVec 32 := Scalar.addi c0_i32_2039 v1895
  v1896.toNat
def k0_dev79 (d0 : Dev nD) : Nat :=
  let c0_i32_2086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2085 : BitVec 32 := 1#32
  let v1931 : BitVec 32 := Scalar.muli v7 c1_i32_2085
  let v1932 : BitVec 32 := Scalar.addi c0_i32_2086 v1931
  v1932.toNat
def k0_dev80 (d0 : Dev nD) : Nat :=
  let c0_i32_2093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2092 : BitVec 32 := 1#32
  let v1941 : BitVec 32 := Scalar.muli v5 c1_i32_2092
  let v1942 : BitVec 32 := Scalar.addi c0_i32_2093 v1941
  v1942.toNat
def k0_dev81 (d0 : Dev nD) : Nat :=
  let c0_i32_2140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2139 : BitVec 32 := 1#32
  let v1977 : BitVec 32 := Scalar.muli v5 c1_i32_2139
  let v1978 : BitVec 32 := Scalar.addi c0_i32_2140 v1977
  v1978.toNat
def k0_dev82 (d0 : Dev nD) : Nat :=
  let c0_i32_2147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2146 : BitVec 32 := 1#32
  let v1987 : BitVec 32 := Scalar.muli v7 c1_i32_2146
  let v1988 : BitVec 32 := Scalar.addi c0_i32_2147 v1987
  v1988.toNat
def k0_dev83 (d0 : Dev nD) : Nat :=
  let c0_i32_2195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2194 : BitVec 32 := 1#32
  let v2023 : BitVec 32 := Scalar.muli v7 c1_i32_2194
  let v2024 : BitVec 32 := Scalar.addi c0_i32_2195 v2023
  v2024.toNat
def k0_dev84 (d0 : Dev nD) : Nat :=
  let c0_i32_2202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2201 : BitVec 32 := 1#32
  let v2033 : BitVec 32 := Scalar.muli v5 c1_i32_2201
  let v2034 : BitVec 32 := Scalar.addi c0_i32_2202 v2033
  v2034.toNat
def k0_dev85 (d0 : Dev nD) : Nat :=
  let c0_i32_2250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2249 : BitVec 32 := 1#32
  let v2069 : BitVec 32 := Scalar.muli v5 c1_i32_2249
  let v2070 : BitVec 32 := Scalar.addi c0_i32_2250 v2069
  v2070.toNat
def k0_dev86 (d0 : Dev nD) : Nat :=
  let c0_i32_2257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2256 : BitVec 32 := 1#32
  let v2079 : BitVec 32 := Scalar.muli v7 c1_i32_2256
  let v2080 : BitVec 32 := Scalar.addi c0_i32_2257 v2079
  v2080.toNat
def k0_dev87 (d0 : Dev nD) : Nat :=
  let c0_i32_2304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2303 : BitVec 32 := 1#32
  let v2115 : BitVec 32 := Scalar.muli v7 c1_i32_2303
  let v2116 : BitVec 32 := Scalar.addi c0_i32_2304 v2115
  v2116.toNat
def k0_dev88 (d0 : Dev nD) : Nat :=
  let c0_i32_2311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2310 : BitVec 32 := 1#32
  let v2125 : BitVec 32 := Scalar.muli v5 c1_i32_2310
  let v2126 : BitVec 32 := Scalar.addi c0_i32_2311 v2125
  v2126.toNat
def k0_dev89 (d0 : Dev nD) : Nat :=
  let c0_i32_2358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2357 : BitVec 32 := 1#32
  let v2161 : BitVec 32 := Scalar.muli v5 c1_i32_2357
  let v2162 : BitVec 32 := Scalar.addi c0_i32_2358 v2161
  v2162.toNat
def k0_dev90 (d0 : Dev nD) : Nat :=
  let c0_i32_2365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2364 : BitVec 32 := 1#32
  let v2171 : BitVec 32 := Scalar.muli v7 c1_i32_2364
  let v2172 : BitVec 32 := Scalar.addi c0_i32_2365 v2171
  v2172.toNat
def k0_dev91 (d0 : Dev nD) : Nat :=
  let c0_i32_2413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2412 : BitVec 32 := 1#32
  let v2207 : BitVec 32 := Scalar.muli v7 c1_i32_2412
  let v2208 : BitVec 32 := Scalar.addi c0_i32_2413 v2207
  v2208.toNat
def k0_dev92 (d0 : Dev nD) : Nat :=
  let c0_i32_2420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2419 : BitVec 32 := 1#32
  let v2217 : BitVec 32 := Scalar.muli v5 c1_i32_2419
  let v2218 : BitVec 32 := Scalar.addi c0_i32_2420 v2217
  v2218.toNat
def k0_dev93 (d0 : Dev nD) : Nat :=
  let c0_i32_2468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2467 : BitVec 32 := 1#32
  let v2253 : BitVec 32 := Scalar.muli v5 c1_i32_2467
  let v2254 : BitVec 32 := Scalar.addi c0_i32_2468 v2253
  v2254.toNat
def k0_dev94 (d0 : Dev nD) : Nat :=
  let c0_i32_2475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2474 : BitVec 32 := 1#32
  let v2263 : BitVec 32 := Scalar.muli v7 c1_i32_2474
  let v2264 : BitVec 32 := Scalar.addi c0_i32_2475 v2263
  v2264.toNat
def k0_dev95 (d0 : Dev nD) : Nat :=
  let c0_i32_2522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2521 : BitVec 32 := 1#32
  let v2299 : BitVec 32 := Scalar.muli v7 c1_i32_2521
  let v2300 : BitVec 32 := Scalar.addi c0_i32_2522 v2299
  v2300.toNat
def k0_dev96 (d0 : Dev nD) : Nat :=
  let c0_i32_2529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2528 : BitVec 32 := 1#32
  let v2309 : BitVec 32 := Scalar.muli v5 c1_i32_2528
  let v2310 : BitVec 32 := Scalar.addi c0_i32_2529 v2309
  v2310.toNat
def k0_dev97 (d0 : Dev nD) : Nat :=
  let c0_i32_2576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2575 : BitVec 32 := 1#32
  let v2345 : BitVec 32 := Scalar.muli v5 c1_i32_2575
  let v2346 : BitVec 32 := Scalar.addi c0_i32_2576 v2345
  v2346.toNat
def k0_dev98 (d0 : Dev nD) : Nat :=
  let c0_i32_2583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2582 : BitVec 32 := 1#32
  let v2355 : BitVec 32 := Scalar.muli v7 c1_i32_2582
  let v2356 : BitVec 32 := Scalar.addi c0_i32_2583 v2355
  v2356.toNat
def k0_dev99 (d0 : Dev nD) : Nat :=
  let c0_i32_2631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2630 : BitVec 32 := 1#32
  let v2391 : BitVec 32 := Scalar.muli v7 c1_i32_2630
  let v2392 : BitVec 32 := Scalar.addi c0_i32_2631 v2391
  v2392.toNat
def k0_dev100 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2637 : BitVec 32 := 1#32
  let v2401 : BitVec 32 := Scalar.muli v5 c1_i32_2637
  let v2402 : BitVec 32 := Scalar.addi c0_i32_2638 v2401
  v2402.toNat
def k0_dev101 (d0 : Dev nD) : Nat :=
  let c0_i32_2686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2685 : BitVec 32 := 1#32
  let v2437 : BitVec 32 := Scalar.muli v5 c1_i32_2685
  let v2438 : BitVec 32 := Scalar.addi c0_i32_2686 v2437
  v2438.toNat
def k0_dev102 (d0 : Dev nD) : Nat :=
  let c0_i32_2693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2692 : BitVec 32 := 1#32
  let v2447 : BitVec 32 := Scalar.muli v7 c1_i32_2692
  let v2448 : BitVec 32 := Scalar.addi c0_i32_2693 v2447
  v2448.toNat
def k0_dev103 (d0 : Dev nD) : Nat :=
  let c0_i32_2740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2739 : BitVec 32 := 1#32
  let v2483 : BitVec 32 := Scalar.muli v7 c1_i32_2739
  let v2484 : BitVec 32 := Scalar.addi c0_i32_2740 v2483
  v2484.toNat
def k0_dev104 (d0 : Dev nD) : Nat :=
  let c0_i32_2747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2746 : BitVec 32 := 1#32
  let v2493 : BitVec 32 := Scalar.muli v5 c1_i32_2746
  let v2494 : BitVec 32 := Scalar.addi c0_i32_2747 v2493
  v2494.toNat
def k0_dev105 (d0 : Dev nD) : Nat :=
  let c0_i32_2794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2793 : BitVec 32 := 1#32
  let v2529 : BitVec 32 := Scalar.muli v5 c1_i32_2793
  let v2530 : BitVec 32 := Scalar.addi c0_i32_2794 v2529
  v2530.toNat
def k0_dev106 (d0 : Dev nD) : Nat :=
  let c0_i32_2801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2800 : BitVec 32 := 1#32
  let v2539 : BitVec 32 := Scalar.muli v7 c1_i32_2800
  let v2540 : BitVec 32 := Scalar.addi c0_i32_2801 v2539
  v2540.toNat
def k0_dev107 (d0 : Dev nD) : Nat :=
  let c0_i32_2849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2848 : BitVec 32 := 1#32
  let v2575 : BitVec 32 := Scalar.muli v7 c1_i32_2848
  let v2576 : BitVec 32 := Scalar.addi c0_i32_2849 v2575
  v2576.toNat
def k0_dev108 (d0 : Dev nD) : Nat :=
  let c0_i32_2856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2855 : BitVec 32 := 1#32
  let v2585 : BitVec 32 := Scalar.muli v5 c1_i32_2855
  let v2586 : BitVec 32 := Scalar.addi c0_i32_2856 v2585
  v2586.toNat
def k0_dev109 (d0 : Dev nD) : Nat :=
  let c0_i32_2904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2903 : BitVec 32 := 1#32
  let v2621 : BitVec 32 := Scalar.muli v5 c1_i32_2903
  let v2622 : BitVec 32 := Scalar.addi c0_i32_2904 v2621
  v2622.toNat
def k0_dev110 (d0 : Dev nD) : Nat :=
  let c0_i32_2911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2910 : BitVec 32 := 1#32
  let v2631 : BitVec 32 := Scalar.muli v7 c1_i32_2910
  let v2632 : BitVec 32 := Scalar.addi c0_i32_2911 v2631
  v2632.toNat
def k0_dev111 (d0 : Dev nD) : Nat :=
  let c0_i32_2958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2957 : BitVec 32 := 1#32
  let v2667 : BitVec 32 := Scalar.muli v7 c1_i32_2957
  let v2668 : BitVec 32 := Scalar.addi c0_i32_2958 v2667
  v2668.toNat
def k0_dev112 (d0 : Dev nD) : Nat :=
  let c0_i32_2965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2964 : BitVec 32 := 1#32
  let v2677 : BitVec 32 := Scalar.muli v5 c1_i32_2964
  let v2678 : BitVec 32 := Scalar.addi c0_i32_2965 v2677
  v2678.toNat
def k0_dev113 (d0 : Dev nD) : Nat :=
  let c0_i32_3012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3011 : BitVec 32 := 1#32
  let v2713 : BitVec 32 := Scalar.muli v5 c1_i32_3011
  let v2714 : BitVec 32 := Scalar.addi c0_i32_3012 v2713
  v2714.toNat
def k0_dev114 (d0 : Dev nD) : Nat :=
  let c0_i32_3019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3018 : BitVec 32 := 1#32
  let v2723 : BitVec 32 := Scalar.muli v7 c1_i32_3018
  let v2724 : BitVec 32 := Scalar.addi c0_i32_3019 v2723
  v2724.toNat
def k0_dev115 (d0 : Dev nD) : Nat :=
  let c0_i32_3067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3066 : BitVec 32 := 1#32
  let v2759 : BitVec 32 := Scalar.muli v7 c1_i32_3066
  let v2760 : BitVec 32 := Scalar.addi c0_i32_3067 v2759
  v2760.toNat
def k0_dev116 (d0 : Dev nD) : Nat :=
  let c0_i32_3074 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3073 : BitVec 32 := 1#32
  let v2769 : BitVec 32 := Scalar.muli v5 c1_i32_3073
  let v2770 : BitVec 32 := Scalar.addi c0_i32_3074 v2769
  v2770.toNat
def k0_dev117 (d0 : Dev nD) : Nat :=
  let c0_i32_3122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3121 : BitVec 32 := 1#32
  let v2805 : BitVec 32 := Scalar.muli v5 c1_i32_3121
  let v2806 : BitVec 32 := Scalar.addi c0_i32_3122 v2805
  v2806.toNat
def k0_dev118 (d0 : Dev nD) : Nat :=
  let c0_i32_3129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3128 : BitVec 32 := 1#32
  let v2815 : BitVec 32 := Scalar.muli v7 c1_i32_3128
  let v2816 : BitVec 32 := Scalar.addi c0_i32_3129 v2815
  v2816.toNat
def k0_dev119 (d0 : Dev nD) : Nat :=
  let c0_i32_3166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3165 : BitVec 32 := 1#32
  let v2847 : BitVec 32 := Scalar.muli v5 c1_i32_3165
  let v2848 : BitVec 32 := Scalar.addi c0_i32_3166 v2847
  v2848.toNat
def k0_dev120 (d0 : Dev nD) : Nat :=
  let c0_i32_3203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3202 : BitVec 32 := 1#32
  let v2879 : BitVec 32 := Scalar.muli v7 c1_i32_3202
  let v2880 : BitVec 32 := Scalar.addi c0_i32_3203 v2879
  v2880.toNat
def k0_dev121 (d0 : Dev nD) : Nat :=
  let c0_i32_3241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3240 : BitVec 32 := 1#32
  let v2911 : BitVec 32 := Scalar.muli v5 c1_i32_3240
  let v2912 : BitVec 32 := Scalar.addi c0_i32_3241 v2911
  v2912.toNat
def k0_dev122 (d0 : Dev nD) : Nat :=
  let c0_i32_3279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3278 : BitVec 32 := 1#32
  let v2943 : BitVec 32 := Scalar.muli v7 c1_i32_3278
  let v2944 : BitVec 32 := Scalar.addi c0_i32_3279 v2943
  v2944.toNat
def k0_off5 (d0 : Dev nD) (c1_i32_3422 : BitVec 32) (c0_i32_3426 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3020 : BitVec 32 := Scalar.addi v2 c1_i32_3422
  let c16_i32_3423 : BitVec 32 := 16#32
  let v3021 : BitVec 32 := Scalar.addi v3020 c16_i32_3423
  let c16_i32_3424 : BitVec 32 := 16#32
  let v3022 : BitVec 32 := Scalar.remsi v3021 c16_i32_3424
  let c256_i32_3425 : BitVec 32 := 256#32
  let v3023 : BitVec 32 := Scalar.muli v3022 c256_i32_3425
  let v3024 : BitVec 32 := Scalar.addi v3023 c0_i32_3426
  let v3025 : Index := Scalar.indexCast v3024
  let c0_3427 : Index := 0#32
  ![v3025.toNat, 0]
def k0_off5_at (r : Fin 4) : BitVec 32 × BitVec 32 :=
  if r.val < 2 then
    if r.val < 1 then
      (1#32, 0#32)
    else
      (4294967295#32, 128#32)
  else
    if r.val < 3 then
      (1#32, 64#32)
    else
      (4294967295#32, 192#32)
def k0_dev123 (d0 : Dev nD) : Nat :=
  let c0_i32_3484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3483 : BitVec 32 := 1#32
  let v3124 : BitVec 32 := Scalar.muli v7 c1_i32_3483
  let v3125 : BitVec 32 := Scalar.addi c0_i32_3484 v3124
  v3125.toNat
def k0_dev124 (d0 : Dev nD) : Nat :=
  let c0_i32_3493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3492 : BitVec 32 := 1#32
  let v3132 : BitVec 32 := Scalar.muli v5 c1_i32_3492
  let v3133 : BitVec 32 := Scalar.addi c0_i32_3493 v3132
  v3133.toNat
def k0_dev125 (d0 : Dev nD) : Nat :=
  let c0_i32_3502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3501 : BitVec 32 := 1#32
  let v3140 : BitVec 32 := Scalar.muli v7 c1_i32_3501
  let v3141 : BitVec 32 := Scalar.addi c0_i32_3502 v3140
  v3141.toNat
def k0_dev126 (d0 : Dev nD) : Nat :=
  let c0_i32_3511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3510 : BitVec 32 := 1#32
  let v3148 : BitVec 32 := Scalar.muli v5 c1_i32_3510
  let v3149 : BitVec 32 := Scalar.addi c0_i32_3511 v3148
  v3149.toNat
def k0_dev127 (d0 : Dev nD) : Nat :=
  let c0_i32_3530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3529 : BitVec 32 := 1#32
  let v3162 : BitVec 32 := Scalar.muli v7 c1_i32_3529
  let v3163 : BitVec 32 := Scalar.addi c0_i32_3530 v3162
  v3163.toNat
def k0_dev128 (d0 : Dev nD) : Nat :=
  let c0_i32_3554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3553 : BitVec 32 := 1#32
  let v3186 : BitVec 32 := Scalar.muli v5 c1_i32_3553
  let v3187 : BitVec 32 := Scalar.addi c0_i32_3554 v3186
  v3187.toNat
def k0_dev129 (d0 : Dev nD) : Nat :=
  let c0_i32_3571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3570 : BitVec 32 := 1#32
  let v3194 : BitVec 32 := Scalar.muli v5 c1_i32_3570
  let v3195 : BitVec 32 := Scalar.addi c0_i32_3571 v3194
  v3195.toNat
def k0_dev130 (d0 : Dev nD) : Nat :=
  let c0_i32_3595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3594 : BitVec 32 := 1#32
  let v3218 : BitVec 32 := Scalar.muli v7 c1_i32_3594
  let v3219 : BitVec 32 := Scalar.addi c0_i32_3595 v3218
  v3219.toNat
def k0_dev131 (d0 : Dev nD) : Nat :=
  let c0_i32_3612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3611 : BitVec 32 := 1#32
  let v3226 : BitVec 32 := Scalar.muli v7 c1_i32_3611
  let v3227 : BitVec 32 := Scalar.addi c0_i32_3612 v3226
  v3227.toNat
def k0_dev132 (d0 : Dev nD) : Nat :=
  let c0_i32_3636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3635 : BitVec 32 := 1#32
  let v3250 : BitVec 32 := Scalar.muli v5 c1_i32_3635
  let v3251 : BitVec 32 := Scalar.addi c0_i32_3636 v3250
  v3251.toNat
def k0_dev133 (d0 : Dev nD) : Nat :=
  let c0_i32_3653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3652 : BitVec 32 := 1#32
  let v3258 : BitVec 32 := Scalar.muli v5 c1_i32_3652
  let v3259 : BitVec 32 := Scalar.addi c0_i32_3653 v3258
  v3259.toNat
def k0_dev134 (d0 : Dev nD) : Nat :=
  let c0_i32_3677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3676 : BitVec 32 := 1#32
  let v3282 : BitVec 32 := Scalar.muli v7 c1_i32_3676
  let v3283 : BitVec 32 := Scalar.addi c0_i32_3677 v3282
  v3283.toNat
def k0_dev135 (d0 : Dev nD) : Nat :=
  let c0_i32_3697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3696 : BitVec 32 := 1#32
  let v3292 : BitVec 32 := Scalar.muli v7 c1_i32_3696
  let v3293 : BitVec 32 := Scalar.addi c0_i32_3697 v3292
  v3293.toNat
def k0_dev136 (d0 : Dev nD) : Nat :=
  let c0_i32_3724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3723 : BitVec 32 := 1#32
  let v3318 : BitVec 32 := Scalar.muli v5 c1_i32_3723
  let v3319 : BitVec 32 := Scalar.addi c0_i32_3724 v3318
  v3319.toNat
def k0_dev137 (d0 : Dev nD) : Nat :=
  let c0_i32_3744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3743 : BitVec 32 := 1#32
  let v3328 : BitVec 32 := Scalar.muli v5 c1_i32_3743
  let v3329 : BitVec 32 := Scalar.addi c0_i32_3744 v3328
  v3329.toNat
def k0_dev138 (d0 : Dev nD) : Nat :=
  let c0_i32_3771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3770 : BitVec 32 := 1#32
  let v3354 : BitVec 32 := Scalar.muli v7 c1_i32_3770
  let v3355 : BitVec 32 := Scalar.addi c0_i32_3771 v3354
  v3355.toNat
def k0_dev139 (d0 : Dev nD) : Nat :=
  let c0_i32_3791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3790 : BitVec 32 := 1#32
  let v3364 : BitVec 32 := Scalar.muli v7 c1_i32_3790
  let v3365 : BitVec 32 := Scalar.addi c0_i32_3791 v3364
  v3365.toNat
def k0_dev140 (d0 : Dev nD) : Nat :=
  let c0_i32_3818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3817 : BitVec 32 := 1#32
  let v3390 : BitVec 32 := Scalar.muli v5 c1_i32_3817
  let v3391 : BitVec 32 := Scalar.addi c0_i32_3818 v3390
  v3391.toNat
def k0_dev141 (d0 : Dev nD) : Nat :=
  let c0_i32_3838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3837 : BitVec 32 := 1#32
  let v3400 : BitVec 32 := Scalar.muli v5 c1_i32_3837
  let v3401 : BitVec 32 := Scalar.addi c0_i32_3838 v3400
  v3401.toNat
def k0_dev142 (d0 : Dev nD) : Nat :=
  let c0_i32_3865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3864 : BitVec 32 := 1#32
  let v3426 : BitVec 32 := Scalar.muli v7 c1_i32_3864
  let v3427 : BitVec 32 := Scalar.addi c0_i32_3865 v3426
  v3427.toNat
def k0_dev143 (d0 : Dev nD) : Nat :=
  let c0_i32_3887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3886 : BitVec 32 := 1#32
  let v3436 : BitVec 32 := Scalar.muli v7 c1_i32_3886
  let v3437 : BitVec 32 := Scalar.addi c0_i32_3887 v3436
  v3437.toNat
def k0_dev144 (d0 : Dev nD) : Nat :=
  let c0_i32_3914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3913 : BitVec 32 := 1#32
  let v3462 : BitVec 32 := Scalar.muli v5 c1_i32_3913
  let v3463 : BitVec 32 := Scalar.addi c0_i32_3914 v3462
  v3463.toNat
def k0_dev145 (d0 : Dev nD) : Nat :=
  let c0_i32_3936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3935 : BitVec 32 := 1#32
  let v3472 : BitVec 32 := Scalar.muli v5 c1_i32_3935
  let v3473 : BitVec 32 := Scalar.addi c0_i32_3936 v3472
  v3473.toNat
def k0_dev146 (d0 : Dev nD) : Nat :=
  let c0_i32_3963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3962 : BitVec 32 := 1#32
  let v3498 : BitVec 32 := Scalar.muli v7 c1_i32_3962
  let v3499 : BitVec 32 := Scalar.addi c0_i32_3963 v3498
  v3499.toNat
def k0_dev147 (d0 : Dev nD) : Nat :=
  let c0_i32_3985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3984 : BitVec 32 := 1#32
  let v3508 : BitVec 32 := Scalar.muli v7 c1_i32_3984
  let v3509 : BitVec 32 := Scalar.addi c0_i32_3985 v3508
  v3509.toNat
def k0_dev148 (d0 : Dev nD) : Nat :=
  let c0_i32_4012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4011 : BitVec 32 := 1#32
  let v3534 : BitVec 32 := Scalar.muli v5 c1_i32_4011
  let v3535 : BitVec 32 := Scalar.addi c0_i32_4012 v3534
  v3535.toNat
def k0_dev149 (d0 : Dev nD) : Nat :=
  let c0_i32_4034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4033 : BitVec 32 := 1#32
  let v3544 : BitVec 32 := Scalar.muli v5 c1_i32_4033
  let v3545 : BitVec 32 := Scalar.addi c0_i32_4034 v3544
  v3545.toNat
def k0_dev150 (d0 : Dev nD) : Nat :=
  let c0_i32_4061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4060 : BitVec 32 := 1#32
  let v3570 : BitVec 32 := Scalar.muli v7 c1_i32_4060
  let v3571 : BitVec 32 := Scalar.addi c0_i32_4061 v3570
  v3571.toNat
def k0_dev151 (d0 : Dev nD) : Nat :=
  let c0_i32_4083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4082 : BitVec 32 := 1#32
  let v3580 : BitVec 32 := Scalar.muli v7 c1_i32_4082
  let v3581 : BitVec 32 := Scalar.addi c0_i32_4083 v3580
  v3581.toNat
def k0_dev152 (d0 : Dev nD) : Nat :=
  let c0_i32_4110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4109 : BitVec 32 := 1#32
  let v3606 : BitVec 32 := Scalar.muli v5 c1_i32_4109
  let v3607 : BitVec 32 := Scalar.addi c0_i32_4110 v3606
  v3607.toNat
def k0_dev153 (d0 : Dev nD) : Nat :=
  let c0_i32_4132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4131 : BitVec 32 := 1#32
  let v3616 : BitVec 32 := Scalar.muli v5 c1_i32_4131
  let v3617 : BitVec 32 := Scalar.addi c0_i32_4132 v3616
  v3617.toNat
def k0_dev154 (d0 : Dev nD) : Nat :=
  let c0_i32_4159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4158 : BitVec 32 := 1#32
  let v3642 : BitVec 32 := Scalar.muli v7 c1_i32_4158
  let v3643 : BitVec 32 := Scalar.addi c0_i32_4159 v3642
  v3643.toNat
def k0_dev155 (d0 : Dev nD) : Nat :=
  let c0_i32_4181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4180 : BitVec 32 := 1#32
  let v3652 : BitVec 32 := Scalar.muli v7 c1_i32_4180
  let v3653 : BitVec 32 := Scalar.addi c0_i32_4181 v3652
  v3653.toNat
def k0_dev156 (d0 : Dev nD) : Nat :=
  let c0_i32_4208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4207 : BitVec 32 := 1#32
  let v3678 : BitVec 32 := Scalar.muli v5 c1_i32_4207
  let v3679 : BitVec 32 := Scalar.addi c0_i32_4208 v3678
  v3679.toNat
def k0_dev157 (d0 : Dev nD) : Nat :=
  let c0_i32_4230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4229 : BitVec 32 := 1#32
  let v3688 : BitVec 32 := Scalar.muli v5 c1_i32_4229
  let v3689 : BitVec 32 := Scalar.addi c0_i32_4230 v3688
  v3689.toNat
def k0_dev158 (d0 : Dev nD) : Nat :=
  let c0_i32_4257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4256 : BitVec 32 := 1#32
  let v3714 : BitVec 32 := Scalar.muli v7 c1_i32_4256
  let v3715 : BitVec 32 := Scalar.addi c0_i32_4257 v3714
  v3715.toNat
def k0_dev159 (d0 : Dev nD) : Nat :=
  let c0_i32_4279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4278 : BitVec 32 := 1#32
  let v3724 : BitVec 32 := Scalar.muli v7 c1_i32_4278
  let v3725 : BitVec 32 := Scalar.addi c0_i32_4279 v3724
  v3725.toNat
def k0_dev160 (d0 : Dev nD) : Nat :=
  let c0_i32_4306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4305 : BitVec 32 := 1#32
  let v3750 : BitVec 32 := Scalar.muli v5 c1_i32_4305
  let v3751 : BitVec 32 := Scalar.addi c0_i32_4306 v3750
  v3751.toNat
def k0_dev161 (d0 : Dev nD) : Nat :=
  let c0_i32_4328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4327 : BitVec 32 := 1#32
  let v3760 : BitVec 32 := Scalar.muli v5 c1_i32_4327
  let v3761 : BitVec 32 := Scalar.addi c0_i32_4328 v3760
  v3761.toNat
def k0_dev162 (d0 : Dev nD) : Nat :=
  let c0_i32_4355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4354 : BitVec 32 := 1#32
  let v3786 : BitVec 32 := Scalar.muli v7 c1_i32_4354
  let v3787 : BitVec 32 := Scalar.addi c0_i32_4355 v3786
  v3787.toNat
def k0_dev163 (d0 : Dev nD) : Nat :=
  let c0_i32_4377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4376 : BitVec 32 := 1#32
  let v3796 : BitVec 32 := Scalar.muli v7 c1_i32_4376
  let v3797 : BitVec 32 := Scalar.addi c0_i32_4377 v3796
  v3797.toNat
def k0_dev164 (d0 : Dev nD) : Nat :=
  let c0_i32_4404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4403 : BitVec 32 := 1#32
  let v3822 : BitVec 32 := Scalar.muli v5 c1_i32_4403
  let v3823 : BitVec 32 := Scalar.addi c0_i32_4404 v3822
  v3823.toNat
def k0_dev165 (d0 : Dev nD) : Nat :=
  let c0_i32_4426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4425 : BitVec 32 := 1#32
  let v3832 : BitVec 32 := Scalar.muli v5 c1_i32_4425
  let v3833 : BitVec 32 := Scalar.addi c0_i32_4426 v3832
  v3833.toNat
def k0_dev166 (d0 : Dev nD) : Nat :=
  let c0_i32_4453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4452 : BitVec 32 := 1#32
  let v3858 : BitVec 32 := Scalar.muli v7 c1_i32_4452
  let v3859 : BitVec 32 := Scalar.addi c0_i32_4453 v3858
  v3859.toNat
def k0_dev167 (d0 : Dev nD) : Nat :=
  let c0_i32_4475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4474 : BitVec 32 := 1#32
  let v3868 : BitVec 32 := Scalar.muli v7 c1_i32_4474
  let v3869 : BitVec 32 := Scalar.addi c0_i32_4475 v3868
  v3869.toNat
def k0_dev168 (d0 : Dev nD) : Nat :=
  let c0_i32_4502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4501 : BitVec 32 := 1#32
  let v3894 : BitVec 32 := Scalar.muli v5 c1_i32_4501
  let v3895 : BitVec 32 := Scalar.addi c0_i32_4502 v3894
  v3895.toNat
def k0_dev169 (d0 : Dev nD) : Nat :=
  let c0_i32_4524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4523 : BitVec 32 := 1#32
  let v3904 : BitVec 32 := Scalar.muli v5 c1_i32_4523
  let v3905 : BitVec 32 := Scalar.addi c0_i32_4524 v3904
  v3905.toNat
def k0_dev170 (d0 : Dev nD) : Nat :=
  let c0_i32_4551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4550 : BitVec 32 := 1#32
  let v3930 : BitVec 32 := Scalar.muli v7 c1_i32_4550
  let v3931 : BitVec 32 := Scalar.addi c0_i32_4551 v3930
  v3931.toNat
def k0_dev171 (d0 : Dev nD) : Nat :=
  let c0_i32_4573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4572 : BitVec 32 := 1#32
  let v3940 : BitVec 32 := Scalar.muli v7 c1_i32_4572
  let v3941 : BitVec 32 := Scalar.addi c0_i32_4573 v3940
  v3941.toNat
def k0_dev172 (d0 : Dev nD) : Nat :=
  let c0_i32_4600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4599 : BitVec 32 := 1#32
  let v3966 : BitVec 32 := Scalar.muli v5 c1_i32_4599
  let v3967 : BitVec 32 := Scalar.addi c0_i32_4600 v3966
  v3967.toNat
def k0_dev173 (d0 : Dev nD) : Nat :=
  let c0_i32_4622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4621 : BitVec 32 := 1#32
  let v3976 : BitVec 32 := Scalar.muli v5 c1_i32_4621
  let v3977 : BitVec 32 := Scalar.addi c0_i32_4622 v3976
  v3977.toNat
def k0_dev174 (d0 : Dev nD) : Nat :=
  let c0_i32_4649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4648 : BitVec 32 := 1#32
  let v4002 : BitVec 32 := Scalar.muli v7 c1_i32_4648
  let v4003 : BitVec 32 := Scalar.addi c0_i32_4649 v4002
  v4003.toNat
def k0_dev175 (d0 : Dev nD) : Nat :=
  let c0_i32_4671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4670 : BitVec 32 := 1#32
  let v4012 : BitVec 32 := Scalar.muli v7 c1_i32_4670
  let v4013 : BitVec 32 := Scalar.addi c0_i32_4671 v4012
  v4013.toNat
def k0_dev176 (d0 : Dev nD) : Nat :=
  let c0_i32_4698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4697 : BitVec 32 := 1#32
  let v4038 : BitVec 32 := Scalar.muli v5 c1_i32_4697
  let v4039 : BitVec 32 := Scalar.addi c0_i32_4698 v4038
  v4039.toNat
def k0_dev177 (d0 : Dev nD) : Nat :=
  let c0_i32_4720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4719 : BitVec 32 := 1#32
  let v4048 : BitVec 32 := Scalar.muli v5 c1_i32_4719
  let v4049 : BitVec 32 := Scalar.addi c0_i32_4720 v4048
  v4049.toNat
def k0_dev178 (d0 : Dev nD) : Nat :=
  let c0_i32_4747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4746 : BitVec 32 := 1#32
  let v4074 : BitVec 32 := Scalar.muli v7 c1_i32_4746
  let v4075 : BitVec 32 := Scalar.addi c0_i32_4747 v4074
  v4075.toNat
def k0_dev179 (d0 : Dev nD) : Nat :=
  let c0_i32_4769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4768 : BitVec 32 := 1#32
  let v4084 : BitVec 32 := Scalar.muli v7 c1_i32_4768
  let v4085 : BitVec 32 := Scalar.addi c0_i32_4769 v4084
  v4085.toNat
def k0_dev180 (d0 : Dev nD) : Nat :=
  let c0_i32_4796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4795 : BitVec 32 := 1#32
  let v4110 : BitVec 32 := Scalar.muli v5 c1_i32_4795
  let v4111 : BitVec 32 := Scalar.addi c0_i32_4796 v4110
  v4111.toNat
def k0_dev181 (d0 : Dev nD) : Nat :=
  let c0_i32_4818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4817 : BitVec 32 := 1#32
  let v4120 : BitVec 32 := Scalar.muli v5 c1_i32_4817
  let v4121 : BitVec 32 := Scalar.addi c0_i32_4818 v4120
  v4121.toNat
def k0_dev182 (d0 : Dev nD) : Nat :=
  let c0_i32_4845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4844 : BitVec 32 := 1#32
  let v4146 : BitVec 32 := Scalar.muli v7 c1_i32_4844
  let v4147 : BitVec 32 := Scalar.addi c0_i32_4845 v4146
  v4147.toNat
def k0_dev183 (d0 : Dev nD) : Nat :=
  let c0_i32_4867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4866 : BitVec 32 := 1#32
  let v4156 : BitVec 32 := Scalar.muli v7 c1_i32_4866
  let v4157 : BitVec 32 := Scalar.addi c0_i32_4867 v4156
  v4157.toNat
def k0_dev184 (d0 : Dev nD) : Nat :=
  let c0_i32_4894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4893 : BitVec 32 := 1#32
  let v4182 : BitVec 32 := Scalar.muli v5 c1_i32_4893
  let v4183 : BitVec 32 := Scalar.addi c0_i32_4894 v4182
  v4183.toNat
def k0_dev185 (d0 : Dev nD) : Nat :=
  let c0_i32_4916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4915 : BitVec 32 := 1#32
  let v4192 : BitVec 32 := Scalar.muli v5 c1_i32_4915
  let v4193 : BitVec 32 := Scalar.addi c0_i32_4916 v4192
  v4193.toNat
def k0_dev186 (d0 : Dev nD) : Nat :=
  let c0_i32_4943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4942 : BitVec 32 := 1#32
  let v4218 : BitVec 32 := Scalar.muli v7 c1_i32_4942
  let v4219 : BitVec 32 := Scalar.addi c0_i32_4943 v4218
  v4219.toNat
def k0_dev187 (d0 : Dev nD) : Nat :=
  let c0_i32_4965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4964 : BitVec 32 := 1#32
  let v4228 : BitVec 32 := Scalar.muli v7 c1_i32_4964
  let v4229 : BitVec 32 := Scalar.addi c0_i32_4965 v4228
  v4229.toNat
def k0_dev188 (d0 : Dev nD) : Nat :=
  let c0_i32_4992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4991 : BitVec 32 := 1#32
  let v4254 : BitVec 32 := Scalar.muli v5 c1_i32_4991
  let v4255 : BitVec 32 := Scalar.addi c0_i32_4992 v4254
  v4255.toNat
def k0_dev189 (d0 : Dev nD) : Nat :=
  let c0_i32_5014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5013 : BitVec 32 := 1#32
  let v4264 : BitVec 32 := Scalar.muli v5 c1_i32_5013
  let v4265 : BitVec 32 := Scalar.addi c0_i32_5014 v4264
  v4265.toNat
def k0_dev190 (d0 : Dev nD) : Nat :=
  let c0_i32_5041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5040 : BitVec 32 := 1#32
  let v4290 : BitVec 32 := Scalar.muli v7 c1_i32_5040
  let v4291 : BitVec 32 := Scalar.addi c0_i32_5041 v4290
  v4291.toNat
def k0_dev191 (d0 : Dev nD) : Nat :=
  let c0_i32_5063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5062 : BitVec 32 := 1#32
  let v4300 : BitVec 32 := Scalar.muli v7 c1_i32_5062
  let v4301 : BitVec 32 := Scalar.addi c0_i32_5063 v4300
  v4301.toNat
def k0_dev192 (d0 : Dev nD) : Nat :=
  let c0_i32_5090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5089 : BitVec 32 := 1#32
  let v4326 : BitVec 32 := Scalar.muli v5 c1_i32_5089
  let v4327 : BitVec 32 := Scalar.addi c0_i32_5090 v4326
  v4327.toNat
def k0_dev193 (d0 : Dev nD) : Nat :=
  let c0_i32_5112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5111 : BitVec 32 := 1#32
  let v4336 : BitVec 32 := Scalar.muli v5 c1_i32_5111
  let v4337 : BitVec 32 := Scalar.addi c0_i32_5112 v4336
  v4337.toNat
def k0_dev194 (d0 : Dev nD) : Nat :=
  let c0_i32_5139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5138 : BitVec 32 := 1#32
  let v4362 : BitVec 32 := Scalar.muli v7 c1_i32_5138
  let v4363 : BitVec 32 := Scalar.addi c0_i32_5139 v4362
  v4363.toNat
def k0_dev195 (d0 : Dev nD) : Nat :=
  let c0_i32_5161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5160 : BitVec 32 := 1#32
  let v4372 : BitVec 32 := Scalar.muli v7 c1_i32_5160
  let v4373 : BitVec 32 := Scalar.addi c0_i32_5161 v4372
  v4373.toNat
def k0_dev196 (d0 : Dev nD) : Nat :=
  let c0_i32_5188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5187 : BitVec 32 := 1#32
  let v4398 : BitVec 32 := Scalar.muli v5 c1_i32_5187
  let v4399 : BitVec 32 := Scalar.addi c0_i32_5188 v4398
  v4399.toNat
def k0_dev197 (d0 : Dev nD) : Nat :=
  let c0_i32_5210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5209 : BitVec 32 := 1#32
  let v4408 : BitVec 32 := Scalar.muli v5 c1_i32_5209
  let v4409 : BitVec 32 := Scalar.addi c0_i32_5210 v4408
  v4409.toNat
def k0_dev198 (d0 : Dev nD) : Nat :=
  let c0_i32_5237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5236 : BitVec 32 := 1#32
  let v4434 : BitVec 32 := Scalar.muli v7 c1_i32_5236
  let v4435 : BitVec 32 := Scalar.addi c0_i32_5237 v4434
  v4435.toNat
def k0_dev199 (d0 : Dev nD) : Nat :=
  let c0_i32_5259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5258 : BitVec 32 := 1#32
  let v4444 : BitVec 32 := Scalar.muli v7 c1_i32_5258
  let v4445 : BitVec 32 := Scalar.addi c0_i32_5259 v4444
  v4445.toNat
def k0_dev200 (d0 : Dev nD) : Nat :=
  let c0_i32_5286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5285 : BitVec 32 := 1#32
  let v4470 : BitVec 32 := Scalar.muli v5 c1_i32_5285
  let v4471 : BitVec 32 := Scalar.addi c0_i32_5286 v4470
  v4471.toNat
def k0_dev201 (d0 : Dev nD) : Nat :=
  let c0_i32_5308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5307 : BitVec 32 := 1#32
  let v4480 : BitVec 32 := Scalar.muli v5 c1_i32_5307
  let v4481 : BitVec 32 := Scalar.addi c0_i32_5308 v4480
  v4481.toNat
def k0_dev202 (d0 : Dev nD) : Nat :=
  let c0_i32_5335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5334 : BitVec 32 := 1#32
  let v4506 : BitVec 32 := Scalar.muli v7 c1_i32_5334
  let v4507 : BitVec 32 := Scalar.addi c0_i32_5335 v4506
  v4507.toNat
def k0_dev203 (d0 : Dev nD) : Nat :=
  let c0_i32_5357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5356 : BitVec 32 := 1#32
  let v4516 : BitVec 32 := Scalar.muli v7 c1_i32_5356
  let v4517 : BitVec 32 := Scalar.addi c0_i32_5357 v4516
  v4517.toNat
def k0_dev204 (d0 : Dev nD) : Nat :=
  let c0_i32_5384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5383 : BitVec 32 := 1#32
  let v4542 : BitVec 32 := Scalar.muli v5 c1_i32_5383
  let v4543 : BitVec 32 := Scalar.addi c0_i32_5384 v4542
  v4543.toNat
def k0_dev205 (d0 : Dev nD) : Nat :=
  let c0_i32_5406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5405 : BitVec 32 := 1#32
  let v4552 : BitVec 32 := Scalar.muli v5 c1_i32_5405
  let v4553 : BitVec 32 := Scalar.addi c0_i32_5406 v4552
  v4553.toNat
def k0_dev206 (d0 : Dev nD) : Nat :=
  let c0_i32_5433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5432 : BitVec 32 := 1#32
  let v4578 : BitVec 32 := Scalar.muli v7 c1_i32_5432
  let v4579 : BitVec 32 := Scalar.addi c0_i32_5433 v4578
  v4579.toNat
def k0_dev207 (d0 : Dev nD) : Nat :=
  let c0_i32_5455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5454 : BitVec 32 := 1#32
  let v4588 : BitVec 32 := Scalar.muli v7 c1_i32_5454
  let v4589 : BitVec 32 := Scalar.addi c0_i32_5455 v4588
  v4589.toNat
def k0_dev208 (d0 : Dev nD) : Nat :=
  let c0_i32_5482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5481 : BitVec 32 := 1#32
  let v4614 : BitVec 32 := Scalar.muli v5 c1_i32_5481
  let v4615 : BitVec 32 := Scalar.addi c0_i32_5482 v4614
  v4615.toNat
def k0_dev209 (d0 : Dev nD) : Nat :=
  let c0_i32_5504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5503 : BitVec 32 := 1#32
  let v4624 : BitVec 32 := Scalar.muli v5 c1_i32_5503
  let v4625 : BitVec 32 := Scalar.addi c0_i32_5504 v4624
  v4625.toNat
def k0_dev210 (d0 : Dev nD) : Nat :=
  let c0_i32_5531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5530 : BitVec 32 := 1#32
  let v4650 : BitVec 32 := Scalar.muli v7 c1_i32_5530
  let v4651 : BitVec 32 := Scalar.addi c0_i32_5531 v4650
  v4651.toNat
def k0_dev211 (d0 : Dev nD) : Nat :=
  let c0_i32_5553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5552 : BitVec 32 := 1#32
  let v4660 : BitVec 32 := Scalar.muli v7 c1_i32_5552
  let v4661 : BitVec 32 := Scalar.addi c0_i32_5553 v4660
  v4661.toNat
def k0_dev212 (d0 : Dev nD) : Nat :=
  let c0_i32_5580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5579 : BitVec 32 := 1#32
  let v4686 : BitVec 32 := Scalar.muli v5 c1_i32_5579
  let v4687 : BitVec 32 := Scalar.addi c0_i32_5580 v4686
  v4687.toNat
def k0_dev213 (d0 : Dev nD) : Nat :=
  let c0_i32_5602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5601 : BitVec 32 := 1#32
  let v4696 : BitVec 32 := Scalar.muli v5 c1_i32_5601
  let v4697 : BitVec 32 := Scalar.addi c0_i32_5602 v4696
  v4697.toNat
def k0_dev214 (d0 : Dev nD) : Nat :=
  let c0_i32_5629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5628 : BitVec 32 := 1#32
  let v4722 : BitVec 32 := Scalar.muli v7 c1_i32_5628
  let v4723 : BitVec 32 := Scalar.addi c0_i32_5629 v4722
  v4723.toNat
def k0_dev215 (d0 : Dev nD) : Nat :=
  let c0_i32_5651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5650 : BitVec 32 := 1#32
  let v4732 : BitVec 32 := Scalar.muli v7 c1_i32_5650
  let v4733 : BitVec 32 := Scalar.addi c0_i32_5651 v4732
  v4733.toNat
def k0_dev216 (d0 : Dev nD) : Nat :=
  let c0_i32_5678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5677 : BitVec 32 := 1#32
  let v4758 : BitVec 32 := Scalar.muli v5 c1_i32_5677
  let v4759 : BitVec 32 := Scalar.addi c0_i32_5678 v4758
  v4759.toNat
def k0_dev217 (d0 : Dev nD) : Nat :=
  let c0_i32_5700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5699 : BitVec 32 := 1#32
  let v4768 : BitVec 32 := Scalar.muli v5 c1_i32_5699
  let v4769 : BitVec 32 := Scalar.addi c0_i32_5700 v4768
  v4769.toNat
def k0_dev218 (d0 : Dev nD) : Nat :=
  let c0_i32_5727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5726 : BitVec 32 := 1#32
  let v4794 : BitVec 32 := Scalar.muli v7 c1_i32_5726
  let v4795 : BitVec 32 := Scalar.addi c0_i32_5727 v4794
  v4795.toNat
def k0_dev219 (d0 : Dev nD) : Nat :=
  let c0_i32_5749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5748 : BitVec 32 := 1#32
  let v4804 : BitVec 32 := Scalar.muli v7 c1_i32_5748
  let v4805 : BitVec 32 := Scalar.addi c0_i32_5749 v4804
  v4805.toNat
def k0_dev220 (d0 : Dev nD) : Nat :=
  let c0_i32_5776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5775 : BitVec 32 := 1#32
  let v4830 : BitVec 32 := Scalar.muli v5 c1_i32_5775
  let v4831 : BitVec 32 := Scalar.addi c0_i32_5776 v4830
  v4831.toNat
def k0_dev221 (d0 : Dev nD) : Nat :=
  let c0_i32_5798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5797 : BitVec 32 := 1#32
  let v4840 : BitVec 32 := Scalar.muli v5 c1_i32_5797
  let v4841 : BitVec 32 := Scalar.addi c0_i32_5798 v4840
  v4841.toNat
def k0_dev222 (d0 : Dev nD) : Nat :=
  let c0_i32_5825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5824 : BitVec 32 := 1#32
  let v4866 : BitVec 32 := Scalar.muli v7 c1_i32_5824
  let v4867 : BitVec 32 := Scalar.addi c0_i32_5825 v4866
  v4867.toNat
def k0_dev223 (d0 : Dev nD) : Nat :=
  let c0_i32_5847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5846 : BitVec 32 := 1#32
  let v4876 : BitVec 32 := Scalar.muli v7 c1_i32_5846
  let v4877 : BitVec 32 := Scalar.addi c0_i32_5847 v4876
  v4877.toNat
def k0_dev224 (d0 : Dev nD) : Nat :=
  let c0_i32_5874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5873 : BitVec 32 := 1#32
  let v4902 : BitVec 32 := Scalar.muli v5 c1_i32_5873
  let v4903 : BitVec 32 := Scalar.addi c0_i32_5874 v4902
  v4903.toNat
def k0_dev225 (d0 : Dev nD) : Nat :=
  let c0_i32_5896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5895 : BitVec 32 := 1#32
  let v4912 : BitVec 32 := Scalar.muli v5 c1_i32_5895
  let v4913 : BitVec 32 := Scalar.addi c0_i32_5896 v4912
  v4913.toNat
def k0_dev226 (d0 : Dev nD) : Nat :=
  let c0_i32_5923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5922 : BitVec 32 := 1#32
  let v4938 : BitVec 32 := Scalar.muli v7 c1_i32_5922
  let v4939 : BitVec 32 := Scalar.addi c0_i32_5923 v4938
  v4939.toNat
def k0_dev227 (d0 : Dev nD) : Nat :=
  let c0_i32_5945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5944 : BitVec 32 := 1#32
  let v4948 : BitVec 32 := Scalar.muli v7 c1_i32_5944
  let v4949 : BitVec 32 := Scalar.addi c0_i32_5945 v4948
  v4949.toNat
def k0_dev228 (d0 : Dev nD) : Nat :=
  let c0_i32_5972 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5971 : BitVec 32 := 1#32
  let v4974 : BitVec 32 := Scalar.muli v5 c1_i32_5971
  let v4975 : BitVec 32 := Scalar.addi c0_i32_5972 v4974
  v4975.toNat
def k0_dev229 (d0 : Dev nD) : Nat :=
  let c0_i32_5994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5993 : BitVec 32 := 1#32
  let v4984 : BitVec 32 := Scalar.muli v5 c1_i32_5993
  let v4985 : BitVec 32 := Scalar.addi c0_i32_5994 v4984
  v4985.toNat
def k0_dev230 (d0 : Dev nD) : Nat :=
  let c0_i32_6021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6020 : BitVec 32 := 1#32
  let v5010 : BitVec 32 := Scalar.muli v7 c1_i32_6020
  let v5011 : BitVec 32 := Scalar.addi c0_i32_6021 v5010
  v5011.toNat
def k0_dev231 (d0 : Dev nD) : Nat :=
  let c0_i32_6043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6042 : BitVec 32 := 1#32
  let v5020 : BitVec 32 := Scalar.muli v7 c1_i32_6042
  let v5021 : BitVec 32 := Scalar.addi c0_i32_6043 v5020
  v5021.toNat
def k0_dev232 (d0 : Dev nD) : Nat :=
  let c0_i32_6070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6069 : BitVec 32 := 1#32
  let v5046 : BitVec 32 := Scalar.muli v5 c1_i32_6069
  let v5047 : BitVec 32 := Scalar.addi c0_i32_6070 v5046
  v5047.toNat
def k0_dev233 (d0 : Dev nD) : Nat :=
  let c0_i32_6092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6091 : BitVec 32 := 1#32
  let v5056 : BitVec 32 := Scalar.muli v5 c1_i32_6091
  let v5057 : BitVec 32 := Scalar.addi c0_i32_6092 v5056
  v5057.toNat
def k0_dev234 (d0 : Dev nD) : Nat :=
  let c0_i32_6119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6118 : BitVec 32 := 1#32
  let v5082 : BitVec 32 := Scalar.muli v7 c1_i32_6118
  let v5083 : BitVec 32 := Scalar.addi c0_i32_6119 v5082
  v5083.toNat
def k0_dev235 (d0 : Dev nD) : Nat :=
  let c0_i32_6141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6140 : BitVec 32 := 1#32
  let v5092 : BitVec 32 := Scalar.muli v7 c1_i32_6140
  let v5093 : BitVec 32 := Scalar.addi c0_i32_6141 v5092
  v5093.toNat
def k0_dev236 (d0 : Dev nD) : Nat :=
  let c0_i32_6168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6167 : BitVec 32 := 1#32
  let v5118 : BitVec 32 := Scalar.muli v5 c1_i32_6167
  let v5119 : BitVec 32 := Scalar.addi c0_i32_6168 v5118
  v5119.toNat
def k0_dev237 (d0 : Dev nD) : Nat :=
  let c0_i32_6190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6189 : BitVec 32 := 1#32
  let v5128 : BitVec 32 := Scalar.muli v5 c1_i32_6189
  let v5129 : BitVec 32 := Scalar.addi c0_i32_6190 v5128
  v5129.toNat
def k0_dev238 (d0 : Dev nD) : Nat :=
  let c0_i32_6217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6216 : BitVec 32 := 1#32
  let v5154 : BitVec 32 := Scalar.muli v7 c1_i32_6216
  let v5155 : BitVec 32 := Scalar.addi c0_i32_6217 v5154
  v5155.toNat
def k0_dev239 (d0 : Dev nD) : Nat :=
  let c0_i32_6252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6251 : BitVec 32 := 1#32
  let v5180 : BitVec 32 := Scalar.muli v5 c1_i32_6251
  let v5181 : BitVec 32 := Scalar.addi c0_i32_6252 v5180
  v5181.toNat
def k0_dev240 (d0 : Dev nD) : Nat :=
  let c0_i32_6287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6286 : BitVec 32 := 1#32
  let v5206 : BitVec 32 := Scalar.muli v7 c1_i32_6286
  let v5207 : BitVec 32 := Scalar.addi c0_i32_6287 v5206
  v5207.toNat
def k0_dev241 (d0 : Dev nD) : Nat :=
  let c0_i32_6322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6321 : BitVec 32 := 1#32
  let v5232 : BitVec 32 := Scalar.muli v5 c1_i32_6321
  let v5233 : BitVec 32 := Scalar.addi c0_i32_6322 v5232
  v5233.toNat
def k0_dev242 (d0 : Dev nD) : Nat :=
  let c0_i32_6357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6356 : BitVec 32 := 1#32
  let v5258 : BitVec 32 := Scalar.muli v7 c1_i32_6356
  let v5259 : BitVec 32 := Scalar.addi c0_i32_6357 v5258
  v5259.toNat
abbrev stage0_0 : Fin 1 → Memref sig .tc .vmem S4096x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.ProgEq.lean ====
/- The printed body is the sequence of steps of Prog.lean. -/
module

public import proofs.«01_k».proof.Proof.Prog

@[expose] public section

noncomputable section

namespace Cert.Kernel.Proof

open Idealize.ShloMosaic Idealize.SL.Sem
open Cert.Kernel Cert.Kernel.Gen

variable {F : FTy → Type} [FloatOps F]

theorem body_eq (A : Args) :
    cc0_body (F := F) A.x A.hx A.w A.hw A.sx A.hsx A.sw A.hsw A.o A.ho
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) (Memref.whole cc0_scratch11) (Memref.isWhole_whole _)
      cc0_scratch12 cc0_scratch13 cc0_scratch14 cc0_scratch15 cc0_scratch16 cc0_scratch17 cc0_scratch18 cc0_scratch19
    = .op .deviceId fun d => bodyP A d := by
  chain_rfl

end Cert.Kernel.Proof
-- ==== Proof.Ideal.Prog.lean ====
/- The kernel's body as a sequence of steps, each a function of the ring and of the step's number.
   There are four rings: a device's block of 256 rows is cut in four bands of 64 rows, and band `i` of every block
   travels on ring `i`, rings 0 and 1 to the right (device + 1), rings 2 and 3 to the left. -/
module

public import proofs.«01_k».proof.Proof.Gen.KernelIdeal
public import Idealize.ShloMosaic.Lib.Pipeline.Regions

@[expose] public section

noncomputable section

namespace Cert.KernelIdeal.Proof

open Idealize.ShloMosaic Idealize.SL.Sem
open Cert.KernelIdeal Cert.KernelIdeal.Gen

variable {F : FTy → Type} [FloatOps F]

/-! ## The buffers of ring `i` -/

/-- The buffer its messages arrive in, four slots. -/
def comm : Fin 4 → Memref sig .tc .vmem S4x64x2048 .bf16
  | 0 => Memref.whole cc0_scratch0 | 1 => Memref.whole cc0_scratch1
  | 2 => Memref.whole cc0_scratch2 | 3 => Memref.whole cc0_scratch3
/-- The buffer its partial sums are sent from, four slots. -/
def outb : Fin 4 → Memref sig .tc .vmem S4x64x2048 .bf16
  | 0 => Memref.whole cc0_scratch4 | 1 => Memref.whole cc0_scratch5
  | 2 => Memref.whole cc0_scratch6 | 3 => Memref.whole cc0_scratch7
/-- The band of the result this device completes. -/
def own : Fin 4 → Memref sig .tc .vmem S64x2048 .bf16
  | 0 => Memref.whole cc0_scratch8 | 1 => Memref.whole cc0_scratch9
  | 2 => Memref.whole cc0_scratch10 | 3 => Memref.whole cc0_scratch11
/-- Its DMA semaphores: row 0 for the sender, row 1 for the receiver, a column per slot. -/
def sems : Fin 4 → DmaSems sig S2x4
  | 0 => cc0_scratch12 | 1 => cc0_scratch13 | 2 => cc0_scratch14 | 3 => cc0_scratch15
/-- The semaphore by which the reader of its slots tells the sender that it goes on. -/
def credit : Fin 4 → Sems sig S_
  | 0 => cc0_scratch16 | 1 => cc0_scratch17 | 2 => cc0_scratch18 | 3 => cc0_scratch19

theorem comm_whole (i : Fin 4) : (comm i).IsWhole := by
  fin_cases i <;> exact Memref.isWhole_whole _
theorem outb_whole (i : Fin 4) : (outb i).IsWhole := by
  fin_cases i <;> exact Memref.isWhole_whole _
theorem own_whole (i : Fin 4) : (own i).IsWhole := by
  fin_cases i <;> exact Memref.isWhole_whole _

theorem inb_slot (j : Fin 4) : ∀ a, (![j.val, 0, 0] : Fin 3 → Nat) a + S1x64x2048.size a ≤ S4x64x2048.size a := by
  fin_cases j <;> decide
theorem inb_sem0 (j : Fin 4) : ∀ a, (![0, j.val] : Fin 2 → Nat) a + S1x1.size a ≤ S2x4.size a := by
  fin_cases j <;> decide
theorem inb_sem1 (j : Fin 4) : ∀ a, (![1, j.val] : Fin 2 → Nat) a + S1x1.size a ≤ S2x4.size a := by
  fin_cases j <;> decide

/-- The box of slot `j`. -/
abbrev slotR (j : Fin 4) : Rect S4x64x2048 := Rect.unit (s := S4x64x2048) ![j.val, 0, 0] S1x64x2048.size (inb_slot j)

theorem words_slot (j : Fin 4) : (slotR j).WholeWords (EltTy.packing .bf16) := by
  fin_cases j <;> decide
theorem packed_slot (j : Fin 4) : (slotR j).PackedRows (EltTy.packing .bf16) := by
  fin_cases j <;> decide

/-- Slot `j` of a four-slot buffer. -/
abbrev slot (m : Memref sig .tc .vmem S4x64x2048 .bf16) (j : Fin 4) : Memref sig .tc .vmem S64x2048 .bf16 :=
  (m.slice (slotR j) (fun _ => rfl)).squeeze S64x2048 squeezes_S1x64x2048_S64x2048

theorem slot_words {m : Memref sig .tc .vmem S4x64x2048 .bf16} (h : m.IsWhole) (j : Fin 4) : (slot m j).view.WordExact :=
  (h.wordExact_slice rfl _ (words_slot j)).reshape _ _

/-- The DMA semaphore of a send from slot `j`, and of an arrival in slot `j`. -/
abbrev sndS (i j : Fin 4) : DmaSem sig :=
  (((sems i).slice (Rect.unit (s := S2x4) ![0, j.val] S1x1.size (inb_sem0 j))).squeeze S_ squeezes_S1x1_S_).sem
abbrev rcvS (i j : Fin 4) : DmaSem sig :=
  (((sems i).slice (Rect.unit (s := S2x4) ![1, j.val] S1x1.size (inb_sem1 j))).squeeze S_ squeezes_S1x1_S_).sem
abbrev credS (i : Fin 4) : Sem sig := (credit i).sem
abbrev barS : Sem sig := (SemArray.scalar (sig.barrier 0 rfl) : Sems sig S_).sem

/-- Slot number `t`, the slots being used in turn. -/
abbrev sl (t : Nat) : Fin 4 := ⟨t % 4, Nat.mod_lt _ (by decide)⟩

/-! ## The words and the neighbours -/

/-- The word of `n` steps along ring `i`'s direction, and of the band's first row. -/
def stepW (i : Fin 4) (n : Nat) : BitVec 32 := bif Nat.blt i.val 2 then BitVec.ofNat 32 n else BitVec.ofNat 32 ((4294967296 - n) % 4294967296)
def baseW (i : Fin 4) : BitVec 32 := BitVec.ofNat 32 (64 * i.val)

def leftD (d : Dev nD) : Dev nD := ⟨k0_dev1 d, k0_dev1_lt d⟩
def rightD (d : Dev nD) : Dev nD := ⟨k0_dev3 d, k0_dev3_lt d⟩
/-- The device ring `i` sends to, and the one it receives from. -/
def dnD (i : Fin 4) (d : Dev nD) : Dev nD := bif Nat.blt i.val 2 then rightD d else leftD d
def upD (i : Fin 4) (d : Dev nD) : Dev nD := bif Nat.blt i.val 2 then leftD d else rightD d

/-! ## The values computed -/

/-- A chunk of the product: 256 rows of the device's columns of `x` by its rows of `w`. -/
def gemmV (x : Vec F S256x256 .i8) (w : Vec F S256x2048 .i8) : FVec F S256x2048 .f32 :=
  sitofp .f32 (matmulI8 IntMxuNumerics.v7x dot_S256x256_S256x2048_S256x2048_1_0_0_1_n_n
    (shapeCast S256x256 x shapeCasts_S256x256_S256x256 : IVec S256x256 8)
    (shapeCast S256x2048 w shapeCasts_S256x2048_S256x2048 : IVec S256x2048 8) (constantI S256x2048 32 0#32))
/-- A band as it is sent. -/
def sendV (v : Vec F S64x2048 .f32) : FVec F S64x2048 .bf16 :=
  truncf .bf16 (shapeCast S64x2048 v shapeCasts_S64x2048_S64x2048 : FVec F S64x2048 .f32) bitsLt_bf16_f32
/-- A band as it is stored in a slot. -/
def packV (v : FVec F S64x2048 .bf16) : FVec F S1x64x2048 .bf16 := shapeCast S1x64x2048 v shapeCasts_S64x2048_S1x64x2048
/-- A slot's band, widened. -/
def unpackV (v : Vec F S1x64x2048 .bf16) : FVec F S64x2048 .f32 :=
  extf .f32 (shapeCast S64x2048 v shapeCasts_S1x64x2048_S64x2048 : FVec F S64x2048 .bf16) bitsLt_bf16_f32
/-- The device's part plus what arrived. -/
def accV (a : Vec F S64x2048 .f32) (v : Vec F S1x64x2048 .bf16) : FVec F S64x2048 .f32 :=
  addf (shapeCast S64x2048 a shapeCasts_S64x2048_S64x2048 : FVec F S64x2048 .f32) (unpackV v)
/-- The scaled and activated band. -/
def siluV (sx sw : F .f32) (a : Vec F S64x2048 .f32) : FVec F S64x2048 .f32 :=
  let y : FVec F S64x2048 .f32 := mulf (shapeCast S64x2048 a shapeCasts_S64x2048_S64x2048 : FVec F S64x2048 .f32)
    (broadcast S64x2048 (Scalar.mulf sx sw))
  mulf y (divf (broadcast S64x2048 (Scalar.ofBits .f32 0x3F800000#32))
    (addf (broadcast S64x2048 (Scalar.ofBits .f32 0x3F800000#32))
      (exp (subf (broadcast S64x2048 (Scalar.ofBits .f32 0x00000000#32)) y))))
/-- The activated band as it is sent on. -/
def ownV (a : FVec F S64x2048 .f32) : FVec F S64x2048 .bf16 :=
  shapeCast S64x2048 (truncf .bf16 a bitsLt_bf16_f32 : FVec F S64x2048 .bf16) shapeCasts_S64x2048_S64x2048

/-! ## The steps, each before the rest `K` of the program -/

/-- The kernel's five windows. -/
structure Args where
  x : Memref sig .tc .vmem S4096x256 .i8
  hx : x.IsWhole
  w : Memref sig .tc .vmem S256x2048 .i8
  hw : w.IsWhole
  sx : Memref sig .tc .smem S1 .f32
  hsx : sx.IsWhole
  sw : Memref sig .tc .smem S1 .f32
  hsw : sw.IsWhole
  o : Memref sig .tc .vmem S4096x2048 .f32
  ho : o.IsWhole

abbrev PR (F : FTy → Type) [FloatOps F] : Type 1 := Prog (TpuEff nD τ sig (Elt F) Λ₀ .tc) PUnit

theorem inb1 : ∀ d : Dev nD, ∀ r : Fin 16, ∀ a, (k0_off1 d (k0_off1_at r)) a + S256x256.size a ≤ S4096x256.size a := k0_off1_inb

/-- The words of the chunks' distances from the device's own, in the order they are computed. -/
def chunkW (r : Fin 16) : BitVec 32 := k0_off1_at r
theorem inb2 (d : Dev nD) (r : Fin 16) : ∀ a, (k0_off2 d (k0_off1_at r)) a + S256x2048.size a ≤ S4096x2048.size a := by
  revert d r; decide +kernel
theorem inb3 (d : Dev nD) (i : Fin 4) : ∀ a, (k0_off3 d (baseW i)) a + S64x2048.size a ≤ S4096x2048.size a := by
  revert d i; decide +kernel
theorem inb4 (d : Dev nD) (i : Fin 4) (n : Fin 16) : ∀ a, (k0_off4 d (stepW i n.val) (baseW i)) a + S64x2048.size a ≤ S4096x2048.size a := by
  revert d i n; decide +kernel
theorem inb5 (d : Dev nD) (i : Fin 4) : ∀ a, (k0_off5 d (stepW i 1) (baseW i)) a + S64x2048.size a ≤ S4096x2048.size a := by
  revert d i; decide +kernel

variable (A : Args) (d : Dev nD)

/-- Chunk `r` of the product, computed into the result's buffer. -/
def gemm (r : Fin 16) (K : PR F) : PR F :=
  .op (.load A.x (Rect.unit (s := S4096x256) (k0_off1 d (k0_off1_at r)) S256x256.size (inb1 d r)).toLoadRect (View.loadsAt_vmem h_S256x256)) fun v =>
  .op (.load A.w (Rect.unit (s := S256x2048) ![0, 0] S256x2048.size inb_S256x2048_S256x2048_0_0).toLoadRect (View.loadsAt_vmem h_S256x2048)) fun w =>
  .op (.load A.o (Rect.unit (s := S4096x2048) (k0_off2 d (k0_off1_at r)) S256x2048.size (inb2 d r)).toLoadRect (View.loadsAt_vmem h_S256x2048)) fun _ =>
  .op (.store A.o (Rect.unit (s := S4096x2048) (k0_off2 d (k0_off1_at r)) S256x2048.size (inb2 d r)) (gemmV v w) Finset.univ (View.stores_vmem_bits_univ h_S256x2048 rfl) (.inl rfl)) fun _ => K

/-- A band stored in slot `j` of ring `i`'s outgoing buffer. -/
def putOut (i j : Fin 4) (v : FVec F S64x2048 .bf16) (K : PR F) : PR F :=
  .op (.load (outb i) (slotR j).toLoadRect (View.loadsAt_vmem h_S1x64x2048)) fun _ =>
  .op (.store (outb i) (slotR j) (packV v) Finset.univ (View.stores_vmem h_S1x64x2048 ((outb_whole i).storeExact_slice rfl _ (packed_slot j)) (fun _ => rfl)) (.inl rfl)) fun _ => K

/-- The first message of ring `i`: the device's own chunk's band. -/
def first (i : Fin 4) (K : PR F) : PR F :=
  .op (.load A.o (Rect.unit (s := S4096x2048) (k0_off3 d (baseW i)) S64x2048.size (inb3 d i)).toLoadRect (View.loadsAt_vmem h_S64x2048)) fun v =>
  putOut i 0 (sendV v) K

/-- A copy from `src` to slot `j` of the next device. -/
def sendTo (i j : Fin 4) (src : Memref sig .tc .vmem S64x2048 .bf16) (hs : src.view.WordExact) (K : PR F) : PR F :=
  .op (.enqueueDma src (.remote (Dev.tc (dnD i d)) (slot (comm i) j) (.dma (sndS i j))) (.dma (rcvS i j)) hs (slot_words (comm_whole i) j) ⟨⟨rfl, Or.inl rfl⟩, trivial⟩) fun _ => K

/-- The wait for the arrival in slot `j`. -/
def waitRcv (i j : Fin 4) (src : Memref sig .tc .vmem S64x2048 .bf16) (hs : src.view.WordExact) (K : PR F) : PR F :=
  .op (.waitDma2 (rcvS i j) src (slot (comm i) j) hs (slot_words (comm_whole i) j)) fun _ => K
/-- The wait for the send to slot `j`. -/
def waitSnd (i j : Fin 4) (dst : Memref sig .tc .vmem S64x2048 .bf16) (hd : dst.view.WordExact) (K : PR F) : PR F :=
  .op (.waitDma2 (sndS i j) (slot (comm i) j) dst (slot_words (comm_whole i) j) hd) fun _ => K

/-- A credit to the previous device. -/
def grant (i : Fin 4) (K : PR F) : PR F := .op (.semSignal (upD i d, .tc) (credS i) (1#32 : BitVec 32).toInt) fun _ => K
/-- A wait for `n` credits. -/
def waitCredit (i : Fin 4) (n : BitVec 32) (K : PR F) : PR F := .op (.semWait (credS i) n.toInt) fun _ => K

/-- Step `s` of the reduction on ring `i`. -/
def rsStep (i : Fin 4) (s : Fin 15) (K : PR F) : PR F :=
  waitRcv i (sl s.val) (slot (outb i) (sl s.val)) (slot_words (outb_whole i) _) <|
  (fun K : PR F => bif Nat.ble 3 s.val then waitSnd i (sl (s.val - 3)) (slot (outb i) (sl (s.val - 3))) (slot_words (outb_whole i) _) K else K) <|
  .op (.load A.o (Rect.unit (s := S4096x2048) (k0_off4 d (stepW i s.succ.val) (baseW i)) S64x2048.size (inb4 d i s.succ)).toLoadRect (View.loadsAt_vmem h_S64x2048)) fun a =>
  .op (.load (comm i) (slotR (sl s.val)).toLoadRect (View.loadsAt_vmem h_S1x64x2048)) fun v =>
  .op (.load A.o (Rect.unit (s := S4096x2048) (k0_off4 d (stepW i s.succ.val) (baseW i)) S64x2048.size (inb4 d i s.succ)).toLoadRect (View.loadsAt_vmem h_S64x2048)) fun _ =>
  .op (.store A.o (Rect.unit (s := S4096x2048) (k0_off4 d (stepW i s.succ.val) (baseW i)) S64x2048.size (inb4 d i s.succ)) (accV a v) Finset.univ (View.stores_vmem_bits_univ h_S64x2048 rfl) (.inl rfl)) fun _ =>
  (fun K : PR F => bif Nat.blt s.val 14 then
      putOut i (sl (s.val + 1)) (truncf .bf16 (accV a v) bitsLt_bf16_f32) <|
      (fun K : PR F => bif Nat.ble 3 s.val then waitCredit i 1#32 K else K) <|
      sendTo d i (sl (s.val + 1)) (slot (outb i) (sl (s.val + 1))) (slot_words (outb_whole i) _) K
    else K) <|
  grant d i K

/-- The end of the reduction on ring `i`: its last three sends. -/
def rsTail (i : Fin 4) (K : PR F) : PR F :=
  waitSnd i 0 (slot (outb i) 0) (slot_words (outb_whole i) _) <|
  waitSnd i 1 (slot (outb i) 1) (slot_words (outb_whole i) _) <|
  waitSnd i 2 (slot (outb i) 2) (slot_words (outb_whole i) _) K

/-- The completed band, scaled and activated. -/
def finish (i : Fin 4) (sx sw : Elt F .f32) (K : PR F) : PR F :=
  .op (.load A.o (Rect.unit (s := S4096x2048) (k0_off5 d (stepW i 1) (baseW i)) S64x2048.size (inb5 d i)).toLoadRect (View.loadsAt_vmem h_S64x2048)) fun a =>
  .op (.load A.o (Rect.unit (s := S4096x2048) (k0_off5 d (stepW i 1) (baseW i)) S64x2048.size (inb5 d i)).toLoadRect (View.loadsAt_vmem h_S64x2048)) fun _ =>
  .op (.store A.o (Rect.unit (s := S4096x2048) (k0_off5 d (stepW i 1) (baseW i)) S64x2048.size (inb5 d i)) (siluV sx sw a) Finset.univ (View.stores_vmem_bits_univ h_S64x2048 rfl) (.inl rfl)) fun _ =>
  .op (.load (own i) (Rect.unit (s := S64x2048) ![0, 0] S64x2048.size inb_S64x2048_S64x2048_0_0).toLoadRect (View.loadsAt_vmem h_S64x2048)) fun _ =>
  .op (.store (own i) (Rect.unit (s := S64x2048) ![0, 0] S64x2048.size inb_S64x2048_S64x2048_0_0) (ownV (siluV sx sw a)) Finset.univ (View.stores_vmem h_S64x2048 ((own_whole i).storeExact_slice rfl _ packedbf16_S64x2048_S64x2048_0_0) (fun _ => rfl)) (.inl rfl)) fun _ => K

/-- What step `s` of the distribution on ring `i` receives was sent from there: the completed band, or the slot before. -/
def agSrc (i : Fin 4) : Nat → Memref sig .tc .vmem S64x2048 .bf16
  | 0 => own i
  | s + 1 => slot (comm i) (sl s)
theorem agSrc_words (i : Fin 4) : ∀ s, (agSrc i s).view.WordExact
  | 0 => (own_whole i).wordExact
  | s + 1 => slot_words (comm_whole i) _

/-- Step `s` of the distribution on ring `i`. -/
def agStep (i : Fin 4) (s : Fin 15) (K : PR F) : PR F :=
  waitRcv i (sl s.val) (agSrc i s.val) (agSrc_words i _) <|
  (fun K : PR F => bif Nat.blt s.val 14 then
      (fun K : PR F => bif Nat.ble 2 s.val then waitCredit i 1#32 K else K) <|
      sendTo d i (sl (s.val + 1)) (slot (comm i) (sl s.val)) (slot_words (comm_whole i) _) K
    else K) <|
  .op (.load (comm i) (slotR (sl s.val)).toLoadRect (View.loadsAt_vmem h_S1x64x2048)) fun v =>
  .op (.load A.o (Rect.unit (s := S4096x2048) (k0_off4 d (stepW i s.castSucc.val) (baseW i)) S64x2048.size (inb4 d i s.castSucc)).toLoadRect (View.loadsAt_vmem h_S64x2048)) fun _ =>
  .op (.store A.o (Rect.unit (s := S4096x2048) (k0_off4 d (stepW i s.castSucc.val) (baseW i)) S64x2048.size (inb4 d i s.castSucc)) (unpackV v) Finset.univ (View.stores_vmem_bits_univ h_S64x2048 rfl) (.inl rfl)) fun _ =>
  waitSnd i (sl s.val) (agSrc i s.val) (agSrc_words i _) <|
  grant d i K

/-- The rings in the order each step takes them. -/
def rings (f : Fin 4 → PR F → PR F) (K : PR F) : PR F := f 0 (f 2 (f 1 (f 3 K)))

def rsLoop : Nat → PR F → PR F
  | 0, K => K
  | n + 1, K => if h : 14 - n < 15 then rings (fun i => rsStep A d i ⟨14 - n, h⟩) (rsLoop n K) else K
def agLoop : Nat → PR F → PR F
  | 0, K => K
  | n + 1, K => if h : 14 - n < 15 then rings (fun i => agStep A d i ⟨14 - n, h⟩) (agLoop n K) else K
def gemmLoop : Nat → PR F → PR F
  | 0, K => K
  | n + 1, K => if h : 15 - n < 16 then gemm A d ⟨15 - n, h⟩ (gemmLoop n K) else K

def barrierP (K : PR F) : PR F :=
  .op (.semSignal (leftD d, .tc) barS (1#32 : BitVec 32).toInt) fun _ =>
  .op (.semSignal (rightD d, .tc) barS (1#32 : BitVec 32).toInt) fun _ =>
  .op (.semWait barS (2#32 : BitVec 32).toInt) fun _ => K

def tailP : PR F :=
  waitCredit 0 3#32 <| waitCredit 1 3#32 <| waitCredit 2 3#32 <| waitCredit 3 3#32 <| .ret ⟨⟩

def agP : PR F :=
  rings (fun i => sendTo d i 0 (own i) (own_whole i).wordExact) <| agLoop A d 15 tailP

def finP (K : PR F) : PR F :=
  smemLoadElt A.sx (Rect.unit (s := S1) ![0] S1.size inb_S1_S1_0) (View.loads_smem_one rfl numel1_S1) (Shape.Idx.first (numel1_S1.symm ▸ Nat.one_pos)) fun sx =>
  smemLoadElt A.sw (Rect.unit (s := S1) ![0] S1.size inb_S1_S1_0) (View.loads_smem_one rfl numel1_S1) (Shape.Idx.first (numel1_S1.symm ▸ Nat.one_pos)) fun sw =>
  rings (fun i => finish A d i sx sw) K

def creditsP (K : PR F) : PR F :=
  rings rsTail <| waitCredit 0 4#32 <| waitCredit 1 4#32 <| waitCredit 2 4#32 <| waitCredit 3 4#32 K

/-- The whole body after the device has read its index. -/
def bodyP : PR F :=
  gemm A d 0 <| gemm A d 1 <| gemm A d 2 <| rings (fun i => first A d i) <|
  barrierP d <| rings (fun i => sendTo d i 0 (slot (outb i) 0) (slot_words (outb_whole i) _)) <|
  gemmLoop A d 13 <| rsLoop A d 15 <| creditsP <| finP A d <| agP A d

end Cert.KernelIdeal.Proof
-- ==== Proof.Ideal.Sched.lean ====
/- The numbering the protocol is stated by: arrivals and sends `0 … 29` of a ring (`0 … 14` the reduction, `15 … 29` the
   distribution), the slot and the round of each, what a reader has freed by the time it grants credit `q`, and the order in
   which a device makes its signals and copies. -/
module

public import proofs.«01_k».proof.Proof.Ideal.Prog

@[expose] public section

noncomputable section

namespace Cert.KernelIdeal.Proof

open Idealize.ShloMosaic Idealize.SL.Sem
open Idealize.ShloMosaic.TcCoe
open Cert.KernelIdeal Cert.KernelIdeal.Gen

/-! ## The neighbours -/

theorem dn_up (i : Fin 4) (d : Dev nD) : dnD i (upD i d) = d := by revert i d; decide +kernel
theorem up_dn (i : Fin 4) (d : Dev nD) : upD i (dnD i d) = d := by revert i d; decide +kernel
theorem left_right (d : Dev nD) : leftD (rightD d) = d := by revert d; decide +kernel
theorem right_left (d : Dev nD) : rightD (leftD d) = d := by revert d; decide +kernel

/-! ## Slots and rounds -/

/-- The slot of send (arrival) `w`. -/
def sw (w : ℕ) : Fin 4 := if w < 15 then sl w else sl (w - 15)
/-- How many of the sends before `w` go to slot `j`. -/
def rn (w : ℕ) (j : Fin 4) : ℕ := ((Finset.range w).filter fun v => sw v = j).card
/-- The round of send `w` in its slot. -/
def rnd (w : ℕ) : ℕ := rn w (sw w)

theorem sw_rs {s : ℕ} (h : s < 15) : sw s = sl s := if_pos h
theorem sw_ag (s : ℕ) : sw (15 + s) = sl s := by
  unfold sw; rw [if_neg (by omega)]; congr 1; omega

theorem rn_succ (w : ℕ) (j : Fin 4) : rn (w + 1) j = rn w j + (if sw w = j then 1 else 0) := by
  unfold rn
  rw [Finset.range_add_one, Finset.filter_insert]
  split
  · rw [Finset.card_insert_of_notMem (by simp)]
  · rfl
theorem rn_self (w : ℕ) : rn (w + 1) (sw w) = rnd w + 1 := by rw [rn_succ, if_pos rfl]; rfl
theorem rn_other {w : ℕ} {j : Fin 4} (h : sw w ≠ j) : rn (w + 1) j = rn w j := by rw [rn_succ, if_neg h]; rfl

/-- The sends of slot `j` in round `r`: one at most. -/
def wset (j : Fin 4) (r : ℕ) : Finset ℕ := (Finset.range 30).filter fun w => sw w = j ∧ rnd w = r

theorem wset_eq {w : ℕ} (h : w < 30) : wset (sw w) (rnd w) = {w} := by
  revert w; decide +kernel
theorem wset_later {j : Fin 4} {r : ℕ} (h : rn 30 j ≤ r) : wset j r = ∅ := by
  refine Finset.filter_eq_empty_iff.mpr fun w hw hc => ?_
  have hw := Finset.mem_range.mp hw
  have key : ∀ w < 30, rnd w < rn 30 (sw w) := by decide +kernel
  have := key w hw
  rw [hc.1, hc.2] at this
  omega

/-! ## Credits -/

/-- How many arrivals' slots are free when credit `q` is granted. -/
def pre (q : ℕ) : ℕ := if q ≤ 10 then q + 5 else if q = 14 then 19 else if q < 15 then q + 4 else min (q + 4) 30
/-- Whether step `w` frees a slot for a later arrival, and for which. -/
def frees (w : ℕ) : Bool := decide (w < 27 ∧ w ≠ 15)
def freed (w : ℕ) : ℕ := if w ≤ 10 then w + 4 else if w = 11 then 18 else w + 3
/-- The arrivals whose slots are free before step `w`. -/
def freeSet (w : ℕ) : Finset ℕ := Finset.range 4 ∪ ((Finset.range w).filter fun v => frees v = true).image freed
/-- The steps from `w` on that free a slot. -/
def freesFrom (w : ℕ) : Finset ℕ := (Finset.Ico w 27).filter fun v => frees v = true

theorem pre_mono : ∀ q < 30, ∀ q' < 30, q ≤ q' → pre q ≤ pre q' := by decide +kernel
theorem pre_sub : ∀ q < 30, Finset.range (pre q) ⊆ freeSet (q + 1) := by decide +kernel
theorem freeSet_succ_of {w : ℕ} (h : frees w = true) : freeSet (w + 1) = insert (freed w) (freeSet w) := by
  unfold freeSet
  rw [Finset.range_add_one (n := w), Finset.filter_insert, if_pos h, Finset.image_insert, Finset.union_insert]
theorem freeSet_succ_not {w : ℕ} (h : ¬ frees w = true) : freeSet (w + 1) = freeSet w := by
  unfold freeSet
  rw [Finset.range_add_one (n := w), Finset.filter_insert, if_neg h]
theorem freesFrom_of : ∀ w < 30, frees w = true → freesFrom w = insert w (freesFrom (w + 1)) ∧ w ∉ freesFrom (w + 1) := by decide +kernel
theorem freesFrom_not : ∀ w < 30, ¬ frees w = true → freesFrom w = freesFrom (w + 1) := by decide +kernel
theorem freed_lt : ∀ w < 27, frees w = true → 4 ≤ freed w ∧ freed w < 30 := by decide +kernel
theorem freed_injOn : ∀ v < 27, ∀ w < 27, frees v = true → frees w = true → freed v = freed w → v = w := by decide +kernel
theorem freed_cover : Finset.range 30 = Finset.range 4 ∪ (freesFrom 0).image freed := by decide +kernel

/-- Step `w` of the reduction frees the slot it read. -/
theorem freed_rs : ∀ w < 15, frees w = true ∧ sw (freed w) = sw w ∧ rnd (freed w) = rn (w + 1) (sw w) := by decide +kernel
/-- Step `w` of the distribution frees the slot read a step before. -/
theorem freed_ag : ∀ w < 27, 15 < w → frees w = true ∧ sw (freed w) = sw (w - 1) ∧ rnd (freed w) = rn (w + 1) (sw (w - 1)) := by decide +kernel

/-! ## The order of a device's signals and copies -/

/-- The two barrier signals, the copies and the credits of a device. -/
inductive Ev
  | bar (b : Bool)
  | send (w : Fin 30) (i : Fin 4)
  | grant (w : Fin 30) (i : Fin 4)
  deriving DecidableEq

def Ev.equiv : Bool ⊕ (Fin 30 × Fin 4) ⊕ (Fin 30 × Fin 4) ≃ Ev where
  toFun | .inl b => .bar b | .inr (.inl x) => .send x.1 x.2 | .inr (.inr x) => .grant x.1 x.2
  invFun | .bar b => .inl b | .send w i => .inr (.inl (w, i)) | .grant w i => .inr (.inr (w, i))
  left_inv x := by rcases x with b | x | x <;> rfl
  right_inv x := by rcases x with b | ⟨w, i⟩ | ⟨w, i⟩ <;> rfl
instance : Fintype Ev := Fintype.ofEquiv _ Ev.equiv

/-- The place of ring `i` in each step. -/
def rho (i : Fin 4) : ℕ := match i with | 0 => 0 | 1 => 2 | 2 => 1 | 3 => 3

def Ev.lvl : Ev → ℕ
  | .bar b => bif b then 2 else 1
  | .send w i => 3 + 8 * (if w.val < 15 then w.val else w.val + 1) + 2 * rho i
  | .grant w i => 3 + 8 * (if w.val < 15 then w.val + 1 else w.val + 2) + 2 * rho i + 1

/-- Its label: its level, the two barrier signals sharing one. -/
def Ev.label (e : Ev) : ℕ := match e with | .bar _ => 1 | e => e.lvl

theorem rho_inj {i j : Fin 4} (h : rho i = rho j) : i = j := by revert i j; decide
theorem rho_le (i : Fin 4) : rho i ≤ 3 := by revert i; decide

theorem lvl_inj {e e' : Ev} (h : e.lvl = e'.lvl) : e = e' := by
  rcases e with b | ⟨w, i⟩ | ⟨w, i⟩ <;> rcases e' with b' | ⟨w', i'⟩ | ⟨w', i'⟩ <;> dsimp only [Ev.lvl] at h
  · cases b <;> cases b' <;> first | rfl | exact absurd h (by decide)
  · cases b <;> simp only [cond_true, cond_false] at h <;> omega
  · cases b <;> simp only [cond_true, cond_false] at h <;> omega
  · cases b' <;> simp only [cond_true, cond_false] at h <;> omega
  · have := rho_le i; have := rho_le i'
    have hr : rho i = rho i' := by split at h <;> split at h <;> omega
    have hw : w.val = w'.val := by split at h <;> split at h <;> omega
    rw [rho_inj hr, Fin.ext hw]
  · have := rho_le i; have := rho_le i'; omega
  · cases b' <;> simp only [cond_true, cond_false] at h <;> omega
  · have := rho_le i; have := rho_le i'; omega
  · have := rho_le i; have := rho_le i'
    have hr : rho i = rho i' := by split at h <;> split at h <;> omega
    have hw : w.val = w'.val := by split at h <;> split at h <;> omega
    rw [rho_inj hr, Fin.ext hw]

theorem lvl_lt (e : Ev) : e.lvl < 300 := by
  rcases e with b | ⟨w, i⟩ | ⟨w, i⟩ <;> dsimp only [Ev.lvl]
  · cases b <;> decide
  · have := rho_le i; split <;> omega
  · have := rho_le i; split <;> omega
theorem label_lt (e : Ev) : e.label < 300 := by
  rcases e with b | ⟨w, i⟩ | ⟨w, i⟩
  · show 1 < 300; decide
  · exact lvl_lt (.send w i)
  · exact lvl_lt (.grant w i)
theorem label_pos (e : Ev) : 0 < e.label := by
  rcases e with b | ⟨w, i⟩ | ⟨w, i⟩ <;> dsimp only [Ev.label, Ev.lvl] <;> omega
theorem le_label {n : ℕ} (hn : 3 ≤ n) {e : Ev} (h : n ≤ e.lvl) : n ≤ e.label := by
  rcases e with b | ⟨w, i⟩ | ⟨w, i⟩
  · cases b <;> dsimp only [Ev.lvl, cond_true, cond_false] at h <;> omega
  · exact h
  · exact h

end Cert.KernelIdeal.Proof
-- ==== Proof.Ideal.Proto.lean ====
/- The protocol: the semaphores' cells, what each signal and copy hands over, what a device owes and may wait for. -/
module

public import proofs.«01_k».proof.Proof.Ideal.Sched
public import Idealize.ShloMosaic.Lib.Pipeline.Launch
public import Idealize.ShloMosaic.Lib.Pipeline.Kit
public import Idealize.ShloMosaic.Lib.Rounds
public import Idealize.ShloMosaic.Lib.Release
public import Idealize.ShloMosaic.Lib.Tactic

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The resource algebra -/

/-- A slot is named by its reader, its ring and the arrival it is for. -/
abbrev Key : Type := Dev nD × Fin 4 × ℕ
abbrev UB : Type := URounds (GSem nD τ sig) ℕ
abbrev UU : Type := UR sig nD τ × (UB × USlots Key)

local notation "𝕄" => MT nD τ sig ℕ (Elt F) ℕ UU ℕ

abbrev EP : Emb (UR sig nD τ) (MT nD τ sig ℕ (Elt F) ℕ UU ℕ) := embL
abbrev EX : Emb (UB × USlots Key) (MT nD τ sig ℕ (Elt F) ℕ UU ℕ) := embR
abbrev ER : Emb UB (MT nD τ sig ℕ (Elt F) ℕ UU ℕ) := (Emb.inl : Emb UB (UB × USlots Key)).trans EX
abbrev ES : Emb (USlots Key) (MT nD τ sig ℕ (Elt F) ℕ UU ℕ) := (Emb.inr : Emb (USlots Key) (UB × USlots Key)).trans EX

/-! ## The cells -/

/-- A device's cells: the barrier, a credit cell per ring, a send and a receive cell per ring and slot. -/
inductive CK
  | bar
  | cr (i : Fin 4)
  | sn (i j : Fin 4)
  | rc (i j : Fin 4)
  deriving DecidableEq

def CK.equiv : Unit ⊕ Fin 4 ⊕ (Fin 4 × Fin 4) ⊕ (Fin 4 × Fin 4) ≃ CK where
  toFun | .inl _ => .bar | .inr (.inl i) => .cr i | .inr (.inr (.inl x)) => .sn x.1 x.2 | .inr (.inr (.inr x)) => .rc x.1 x.2
  invFun | .bar => .inl () | .cr i => .inr (.inl i) | .sn i j => .inr (.inr (.inl (i, j))) | .rc i j => .inr (.inr (.inr (i, j)))
  left_inv x := by rcases x with b | i | x | x <;> rfl
  right_inv x := by rcases x with _ | i | ⟨i, j⟩ | ⟨i, j⟩ <;> rfl
instance : Fintype CK := Fintype.ofEquiv _ CK.equiv

def csem : CK → SemLoc sig
  | .bar => .reg barS
  | .cr i => .reg (credS i)
  | .sn i j => .dma (sndS i j)
  | .rc i j => .dma (rcvS i j)
abbrev kcell (c : Dev nD) (k : CK) : GSem nD τ sig := ((c : Thread nD τ), csem k)

theorem csem_inj : Function.Injective csem := by
  have h : ∀ k k' : CK, csem k = csem k' → k = k' := by decide +kernel
  exact fun k k' => h k k'
theorem kcell_inj {c c' : Dev nD} {k k' : CK} (h : kcell c k = kcell c' k') : c = c' ∧ k = k' :=
  ⟨congrArg (fun g : GSem nD τ sig => g.1.1) h, csem_inj (congrArg Prod.snd h)⟩

/-- What a copy into a slot credits. -/
abbrev N : ℕ := (slot (comm 0) 0).view.dmaCredit
theorem N_pos : 0 < N := View.dmaCredit_pos _ (by decide)
theorem N_comm (i j : Fin 4) : (slot (comm i) j).view.dmaCredit = N := by fin_cases i <;> rfl
theorem N_outb (i j : Fin 4) : (slot (outb i) j).view.dmaCredit = N := by fin_cases i <;> rfl
theorem N_own (i : Fin 4) : (own i).view.dmaCredit = N := by fin_cases i <;> rfl

/-! ## The contents -/

/-- What the devices are given. -/
structure Inp (F : FTy → Type) [FloatOps F] where
  x : Dev nD → Vec F S4096x256 .i8
  w : Dev nD → Vec F S256x2048 .i8
  sx : Dev nD → Vec F S1 .f32
  sw : Dev nD → Vec F S1 .f32

theorem inbX (c : Fin 16) : ∀ a, (![256 * c.val, 0] : Fin 2 → ℕ) a + S256x256.size a ≤ S4096x256.size a := by
  revert c; decide
theorem inbO (c : Fin 16) : ∀ a, (![256 * c.val, 0] : Fin 2 → ℕ) a + S256x2048.size a ≤ S4096x2048.size a := by
  revert c; decide
theorem inbB (c : Fin 16) (i : Fin 4) : ∀ a, (![256 * c.val + 64 * i.val, 0] : Fin 2 → ℕ) a + S64x2048.size a ≤ S4096x2048.size a := by
  revert c i; decide
theorem inbH (i : Fin 4) : ∀ a, (![64 * i.val, 0] : Fin 2 → ℕ) a + S64x2048.size a ≤ S256x2048.size a := by
  revert i; decide
abbrev xR (c : Fin 16) : Rect S4096x256 := Rect.unit (s := S4096x256) ![256 * c.val, 0] S256x256.size (inbX c)
abbrev oR (c : Fin 16) : Rect S4096x2048 := Rect.unit (s := S4096x2048) ![256 * c.val, 0] S256x2048.size (inbO c)
abbrev bR (c : Fin 16) (i : Fin 4) : Rect S4096x2048 := Rect.unit (s := S4096x2048) ![256 * c.val + 64 * i.val, 0] S64x2048.size (inbB c i)
abbrev hR (i : Fin 4) : Rect S256x2048 := Rect.unit (s := S256x2048) ![64 * i.val, 0] S64x2048.size (inbH i)

/-- The chunk `k` steps against ring `i`'s direction from the device's own. -/
def ck (i : Fin 4) (d : Dev nD) (k : ℕ) : Fin 16 :=
  if i.val < 2 then ⟨(d.val + 240 - k) % 16, Nat.mod_lt _ (by decide)⟩ else ⟨(d.val + k) % 16, Nat.mod_lt _ (by decide)⟩

variable (I : Inp F)

/-- Chunk `c` of device `d`'s product, and its band `i`. -/
def chunkV (d : Dev nD) (c : Fin 16) : FVec F S256x2048 .f32 := gemmV (fun z => I.x d ((xR c).emb z)) (I.w d)
def bandV (d : Dev nD) (c : Fin 16) (i : Fin 4) : FVec F S64x2048 .f32 := fun y => chunkV I d c ((hR i).emb y)

/-- The partial sum device `d` holds after `t` steps of ring `i`. -/
def acc : ℕ → Fin 4 → Dev nD → FVec F S64x2048 .f32
  | 0, i, d => bandV I d (ck i d 0) i
  | t + 1, i, d => addf (bandV I d (ck i d (t + 1)) i)
      (extf .f32 (truncf .bf16 (acc t i (upD i d)) bitsLt_bf16_f32 : FVec F S64x2048 .bf16) bitsLt_bf16_f32)
/-- The activated band device `d` completes. -/
def finV (i : Fin 4) (d : Dev nD) : FVec F S64x2048 .f32 :=
  siluV (I.sx d (Shape.Idx.first (numel1_S1.symm ▸ Nat.one_pos))) (I.sw d (Shape.Idx.first (numel1_S1.symm ▸ Nat.one_pos))) (acc I 15 i d)
/-- What device `d` passes on, `t` steps into the distribution. -/
def fwd : ℕ → Fin 4 → Dev nD → FVec F S64x2048 .bf16
  | 0, i, d => ownV (finV I i d)
  | t + 1, i, d => fwd t i (upD i d)
/-- What device `d` sends as `w`, and what arrives at it as `w`. -/
def sent (w : ℕ) (i : Fin 4) (d : Dev nD) : FVec F S64x2048 .bf16 :=
  if w < 15 then truncf .bf16 (acc I w i d) bitsLt_bf16_f32 else fwd I (w - 15) i d
def msg (w : ℕ) (i : Fin 4) (d : Dev nD) : FVec F S64x2048 .bf16 := sent I w i (upD i d)

theorem msg_dn (w : ℕ) (i : Fin 4) (d : Dev nD) : msg I w i (dnD i d) = sent I w i d := by unfold msg; rw [up_dn]
theorem sent_rs {t : ℕ} (h : t < 15) (i : Fin 4) (d : Dev nD) : sent I t i d = truncf .bf16 (acc I t i d) bitsLt_bf16_f32 := if_pos h
theorem sent_own (i : Fin 4) (d : Dev nD) : sent I 15 i d = ownV (finV I i d) := rfl
theorem sent_fwd (t : ℕ) (i : Fin 4) (d : Dev nD) : sent I (16 + t) i d = msg I (15 + t) i d := by
  unfold msg sent
  rw [if_neg (by omega), if_neg (by omega), show 16 + t - 15 = t + 1 by omega, show 15 + t - 15 = t by omega]; rfl

/-! ## Ownership of the buffers -/

def commPts (c : Dev nD) (i j : Fin 4) (q : PosShare TreeShare) (v : FVec F S64x2048 .bf16) : sProp 𝕄 :=
  (slot (comm i) j).view.loc (c : Thread nD τ) ↦[(slot (comm i) j).view.set]{q} (slot (comm i) j).view.rep (Val := Elt F) v
def outbPts (c : Dev nD) (i j : Fin 4) (v : FVec F S64x2048 .bf16) : sProp 𝕄 :=
  (slot (outb i) j).view.loc (c : Thread nD τ) ↦[(slot (outb i) j).view.set]{fullShare} (slot (outb i) j).view.rep (Val := Elt F) v
def ownPts (c : Dev nD) (i : Fin 4) (v : FVec F S64x2048 .bf16) : sProp 𝕄 :=
  (own i).view.loc (c : Thread nD τ) ↦[(own i).view.set]{fullShare} (own i).view.rep (Val := Elt F) v

/-- The reader's slot for arrival `w`, ready to be copied into. -/
def freeSlot (k : Key) : sProp 𝕄 :=
  iprop((∃ v, commPts k.1 k.2.1 (sw k.2.2) fullShare v) ∗ reached ER (kcell k.1 (.rc k.2.1 (sw k.2.2))) (rnd k.2.2))

/-- The reader has freed the slots of its first `n` arrivals. -/
def Known (c : Dev nD) (i : Fin 4) (n : ℕ) : sProp 𝕄 := bigSep (Finset.range n) fun w => released (ES (F := F)) (c, i, w) 1

instance commPts_storable (c : Dev nD) (i j : Fin 4) (q) (v) : BI.Storable (upEmb : UEmb _ 𝕄) (commPts (F := F) c i j q v) := by
  unfold commPts; infer_instance
instance outbPts_storable (c : Dev nD) (i j : Fin 4) (v) : BI.Storable (upEmb : UEmb _ 𝕄) (outbPts (F := F) c i j v) := by
  unfold outbPts; infer_instance
instance ownPts_storable (c : Dev nD) (i : Fin 4) (v) : BI.Storable (upEmb : UEmb _ 𝕄) (ownPts (F := F) c i v) := by
  unfold ownPts; infer_instance
instance freeSlot_storable (k : Key) : BI.Storable (upEmb : UEmb _ 𝕄) (freeSlot (F := F) k) := by
  unfold freeSlot; infer_instance
instance Known_storable (c : Dev nD) (i : Fin 4) (n : ℕ) : BI.Storable (upEmb : UEmb _ 𝕄) (Known (F := F) c i n) := by
  unfold Known; infer_instance
instance Known_persistent (c : Dev nD) (i : Fin 4) (n : ℕ) : BI.Persistent (Known (F := F) c i n) := by
  unfold Known; infer_instance

theorem Known_mono (c : Dev nD) (i : Fin 4) {n n' : ℕ} (h : n ≤ n') : Known (F := F) c i n' ⊢ Known c i n :=
  bigSep_subset (Finset.range_subset_range.mpr h)
theorem Known_at (c : Dev nD) (i : Fin 4) {n w : ℕ} (h : w < n) : Known (F := F) c i n ⊢ released ES (c, i, w) 1 :=
  bigSep_elim (Finset.mem_range.mpr h)

/-! ## The schedule -/

def kduties : CK → ℕ → Finset ℕ
  | .bar, r => if r = 0 then {0, 1} else ∅
  | .cr _, r => if r = 0 then Finset.range 30 else ∅
  | .sn _ j, r => wset j r
  | .rc _ j, r => wset j r
def kamount : CK → ℕ
  | .bar => 1
  | .cr _ => 1
  | .sn _ _ => N
  | .rc _ _ => N

/-- What the sender of `w` gets back. -/
def sndPay (c : Dev nD) (i : Fin 4) (w : ℕ) : sProp 𝕄 :=
  if w < 15 then iprop(∃ v, outbPts c i (sw w) v)
  else if w = 15 then ownPts c i (ownV (finV I i c))
  else commPts c i (sw (w - 1)) fullShare.left (msg I (w - 1) i c)
def kpay (c : Dev nD) : CK → ℕ → sProp 𝕄
  | .bar, w => if w = 0 then iprop(Known (rightD c) 0 4 ∗ Known (rightD c) 1 4) else iprop(Known (leftD c) 2 4 ∗ Known (leftD c) 3 4)
  | .cr i, w => Known (dnD i c) i (pre w)
  | .sn i j, w => sndPay I c i w
  | .rc i j, w => commPts c i j fullShare (msg I w i c)

instance sndPay_storable (c : Dev nD) (i : Fin 4) (w : ℕ) : BI.Storable (upEmb : UEmb _ 𝕄) (sndPay I c i w) := by
  unfold sndPay; (repeat' split) <;> infer_instance
instance kpay_storable (c : Dev nD) (k : CK) (w : ℕ) : BI.Storable (upEmb : UEmb _ 𝕄) (kpay I c k w) := by
  cases k <;> dsimp only [kpay]
  · split <;> infer_instance
  all_goals infer_instance

/-- The kind of a semaphore of the kernel's. -/
def kOf (sm : SemLoc sig) : Finset CK := Finset.univ.filter fun k => csem k = sm
theorem kOf_csem (k : CK) : kOf (csem k) = {k} := by
  ext k'; unfold kOf
  rw [Finset.mem_filter, Finset.mem_singleton]
  exact ⟨fun h => csem_inj h.2, fun h => ⟨Finset.mem_univ _, congrArg csem h⟩⟩

def Rd : Rounds.Schedule (GSem nD τ sig) ℕ 𝕄 where
  duties g r := if g.1.2 = .tc then (kOf g.2).biUnion fun k => kduties k r else ∅
  unitless _ := False
  amount g _ _ := match g.2 with | .reg _ => 1 | .dma _ => N
  payload g _ w := bigSep (kOf g.2) fun k => kpay I g.1.1 k w
  amount_pos g _ _ _ := by
    rcases g with ⟨c, s | s⟩
    · exact Nat.one_pos
    · exact N_pos

instance Rd_payload_storable (g : GSem nD τ sig) (r : ℕ) (d : ℕ) : BI.Storable (upEmb : UEmb _ 𝕄) ((Rd I).payload g r d) := by
  show BI.Storable upEmb (bigSep (kOf g.2) fun k => kpay I g.1.1 k d)
  infer_instance

theorem duties_eq (c : Dev nD) (k : CK) (r : ℕ) : (Rd I).duties (kcell c k) r = kduties k r := by
  show (if (kcell c k).1.2 = .tc then (kOf (csem k)).biUnion fun k => kduties k r else ∅) = _
  rw [if_pos rfl, kOf_csem, Finset.singleton_biUnion]
theorem amount_eq (c : Dev nD) (k : CK) (r w : ℕ) : (Rd I).amount (kcell c k) r w = kamount k := by
  cases k <;> rfl
theorem payload_eq (c : Dev nD) (k : CK) (r w : ℕ) : (Rd I).payload (kcell c k) r w = kpay I c k w := by
  show bigSep (kOf (csem k)) (fun k => kpay I c k w) = _
  rw [kOf_csem, bigSep_singleton]
theorem expect_eq (c : Dev nD) (k : CK) (r : ℕ) : (Rd I).expect (kcell c k) r = (kduties k r).card * kamount k := by
  unfold Schedule.expect Schedule.amountOf
  rw [duties_eq, Finset.sum_congr rfl fun d _ => amount_eq I c k r d, Finset.sum_const, smul_eq_mul]

theorem mem_sn (c : Dev nD) (i : Fin 4) {w : ℕ} (hw : w < 30) : w ∈ (Rd I).duties (kcell c (.sn i (sw w))) (rnd w) := by
  rw [duties_eq]; dsimp only [kduties]; rw [wset_eq hw]; exact Finset.mem_singleton_self _
theorem mem_rc (c : Dev nD) (i : Fin 4) {w : ℕ} (hw : w < 30) : w ∈ (Rd I).duties (kcell c (.rc i (sw w))) (rnd w) := by
  rw [duties_eq]; dsimp only [kduties]; rw [wset_eq hw]; exact Finset.mem_singleton_self _
theorem mem_cr (c : Dev nD) (i : Fin 4) {w : ℕ} (hw : w < 30) : w ∈ (Rd I).duties (kcell c (.cr i)) 0 := by
  rw [duties_eq]; exact Finset.mem_range.mpr hw
theorem expect_sn (c : Dev nD) (i : Fin 4) {w : ℕ} (hw : w < 30) : (Rd I).expect (kcell c (.sn i (sw w))) (rnd w) = N := by
  rw [expect_eq]; dsimp only [kduties, kamount]; rw [wset_eq hw, Finset.card_singleton, one_mul]
theorem expect_rc (c : Dev nD) (i : Fin 4) {w : ℕ} (hw : w < 30) : (Rd I).expect (kcell c (.rc i (sw w))) (rnd w) = N := by
  rw [expect_eq]; dsimp only [kduties, kamount]; rw [wset_eq hw, Finset.card_singleton, one_mul]
theorem expect_cr (c : Dev nD) (i : Fin 4) : (Rd I).expect (kcell c (.cr i)) 0 = 30 := by
  rw [expect_eq]; dsimp only [kduties, kamount]; rw [if_pos rfl, Finset.card_range]
theorem expect_bar (c : Dev nD) : (Rd I).expect (kcell c .bar) 0 = 2 := by
  rw [expect_eq]; rfl

/-! ## What is owed, and the levels -/

def Ev.tally (c : Dev nD) : Ev → CellTallies nD τ sig ℕ
  | .bar b => tallyAt (kcell (bif b then rightD c else leftD c) .bar) 1 1
  | e@(.send w i) => tallyAt (kcell (dnD i c) (.rc i (sw w))) e.lvl N
  | e@(.grant w i) => tallyAt (kcell (upD i c) (.cr i)) e.lvl 1

def evs (n : ℕ) : Finset Ev := Finset.univ.filter fun e => n ≤ e.lvl
/-- What device `c` owes before its event of level `n`. -/
def Ow (c : Dev nD) (n : ℕ) : CellTallies nD τ sig ℕ := ∑ e ∈ evs n, e.tally c

theorem Ow_peel (c : Dev nD) (e : Ev) : Ow c e.lvl = Ow c (e.lvl + 1) + e.tally c := by
  unfold Ow
  have h : evs e.lvl = insert e (evs (e.lvl + 1)) := by
    ext e'; unfold evs
    simp only [Finset.mem_insert, Finset.mem_filter, Finset.mem_univ, true_and]
    constructor
    · intro h
      rcases Nat.lt_or_eq_of_le h with h | h
      · exact .inr h
      · exact .inl (lvl_inj h.symm)
    · rintro (rfl | h)
      · exact le_rfl
      · omega
  rw [h, Finset.sum_insert (by unfold evs; simp), add_comm]
theorem Ow_skip (c : Dev nD) {n : ℕ} (h : ∀ e : Ev, e.lvl ≠ n) : Ow c n = Ow c (n + 1) := by
  unfold Ow
  congr 1
  ext e; unfold evs
  simp only [Finset.mem_filter, Finset.mem_univ, true_and]
  have := h e
  omega
theorem Ow_end (c : Dev nD) : Ow c 300 = 0 := by
  unfold Ow
  have h : evs 300 = ∅ := Finset.filter_eq_empty_iff.mpr fun e _ => by have := lvl_lt e; omega
  rw [h, Finset.sum_empty]

@[irreducible] def labels : Finset ℕ := Finset.range 300
theorem mem_labels {l : ℕ} (h : l < 300) : l ∈ labels := by unfold labels; exact Finset.mem_range.mpr h
def L (g : GSem nD τ sig) : Finset ℕ := if g.1.2 = .tc then labels else ∅
def lv (_ : GSem nD τ sig) (n : ℕ) : ℕ := n
theorem L_of_ne (g : GSem nD τ sig) (h : g.1.2 ≠ .tc) : L g = ∅ := if_neg h
theorem L_tc (c : Dev nD) (sm : SemLoc sig) : L ((c : Thread nD τ), sm) = labels := if_pos rfl

theorem Ow_pos {c : Dev nD} {n : ℕ} {g : GSem nD τ sig} {l : ℕ} (h : 0 < Ow c n g l) :
    g.1.2 = .tc ∧ ∃ e : Ev, n ≤ e.lvl ∧ l = e.label := by
  obtain ⟨e, he, hp⟩ := Pipeline.sum_pos_exists h
  have hn : n ≤ e.lvl := (Finset.mem_filter.mp he).2
  have key : ∀ (c' : Dev nD) (k : CK) (l' a : ℕ), 0 < tallyAt (kcell c' k) l' a g l → g.1.2 = .tc ∧ l = l' := by
    intro c' k l' a hp
    rw [tallyAt_apply] at hp
    by_cases h : g = kcell c' k ∧ l = l'
    · exact ⟨by rw [h.1], h.2⟩
    · rw [if_neg h] at hp; exact absurd hp (Nat.lt_irrefl 0)
  rcases e with b | ⟨w, i⟩ | ⟨w, i⟩
  · have := key _ _ _ _ hp; exact ⟨this.1, _, hn, this.2⟩
  · have := key _ _ _ _ hp; exact ⟨this.1, _, hn, this.2⟩
  · have := key _ _ _ _ hp; exact ⟨this.1, _, hn, this.2⟩

/-- A wait below everything still owed. -/
theorem mayOwe (c : Dev nD) (sm : SemLoc sig) (S : Finset ℕ) {n : ℕ} (hn : 3 ≤ n) (hS : ∀ l ∈ S, l < n) (hb : n < 300) :
    (levAts L lv : sProp 𝕄) ⊢ MayOwe (c : Thread nD τ) (S.image fun l => (sm, l)) (Ow c n) := by
  refine MayOwe.of_levAts (L := L) (lev := lv) (fun p hp => ?_) (fun g l h => ?_) (fun g l h p hp => ?_)
  · obtain ⟨l, hl, rfl⟩ := Finset.mem_image.mp hp
    rw [L_tc]; have := hS l hl; exact mem_labels (by omega)
  · obtain ⟨h1, e, h2, rfl⟩ := Ow_pos h
    unfold L; rw [if_pos h1]; exact mem_labels (label_lt e)
  · obtain ⟨l', hl, rfl⟩ := Finset.mem_image.mp hp
    obtain ⟨h1, e, h2, rfl⟩ := Ow_pos h
    exact lt_of_lt_of_le (hS _ hl) (le_label hn h2)
theorem mayWait (c : Dev nD) (sm : SemLoc sig) (l : ℕ) {n : ℕ} (hn : 3 ≤ n) (hl : l < n) (hb : n < 300) :
    (levAts L lv : sProp 𝕄) ⊢ MayWait (c : Thread nD τ) sm l (Ow c n) := by
  have h := mayOwe (F := F) c sm {l} hn (by simpa using hl) hb
  rwa [Finset.image_singleton] at h
/-- A wait of the loop around the body, below everything the body owes. -/
theorem mayWait_zero (c : Dev nD) (sm : SemLoc sig) (n : ℕ) (hn : 0 < n) :
    (levAts L lv : sProp 𝕄) ⊢ MayWait (c : Thread nD τ) sm 0 (Ow c n) :=
  Pipeline.mayWait_of_levAts (by rw [L_tc]; exact mem_labels (by decide)) fun g l h => by
    obtain ⟨h1, e, h2, rfl⟩ := Ow_pos h
    refine ⟨?_, label_pos e⟩
    unfold L; rw [if_pos h1]; exact mem_labels (label_lt e)

/-- The levels of all cells. -/
def Levs : sProp 𝕄 := levAts L lv
instance Levs_persistent : BI.Persistent (Levs : sProp 𝕄) := by unfold Levs; infer_instance

theorem Levs_wait (c : Dev nD) (sm : SemLoc sig) (l : ℕ) {n : ℕ} (hn : 3 ≤ n) (hl : l < n) (hb : n < 300) :
    (Levs : sProp 𝕄) ⊢ MayWait (c : Thread nD τ) sm l (Ow c n) := by
  unfold Levs; exact mayWait c sm l hn hl hb
theorem Levs_owe (c : Dev nD) (sm : SemLoc sig) (S : Finset ℕ) {n : ℕ} (hn : 3 ≤ n) (hS : ∀ l ∈ S, l < n) (hb : n < 300) :
    (Levs : sProp 𝕄) ⊢ MayOwe (c : Thread nD τ) (S.image fun l => (sm, l)) (Ow c n) := by
  unfold Levs; exact mayOwe c sm S hn hS hb

/-! ## What every device knows -/

def keysAll : Finset Key := Finset.univ ×ˢ Finset.univ ×ˢ Finset.range 30
theorem mem_keysAll {c : Dev nD} {i : Fin 4} {w : ℕ} (h : w < 30) : (c, i, w) ∈ keysAll := by
  unfold keysAll; simp [h]

/-- The invariants of all cells and slots, all cells at their first round, and the levels. -/
def Recs (κ : Dev nD × CK → ℕ) (ς : Key → ℕ) : sProp 𝕄 :=
  iprop((bigSep Finset.univ fun x : Dev nD × CK => cellInv ER (Rd I) (κ x) (kcell x.1 x.2))
    ∗ (bigSep Finset.univ fun x : Dev nD × CK => reached ER (kcell x.1 x.2) 0)
    ∗ (bigSep keysAll fun k => slotInv ES (ς k) k (freeSlot (F := F) k))
    ∗ Levs)

instance Recs_persistent (κ : Dev nD × CK → ℕ) (ς : Key → ℕ) : BI.Persistent (Recs I κ ς) := by unfold Recs; infer_instance

variable (κ : Dev nD × CK → ℕ) (ς : Key → ℕ)

theorem inv_at (x : Dev nD × CK) :
    (bigSep Finset.univ fun x : Dev nD × CK => (cellInv ER (Rd I) (κ x) (kcell x.1 x.2) : sProp 𝕄)) ⊢ cellInv ER (Rd I) (κ x) (kcell x.1 x.2) :=
  bigSep_elim (Finset.mem_univ x)
theorem reached_at (x : Dev nD × CK) :
    (bigSep Finset.univ fun x : Dev nD × CK => (reached ER (kcell x.1 x.2) 0 : sProp 𝕄)) ⊢ reached ER (kcell x.1 x.2) 0 :=
  bigSep_elim (Finset.mem_univ x)
theorem slot_at {k : Key} (h : k ∈ keysAll) :
    (bigSep keysAll fun k => (slotInv ES (ς k) k (freeSlot (F := F) k) : sProp 𝕄)) ⊢ slotInv ES (ς k) k (freeSlot (F := F) k) :=
  bigSep_elim h

theorem Recs_inv (c : Dev nD) (k : CK) : Recs I κ ς ⊢ cellInv ER (Rd I) (κ (c, k)) (kcell c k) := by
  unfold Recs
  iintro ⟨H, -, -, -⟩
  iapply (inv_at I κ (c, k)); iexact H
theorem Recs_reached (c : Dev nD) (k : CK) : Recs I κ ς ⊢ reached ER (kcell c k) 0 := by
  unfold Recs
  iintro ⟨-, H, -, -⟩
  iapply (reached_at (F := F) (c, k)); iexact H
theorem Recs_slot {c : Dev nD} {i : Fin 4} {w : ℕ} (h : w < 30) :
    Recs I κ ς ⊢ slotInv ES (ς (c, i, w)) (c, i, w) (freeSlot (F := F) (c, i, w)) := by
  unfold Recs
  iintro ⟨-, -, H, -⟩
  iapply (slot_at (F := F) ς (mem_keysAll h)); iexact H
theorem Recs_lev : Recs I κ ς ⊢ Levs := by
  unfold Recs
  iintro ⟨-, -, -, H⟩
  iexact H

end Cert.KernelIdeal.Proof
-- ==== Proof.Ideal.Rules.lean ====
/- One rule for each kind of signal, copy and wait of the body, at the protocol's cells. -/
module

public import proofs.«01_k».proof.Proof.Ideal.Proto
public import proofs.«01_k».proof.Proof.Gen.KernelIdeal.Launch

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

/-- The body's weakest precondition on device `c`. -/
abbrev wpB (c : Dev nD) (P : PR F) (Q : PUnit → sProp 𝕄) : sProp 𝕄 :=
  wp frame (wpE (defs₀ (F := F)) 𝒱₀ (c : Thread nD τ) none) Set.univ P Q

variable (I : Inp F) (κ : Dev nD × CK → ℕ) (ς : Key → ℕ) (c : Dev nD)

/-- What device `c` owes before its event of level `n`, whatever it has waited for. -/
def OwesX (n : ℕ) : sProp 𝕄 := iprop(∃ W, owes (c : Thread nD τ) (Ow c n) W)
/-- A device's place at one of its cells. -/
def Pos (k : CK) (r : ℕ) : sProp 𝕄 := iprop(atPos ER (kcell c k) r ∅ 0 ∗ reached ER (kcell c k) r)
/-- A device's place at a credit cell, `m` credits taken. -/
def Cr (i : Fin 4) (m : ℕ) : sProp 𝕄 :=
  iprop(∃ S : Finset ℕ, atPos ER (kcell c (.cr i)) 0 S m ∗ ⌜S ⊆ Finset.range 30 ∧ m ≤ S.card⌝ ∗ bigSep S fun q => Known (dnD i c) i (pre q))
/-- The rights to send `w`. -/
def SendToks (i : Fin 4) (w : ℕ) : sProp 𝕄 :=
  iprop(dutyTok ER (kcell c (.sn i (sw w))) (rnd w) w ∗ dutyTok ER (kcell (dnD i c) (.rc i (sw w))) (rnd w) w ∗ writeTok (ES (F := F)) (dnD i c, i, w) 1)
/-- The levels of send `w` and of credit `w`. -/
def lvS (w : ℕ) (i : Fin 4) : ℕ := 3 + 8 * (if w < 15 then w else w + 1) + 2 * rho i
def lvG (w : ℕ) (i : Fin 4) : ℕ := 3 + 8 * (if w < 15 then w + 1 else w + 2) + 2 * rho i + 1
theorem le_lvS (w : ℕ) (i : Fin 4) : 3 ≤ lvS w i := by unfold lvS; omega
theorem le_lvG (w : ℕ) (i : Fin 4) : 3 ≤ lvG w i := by unfold lvG; omega
/-- The credit of arrival `w`, of send `w`, and of credit `q`. -/
def rcvCred (i : Fin 4) (w : ℕ) : sProp 𝕄 := cred (tallyAt (kcell c (.rc i (sw w))) (lvS w i) N)
def sndCred (i : Fin 4) (w : ℕ) : sProp 𝕄 := cred (tallyAt (kcell c (.sn i (sw w))) 0 N)
def crdCred (i : Fin 4) (q : ℕ) : sProp 𝕄 := cred (tallyAt (kcell c (.cr i)) (lvG q i) 1)

theorem Recs_wait (sm : SemLoc sig) (l : ℕ) {n : ℕ} (hn : 3 ≤ n) (hl : l < n) (hb : n < 300) :
    Recs I κ ς ⊢ MayWait (c : Thread nD τ) sm l (Ow c n) :=
  (@Recs_lev F _ I κ ς).trans (@Levs_wait F _ c sm l n hn hl hb)

theorem Cr_known (i : Fin 4) {m : ℕ} (hm : 1 ≤ m) (hm' : m ≤ 30) : Cr (F := F) c i m ⊢ Known (dnD i c) i (pre (m - 1)) := by
  unfold Cr
  iintro ⟨%S, -, %hS, H⟩
  have h : ∃ q ∈ S, m - 1 ≤ q := by
    by_contra hn
    push Not at hn
    have h1 : S ⊆ Finset.range (m - 1) := fun q hq => Finset.mem_range.mpr (hn q hq)
    have h2 := Finset.card_le_card h1
    rw [Finset.card_range] at h2
    omega
  obtain ⟨q, hq, hle⟩ := h
  ihave H' := (show (bigSep S fun q => Known (F := F) (dnD i c) i (pre q)) ⊢ Known (dnD i c) i (pre q) from bigSep_elim hq) $$ H
  iapply (Known_mono (dnD i c) i (pre_mono (m - 1) (by omega) q (Finset.mem_range.mp (hS.1 hq)) hle)) $$ H'

theorem rest_rc (i : Fin 4) {w : ℕ} (hw : w < 30) :
    bigSep ((Rd I).duties ((c : Thread nD τ), .dma (rcvS i (sw w))) (rnd w) \ ∅) (fun d => (Rd I).payload ((c : Thread nD τ), .dma (rcvS i (sw w))) (rnd w) d)
      ⊢ commPts c i (sw w) fullShare (msg I w i c) := by
  have h : (Rd I).duties ((c : Thread nD τ), .dma (rcvS i (sw w))) (rnd w) = {w} := (duties_eq I c (.rc i (sw w)) (rnd w)).trans (wset_eq hw)
  rw [Finset.sdiff_empty, h, bigSep_singleton]
  exact Entails.of_eq (payload_eq I c (.rc i (sw w)) (rnd w) w)

theorem rest_sn (i : Fin 4) {w : ℕ} (hw : w < 30) :
    bigSep ((Rd I).duties ((c : Thread nD τ), .dma (sndS i (sw w))) (rnd w) \ ∅) (fun d => (Rd I).payload ((c : Thread nD τ), .dma (sndS i (sw w))) (rnd w) d)
      ⊢ sndPay I c i w := by
  have h : (Rd I).duties ((c : Thread nD τ), .dma (sndS i (sw w))) (rnd w) = {w} := (duties_eq I c (.sn i (sw w)) (rnd w)).trans (wset_eq hw)
  rw [Finset.sdiff_empty, h, bigSep_singleton]
  exact Entails.of_eq (payload_eq I c (.sn i (sw w)) (rnd w) w)

/-- The send of `w`. -/
theorem wp_sendTo (i : Fin 4) {w : ℕ} (hw : w < 30) {j : Fin 4} (hj : sw w = j) (src : Memref sig .tc .vmem S64x2048 .bf16)
    (hs : src.view.WordExact) (q : PosShare TreeShare) (fs : Buf (Elt F) (src.view.loc (c : Thread nD τ)))
    (hv : src.view.read (Elt F) fs = sent I w i c)
    (hpay : (src.view.loc (c : Thread nD τ) ↦[src.view.set]{q} fs : sProp 𝕄) ⊢ sndPay I c i w)
    {n : ℕ} (hn : n = lvS w i) {K : PR F} {Q : PUnit → sProp 𝕄} :
    iprop(Recs I κ ς ∗ (src.view.loc (c : Thread nD τ) ↦[src.view.set]{q} fs) ∗ OwesX c n ∗ SendToks c i w
        ∗ reached ER (kcell c (.sn i j)) (rnd w) ∗ Known (dnD i c) i (w + 1))
      ⊢ iprop(((sndCred c i w ∗ OwesX c (n + 1)) -∗ wpB c K Q) -∗ wpB c (sendTo c i j src hs K) Q) := by
  subst hj hn
  unfold OwesX SendToks sndCred
  iintro ⟨#HR, Hsrc, ⟨%W, HO⟩, ⟨Ht1, Ht2, Hwt⟩, #Hrs, #HK⟩ Hk
  ihave #Hsl := (Recs_slot I κ ς (c := dnD i c) (i := i) hw) $$ HR
  ihave #Hrel := (Known_at (F := F) (dnD i c) i (Nat.lt_succ_self w)) $$ HK
  imod (slot_take (ES (F := F)) (k := (dnD i c, i, w)) (S := freeSlot (F := F) (dnD i c, i, w)) (Es := Set.univ) (Set.mem_univ _) 1) $$ [Hwt] with Hfree
  · isplitr; · iexact Hsl
    isplitr; · iexact Hrel
    iexact Hwt
  unfold freeSlot commPts
  icases Hfree with ⟨⟨%v, Hdst⟩, #Hrr⟩
  unfold sendTo
  have h1 : w ∈ (Rd I).duties ((c : Thread nD τ), .dma (sndS i (sw w))) (rnd w) := mem_sn I c i hw
  have h2 : w ∈ (Rd I).duties ((dnD i c : Thread nD τ), .dma (rcvS i (sw w))) (rnd w) := mem_rc I (dnD i c) i hw
  have h3 : (src.view.loc (c : Thread nD τ) ↦[src.view.set]{q} fs : sProp 𝕄) ⊢ (Rd I).payload ((c : Thread nD τ), .dma (sndS i (sw w))) (rnd w) w :=
    hpay.trans (Entails.of_eq (payload_eq I c (.sn i (sw w)) (rnd w) w).symm)
  have h4 : ((slot (comm i) (sw w)).view.loc (dnD i c : Thread nD τ) ↦[(slot (comm i) (sw w)).view.set]{fullShare}
        (slot (comm i) (sw w)).view.write (Elt F) ((slot (comm i) (sw w)).view.rep (Val := Elt F) v) (src.view.read (Elt F) fs) Finset.univ : sProp 𝕄)
      ⊢ (Rd I).payload ((dnD i c : Thread nD τ), .dma (rcvS i (sw w))) (rnd w) w := by
    refine BI.Entails.trans ?_ (Entails.of_eq (payload_eq I (dnD i c) (.rc i (sw w)) (rnd w) w).symm)
    dsimp only [kpay]; unfold commPts
    rw [msg_dn]
    refine (pointsTo_rep_entails (dnD i c : Thread nD τ) (slot (comm i) (sw w)) _ fullShare).trans ?_
    rw [View.read_write_univ, hv]
  iapply (Rounds.wp_send_pointsTo 𝒱₀ ER (Rd I) (c : Thread nD τ) none (κ₁ := κ (c, .sn i (sw w))) (κ₂ := κ (dnD i c, .rc i (sw w)))
    (r₁ := rnd w) (r₂ := rnd w) (d₁ := w) (d₂ := w) (fd := (slot (comm i) (sw w)).view.rep v)
    h1 h2 (lvS w i) 0 N (N_comm i (sw w)) (amount_eq I c (.sn i (sw w)) (rnd w) w) (amount_eq I (dnD i c) (.rc i (sw w)) (rnd w) w)
    (Ow c (lvS w i + 1)) (Ow_peel c (.send ⟨w, hw⟩ i)) (W := W) h3 h4) $$ [Hsrc Hdst HO Ht1 Ht2]
  · isplitr; · iapply (Recs_inv I κ ς c (.sn i (sw w))); iexact HR
    isplitr; · iapply (Recs_inv I κ ς (dnD i c) (.rc i (sw w))); iexact HR
    isplitl [Hsrc]; · iexact Hsrc
    isplitl [Hdst]; · iexact Hdst
    isplitl [HO]; · iexact HO
    isplitl [Ht1]; · iexact Ht1
    isplitr; · iexact Hrs
    isplitl [Ht2]; · iexact Ht2
    iexact Hrr
  iintro ⟨Hc, HO⟩
  iapply Hk
  isplitl [Hc]; · iexact Hc
  iexists W; iexact HO

/-- The wait for arrival `w`. -/
theorem wp_waitRcv (i : Fin 4) {w : ℕ} (hw : w < 30) {j : Fin 4} (hj : sw w = j) (src : Memref sig .tc .vmem S64x2048 .bf16) (hs : src.view.WordExact)
    {n : ℕ} (hn : lvS w i < n) (hn' : n < 300) {K : PR F} {Q : PUnit → sProp 𝕄} :
    iprop(Recs I κ ς ∗ rcvCred c i w ∗ OwesX c n ∗ Pos c (.rc i j) (rnd w))
      ⊢ iprop(((OwesX c n ∗ Pos c (.rc i j) (rnd w + 1) ∗ commPts c i j fullShare (msg I w i c)) -∗ wpB c K Q) -∗ wpB c (waitRcv i j src hs K) Q) := by
  subst hj
  unfold OwesX Pos rcvCred waitRcv
  have hx : 0 + (slot (comm i) (sw w)).view.dmaCredit = (Rd I).expect ((c : Thread nD τ), .dma (rcvS i (sw w))) (rnd w) := by
    rw [N_comm, zero_add]; exact (expect_rc I c i hw).symm
  iintro ⟨#HR, Hc, ⟨%W, HO⟩, ⟨Hat, -⟩⟩ Hk
  iapply (Rounds.wp_wait_rest_token 𝒱₀ ER (Rd I) (c : Thread nD τ) none (κ := κ (c, .rc i (sw w)))
      (wpE_waitDma2_eq 𝒱₀ (c : Thread nD τ) none Set.univ) (Set.mem_univ _) (lvS w i) (O := Ow c n) (W := W) (R := rnd w) (m := 0) (T := ∅)
      hx) $$ [Hc HO Hat]
  · isplitr; · iapply (Recs_inv I κ ς c (.rc i (sw w))); iexact HR
    isplitl [Hc]; · rw [N_comm]; iexact Hc
    isplitl [HO]; · iexact HO
    isplitr
    · iapply (Recs_wait I κ ς c _ (lvS w i) (Nat.le_of_lt (lt_of_le_of_lt (le_lvS w i) hn)) hn hn'); iexact HR
    iexact Hat
  iintro ⟨HO, Hat, #Hr, Hpay⟩
  iapply Hk
  isplitl [HO]; · iexists _; iexact HO
  isplitl [Hat]
  · isplitl [Hat]; · iexact Hat
    iexact Hr
  ihave Hp := (rest_rc I c i hw) $$ Hpay
  iexact Hp

/-- The wait for send `w`. -/
theorem wp_waitSnd (i : Fin 4) {w : ℕ} (hw : w < 30) {j : Fin 4} (hj : sw w = j) (dst : Memref sig .tc .vmem S64x2048 .bf16) (hd : dst.view.WordExact)
    (hN : dst.view.dmaCredit = N) {n : ℕ} (hn : 3 ≤ n) (hn' : n < 300) {K : PR F} {Q : PUnit → sProp 𝕄} :
    iprop(Recs I κ ς ∗ sndCred c i w ∗ OwesX c n ∗ Pos c (.sn i j) (rnd w))
      ⊢ iprop(((OwesX c n ∗ Pos c (.sn i j) (rnd w + 1) ∗ sndPay I c i w) -∗ wpB c K Q) -∗ wpB c (waitSnd i j dst hd K) Q) := by
  subst hj
  unfold OwesX Pos sndCred waitSnd
  have hx : 0 + dst.view.dmaCredit = (Rd I).expect ((c : Thread nD τ), .dma (sndS i (sw w))) (rnd w) := by
    rw [hN, zero_add]; exact (expect_sn I c i hw).symm
  iintro ⟨#HR, Hc, ⟨%W, HO⟩, ⟨Hat, -⟩⟩ Hk
  iapply (Rounds.wp_wait_rest_token 𝒱₀ ER (Rd I) (c : Thread nD τ) none (κ := κ (c, .sn i (sw w)))
      (wpE_waitDma2_eq 𝒱₀ (c : Thread nD τ) none Set.univ) (Set.mem_univ _) 0 (O := Ow c n) (W := W) (R := rnd w) (m := 0) (T := ∅)
      hx) $$ [Hc HO Hat]
  · isplitr; · iapply (Recs_inv I κ ς c (.sn i (sw w))); iexact HR
    isplitl [Hc]; · rw [hN]; iexact Hc
    isplitl [HO]; · iexact HO
    isplitr
    · iapply (Recs_wait I κ ς c _ 0 hn (lt_of_lt_of_le (by decide) hn) hn'); iexact HR
    iexact Hat
  iintro ⟨HO, Hat, #Hr, Hpay⟩
  iapply Hk
  isplitl [HO]; · iexists _; iexact HO
  isplitl [Hat]
  · isplitl [Hat]; · iexact Hat
    iexact Hr
  ihave Hp := (rest_sn I c i hw) $$ Hpay
  iexact Hp

/-- Credit `w` granted. -/
theorem wp_grant (i : Fin 4) {w : ℕ} (hw : w < 30) {n : ℕ} (hn : n = lvG w i) {K : PR F} {Q : PUnit → sProp 𝕄} :
    iprop(Recs I κ ς ∗ OwesX c n ∗ dutyTok ER (kcell (upD i c) (.cr i)) 0 w ∗ Known c i (pre w))
      ⊢ iprop((OwesX c (n + 1) -∗ wpB c K Q) -∗ wpB c (grant c i K) Q) := by
  subst hn
  unfold OwesX grant
  iintro ⟨#HR, ⟨%W, HO⟩, Ht, #HK⟩ Hk
  iapply (Rounds.wp_signal 𝒱₀ ER (Rd I) (c : Thread nD τ) none (dst := (upD i c : Thread nD τ)) (κ := κ (upD i c, .cr i))
      (d := w) (r := 0) (mem_cr I (upD i c) i hw)
      ((amount_eq I (upD i c) (.cr i) 0 w).trans (by rfl)) (lvG w i) (Ow c (lvG w i + 1)) (Ow_peel c (.grant ⟨w, hw⟩ i))) $$ [HO Ht]
  · isplitr; · iapply (Recs_inv I κ ς (upD i c) (.cr i)); iexact HR
    isplitl [HO]; · iexact HO
    isplitl [Ht]; · iexact Ht
    isplitr
    · iapply (show Known (F := F) c i (pre w) ⊢ (Rd I).payload ((upD i c : Thread nD τ), .reg (credS i)) 0 w from
        (Entails.of_eq (by dsimp only [kpay]; rw [dn_up])).trans (Entails.of_eq (payload_eq I (upD i c) (.cr i) 0 w).symm))
      iexact HK
    iapply (Recs_reached I κ ς (upD i c) (.cr i)); iexact HR
  iintro HO
  iapply Hk
  iexists W; iexact HO

theorem tally_sum (g : GSem nD τ sig) (i : Fin 4) (S : Finset ℕ) :
    (∑ q ∈ S, tallyAt g (lvG q i) 1) = tallyOn g (∑ q ∈ S, (Finsupp.single (lvG q i) 1 : ℕ →₀ ℕ)) := by
  induction S using Finset.induction_on with
  | empty => rw [Finset.sum_empty, Finset.sum_empty]; unfold tallyOn; rw [Pi.single_zero]
  | insert q S hq ih =>
    rw [Finset.sum_insert hq, Finset.sum_insert hq, ih]
    unfold tallyAt tallyOn; rw [Pi.single_add]
theorem crd_sum (i : Fin 4) (S : Finset ℕ) :
    bigSep S (crdCred (F := F) c i) ⊢ cred (tallyOn (kcell c (.cr i)) (∑ q ∈ S, (Finsupp.single (lvG q i) 1 : ℕ →₀ ℕ))) := by
  rw [← tally_sum, Pipeline.cred_finsetSum]
  exact Entails.of_eq rfl
theorem crd_total (i : Fin 4) (S : Finset ℕ) : Idealize.SL.Util.total (∑ q ∈ S, (Finsupp.single (lvG q i) 1 : ℕ →₀ ℕ)) = S.card := by
  rw [Idealize.SL.Util.total_finset_sum, Finset.sum_congr rfl fun q _ => Idealize.SL.Util.total_single (lvG q i) 1, Finset.sum_const, smul_eq_mul, mul_one]
theorem crd_support (i : Fin 4) (S : Finset ℕ) : (∑ q ∈ S, (Finsupp.single (lvG q i) 1 : ℕ →₀ ℕ)).support ⊆ S.image fun q => lvG q i := by
  refine Finsupp.support_finset_sum.trans fun l hl => ?_
  obtain ⟨q, hq, h⟩ := Finset.mem_biUnion.mp hl
  have := Finsupp.support_single_subset h
  exact Finset.mem_image.mpr ⟨q, hq, (Finset.mem_singleton.mp this).symm⟩

theorem Recs_owe (sm : SemLoc sig) (S : Finset ℕ) {n : ℕ} (hn : 3 ≤ n) (hS : ∀ l ∈ S, l < n) (hb : n < 300) :
    Recs I κ ς ⊢ MayOwe (c : Thread nD τ) (S.image fun l => (sm, l)) (Ow c n) :=
  (@Recs_lev F _ I κ ς).trans (@Levs_owe F _ c sm S n hn hS hb)

/-- A wait for `k` more credits. -/
theorem wp_waitCredit (i : Fin 4) {m k : ℕ} {b : BitVec 32} (hb : b.toInt = (k : ℤ)) (hm : m + k ≤ 30)
    {n : ℕ} (h3 : 3 ≤ n) (hn : ∀ q < m + k, lvG q i < n) (hn' : n < 300) {K : PR F} {Q : PUnit → sProp 𝕄} :
    iprop(Recs I κ ς ∗ bigSep (Finset.Ico m (m + k)) (crdCred c i) ∗ OwesX c n ∗ Cr c i m)
      ⊢ iprop(((OwesX c n ∗ Cr c i (m + k)) -∗ wpB c K Q) -∗ wpB c (waitCredit i b K) Q) := by
  unfold OwesX Cr waitCredit
  have hk : ((Finset.Ico m (m + k)).card : ℕ) = k := by rw [Nat.card_Ico]; omega
  iintro ⟨#HR, Hc, ⟨%W, HO⟩, ⟨%T, Hat, %hT, #HT⟩⟩ Hk
  ihave Hc := (crd_sum c i _) $$ Hc
  iapply (Rounds.wp_wait 𝒱₀ ER (Rd I) (c : Thread nD τ) none (κ := κ (c, .cr i)) (sm := .reg (credS i)) (k' := k)
      (fun K => by rw [hb]; exact wpE_semWait_eq 𝒱₀ (c : Thread nD τ) none Set.univ K)
      (Set.mem_univ _)
      (((Finset.Ico m (m + k)).image fun q => lvG q i).image fun l => (.reg (credS i), l)) (O := Ow c n) (W := W) (R := 0) (m := m) (T := T)
      ((crd_total i _).trans hk) (Finset.image_subset_image (crd_support i _))) $$ [Hc HO Hat]
  · isplitr; · iapply (Recs_inv I κ ς c (.cr i)); iexact HR
    isplitl [Hc]; · iexact Hc
    isplitl [HO]; · iexact HO
    isplitr
    · iapply (Recs_owe I κ ς c _ _ h3 (fun l hl => by
        obtain ⟨q, hq, rfl⟩ := Finset.mem_image.mp hl
        exact hn q (Finset.mem_Ico.mp hq).2) hn'); iexact HR
    iexact Hat
  iintro %S ⟨%hS, HO, Hat, Hp⟩
  iapply Hk
  isplitl [HO]; · iexists _; iexact HO
  iexists S
  isplitl [Hat]; · iexact Hat
  have hd : (Rd I).duties ((c : Thread nD τ), .reg (credS i)) 0 = Finset.range 30 := duties_eq I c (.cr i) 0
  have he : (Rd I).expect ((c : Thread nD τ), .reg (credS i)) 0 = 30 := expect_cr I c i
  obtain ⟨h1, h2, h3⟩ := hS
  rw [hd] at h2 h3
  rw [he] at h3
  isplitr
  · ipureintro
    refine ⟨h2, ?_⟩
    have := Finset.card_sdiff_add_card_eq_card h2
    rw [Finset.card_range] at this
    omega
  iapply (show iprop((bigSep (S \ T) fun q => Known (F := F) (dnD i c) i (pre q)) ∗ bigSep T fun q => Known (dnD i c) i (pre q))
      ⊢ bigSep S fun q => Known (dnD i c) i (pre q) from Entails.of_eq (by
    conv_rhs => rw [← Finset.sdiff_union_of_subset h1]
    rw [bigSep_union Finset.sdiff_disjoint]; rfl))
  isplitl [Hp]
  · iapply (show (bigSep (S \ T) fun d => (Rd I).payload ((c : Thread nD τ), .reg (credS i)) 0 d) ⊢ bigSep (S \ T) fun q => Known (F := F) (dnD i c) i (pre q)
      from Entails.of_eq (bigSep_congr fun q _ => payload_eq I c (.cr i) 0 q))
    iexact Hp
  iexact HT

/-- The last wait of a credit cell. -/
theorem wp_lastCredit (i : Fin 4) {m k : ℕ} {b : BitVec 32} (hb : b.toInt = (k : ℤ)) (hm : m + k = 30)
    {n : ℕ} (h3 : 3 ≤ n) (hn : ∀ q < m + k, lvG q i < n) (hn' : n < 300) {K : PR F} {Q : PUnit → sProp 𝕄} :
    iprop(Recs I κ ς ∗ bigSep (Finset.Ico m (m + k)) (crdCred c i) ∗ OwesX c n ∗ Cr c i m)
      ⊢ iprop(((OwesX c n ∗ Pos c (.cr i) 1) -∗ wpB c K Q) -∗ wpB c (waitCredit i b K) Q) := by
  unfold OwesX Cr waitCredit Pos
  have hk : ((Finset.Ico m (m + k)).card : ℕ) = k := by rw [Nat.card_Ico]; omega
  iintro ⟨#HR, Hc, ⟨%W, HO⟩, ⟨%T, Hat, -, -⟩⟩ Hk
  ihave Hc := (crd_sum c i _) $$ Hc
  iapply (Rounds.wp_wait_rest 𝒱₀ ER (Rd I) (c : Thread nD τ) none (κ := κ (c, .cr i)) (sm := .reg (credS i)) (k' := k)
      (fun K => by rw [hb]; exact wpE_semWait_eq 𝒱₀ (c : Thread nD τ) none Set.univ K)
      (Set.mem_univ _)
      (((Finset.Ico m (m + k)).image fun q => lvG q i).image fun l => (.reg (credS i), l)) (O := Ow c n) (W := W) (R := 0) (m := m) (T := T)
      (hm.trans (expect_cr I c i).symm) ((crd_total i _).trans hk) (Finset.image_subset_image (crd_support i _))) $$ [Hc HO Hat]
  · isplitr; · iapply (Recs_inv I κ ς c (.cr i)); iexact HR
    isplitl [Hc]; · iexact Hc
    isplitl [HO]; · iexact HO
    isplitr
    · iapply (Recs_owe I κ ς c _ _ h3 (fun l hl => by
        obtain ⟨q, hq, rfl⟩ := Finset.mem_image.mp hl
        exact hn q (Finset.mem_Ico.mp hq).2) hn'); iexact HR
    iexact Hat
  iintro ⟨HO, Hat, #Hr, -⟩
  iapply Hk
  isplitl [HO]; · iexists _; iexact HO
  isplitl [Hat]; · iexact Hat
  iexact Hr

/-- The barrier: each device tells both neighbours that its slots are free. -/
theorem wp_barrier {K : PR F} {Q : PUnit → sProp 𝕄} :
    iprop(Recs I κ ς ∗ OwesX c 1 ∗ cred (tallyAt (kcell c .bar) 1 2) ∗ atPos ER (kcell c .bar) 0 ∅ 0
        ∗ dutyTok ER (kcell (leftD c) .bar) 0 0 ∗ dutyTok ER (kcell (rightD c) .bar) 0 1
        ∗ Known c 0 4 ∗ Known c 1 4 ∗ Known c 2 4 ∗ Known c 3 4)
      ⊢ iprop(((OwesX c 3 ∗ Pos c .bar 1 ∗ Known (dnD 0 c) 0 4 ∗ Known (dnD 1 c) 1 4 ∗ Known (dnD 2 c) 2 4 ∗ Known (dnD 3 c) 3 4)
          -∗ wpB c K Q) -∗ wpB c (barrierP c K) Q) := by
  unfold OwesX barrierP Pos
  iintro ⟨#HR, ⟨%W, HO⟩, Hc, Hat, Ht0, Ht1, #H0, #H1, #H2, #H3⟩ Hk
  have d0 : 0 ∈ (Rd I).duties (kcell (leftD c) .bar) 0 := by rw [duties_eq]; exact Finset.mem_insert_self _ _
  have d1 : 1 ∈ (Rd I).duties (kcell (rightD c) .bar) 0 := by rw [duties_eq]; exact Finset.mem_insert_of_mem (Finset.mem_singleton_self _)
  iapply (Rounds.wp_signal 𝒱₀ ER (Rd I) (c : Thread nD τ) none (dst := (leftD c : Thread nD τ)) (κ := κ (leftD c, .bar))
      (d := 0) (r := 0) d0 ((amount_eq I (leftD c) .bar 0 0).trans (by rfl)) 1 (Ow c 2) (Ow_peel c (.bar false))) $$ [HO Ht0]
  · isplitr; · iapply (Recs_inv I κ ς (leftD c) .bar); iexact HR
    isplitl [HO]; · iexact HO
    isplitl [Ht0]; · iexact Ht0
    isplitr
    · iapply (show iprop(Known (F := F) c 0 4 ∗ Known c 1 4) ⊢ (Rd I).payload ((leftD c : Thread nD τ), .reg barS) 0 0 from
        (Entails.of_eq (by dsimp only [kpay]; rw [if_pos rfl, right_left])).trans (Entails.of_eq (payload_eq I (leftD c) .bar 0 0).symm))
      isplitr; · iexact H0
      iexact H1
    iapply (Recs_reached I κ ς (leftD c) .bar); iexact HR
  iintro HO
  iapply (Rounds.wp_signal 𝒱₀ ER (Rd I) (c : Thread nD τ) none (dst := (rightD c : Thread nD τ)) (κ := κ (rightD c, .bar))
      (d := 1) (r := 0) d1 ((amount_eq I (rightD c) .bar 0 1).trans (by rfl)) 1 (Ow c 3) (Ow_peel c (.bar true))) $$ [HO Ht1]
  · isplitr; · iapply (Recs_inv I κ ς (rightD c) .bar); iexact HR
    isplitl [HO]; · iexact HO
    isplitl [Ht1]; · iexact Ht1
    isplitr
    · iapply (show iprop(Known (F := F) c 2 4 ∗ Known c 3 4) ⊢ (Rd I).payload ((rightD c : Thread nD τ), .reg barS) 0 1 from
        (Entails.of_eq (by dsimp only [kpay]; rw [if_neg (by decide), left_right])).trans (Entails.of_eq (payload_eq I (rightD c) .bar 0 1).symm))
      isplitr; · iexact H2
      iexact H3
    iapply (Recs_reached I κ ς (rightD c) .bar); iexact HR
  iintro HO
  iapply (Rounds.wp_wait_rest_token 𝒱₀ ER (Rd I) (c : Thread nD τ) none (κ := κ (c, .bar))
      (wpE_semWait_eq 𝒱₀ (c : Thread nD τ) none Set.univ) (Set.mem_univ _) 1 (O := Ow c 3) (W := W) (R := 0) (m := 0) (T := ∅)
      ((expect_bar I c).symm)) $$ [Hc HO Hat]
  · isplitr; · iapply (Recs_inv I κ ς c .bar); iexact HR
    isplitl [Hc]; · iexact Hc
    isplitl [HO]; · iexact HO
    isplitr
    · iapply (Recs_wait I κ ς c _ 1 (le_refl 3) (by decide) (by decide)); iexact HR
    iexact Hat
  iintro ⟨HO, Hat, #Hr, Hp⟩
  have h : bigSep ((Rd I).duties ((c : Thread nD τ), .reg barS) 0 \ ∅) (fun d => (Rd I).payload ((c : Thread nD τ), .reg barS) 0 d)
      ⊢ iprop((Known (F := F) (dnD 0 c) 0 4 ∗ Known (dnD 1 c) 1 4) ∗ Known (dnD 2 c) 2 4 ∗ Known (dnD 3 c) 3 4) := by
    have h : (Rd I).duties ((c : Thread nD τ), .reg barS) 0 = {0, 1} := duties_eq I c .bar 0
    rw [Finset.sdiff_empty, h, bigSep_insert (by decide), bigSep_singleton]
    exact BI.sep_mono (Entails.of_eq (payload_eq I c .bar 0 0)) (Entails.of_eq (payload_eq I c .bar 0 1))
  ihave Hp := h $$ Hp
  icases Hp with ⟨⟨Hp0, Hp1⟩, Hp2, Hp3⟩
  iapply Hk
  isplitl [HO]; · iexists _; iexact HO
  isplitl [Hat]
  · isplitl [Hat]; · iexact Hat
    iexact Hr
  isplitl [Hp0]; · iexact Hp0
  isplitl [Hp1]; · iexact Hp1
  isplitl [Hp2]; · iexact Hp2
  iexact Hp3

end Cert.KernelIdeal.Proof
-- ==== Proof.Ideal.Mem.lean ====
/- Loads and stores of the body at canonical contents, and the result's buffer band by band. -/
module

public import proofs.«01_k».proof.Proof.Ideal.Rules
public import Idealize.ShloMosaic.Lib.Pipeline.Value

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Contents changed in a box -/

open Classical in
/-- `v` with `w` in the box `r`. -/
def upd {s : Shape} {α : Type} (v : s.Idx → α) (r : Rect s) (w : r.shape.Idx → α) : s.Idx → α :=
  fun y => if h : ∃ z, r.emb z = y then w h.choose else v y

theorem upd_emb {s : Shape} {α : Type} (v : s.Idx → α) (r : Rect s) (w : r.shape.Idx → α) (z : r.shape.Idx) :
    upd v r w (r.emb z) = w z := by
  unfold upd
  have h : ∃ z', r.emb z' = r.emb z := ⟨z, rfl⟩
  rw [dif_pos h, r.emb.injective h.choose_spec]
theorem upd_of_not {s : Shape} {α : Type} (v : s.Idx → α) (r : Rect s) (w : r.shape.Idx → α) {y : s.Idx} (h : ∀ z, r.emb z ≠ y) :
    upd v r w y = v y := by
  unfold upd
  rw [dif_neg]
  rintro ⟨z, hz⟩
  exact h z hz

theorem unit_emb_val {s : Shape} (off size : Fin s.rank → ℕ) (inb) (z : (Rect.unit off size inb).shape.Idx) (a : Fin s.rank) :
    ((Rect.unit off size inb).emb z a).val = off a + (z a).val := by
  rw [Rect.emb_apply]; show off a + 1 * (z a).val = _; omega

/-! ## Memrefs at canonical contents -/

variable (c : Dev nD)

/-- Device `c`'s memref `m` holding `v`. -/
def mPts {cs : CoreSpace} {s : Shape} {e : EltTy} (m : Memref sig .tc cs s e) (v : s.Idx → Elt F e) : sProp 𝕄 :=
  m.view.loc (c : Thread nD τ) ↦[m.view.set]{fullShare} m.view.rep (Val := Elt F) v

theorem wp_loadM {cs : CoreSpace} {s : Shape} {e : EltTy} {m : Memref sig .tc cs s e} (v : s.Idx → Elt F e) (r : Rect s)
    {hl : m.view.LoadsAt r.toLoadRect} {K : (r.shape.Idx → Elt F e) → PR F} {Q : PUnit → sProp 𝕄} :
    mPts c m v ⊢ iprop((mPts c m v -∗ wpB c (K fun z => v (r.emb z)) Q) -∗ wpB c (.op (.load m r.toLoadRect hl) K) Q) := by
  unfold mPts
  have h := wp_load_rect (defs := defs₀ (F := F)) 𝒱₀ (c : Thread nD τ) none Set.univ (Γ := PendingWaitsCtx.empty) (m := m) (r := r) (hl := hl) (k := K) (Q := Q)
    (S := m.view.set) (q := fullShare) (f := m.view.rep (Val := Elt F) v) (View.set_slice_subset _ _)
  have e : (m.access r).read (Elt F) (m.view.rep (Val := Elt F) v) = fun z => v (r.emb z) := by
    funext z
    exact congrFun (View.read_rep (Val := Elt F) m.view v) (r.emb z)
  rw [e] at h
  exact h

theorem wp_loadM_whole {cs : CoreSpace} {s : Shape} {e : EltTy} {m : Memref sig .tc cs s e} (v : s.Idx → Elt F e)
    {off : Fin s.rank → ℕ} (hz : off = fun _ => 0) (inb : ∀ a, off a + s.size a ≤ s.size a)
    {hl : m.view.LoadsAt (Rect.unit off s.size inb).toLoadRect} {K : (s.Idx → Elt F e) → PR F} {Q : PUnit → sProp 𝕄} :
    mPts c m v ⊢ iprop((mPts c m v -∗ wpB c (K v) Q) -∗ wpB c (.op (.load m (Rect.unit off s.size inb).toLoadRect hl) K) Q) := by
  have h := wp_loadM c (m := m) v (Rect.unit off s.size inb) (hl := hl) (K := K) (Q := Q)
  subst hz
  have e : (fun z => v ((Rect.unit (fun _ => 0) s.size inb).emb z)) = v := by
    funext z
    refine congrArg v (funext fun a => Fin.ext ?_)
    rw [unit_emb_val, Nat.zero_add]
  rw [e] at h
  exact h

theorem wp_storeM {cs : CoreSpace} {s : Shape} {e : EltTy} {m : Memref sig .tc cs s e} (v : s.Idx → Elt F e) (r : Rect s)
    (w : r.shape.Idx → Elt F e) {hx : (m.access r).Stores Finset.univ} {hm : Finset.univ = Finset.univ ∨ ∀ a, r.stride a = 1}
    {K : PUnit → PR F} {Q : PUnit → sProp 𝕄} :
    mPts c m v ⊢ iprop((mPts c m (upd v r w) -∗ wpB c (K ⟨⟩) Q) -∗ wpB c (.op (.store m r w Finset.univ hx hm) K) Q) := by
  unfold mPts
  have h := wp_store (defs := defs₀ (F := F)) 𝒱₀ (c : Thread nD τ) none Set.univ (Γ := PendingWaitsCtx.empty) (m := m) (r := r) (w := w) (Mk := Finset.univ) (hx := hx) (hm := hm) (k := K) (Q := Q)
    (S := m.view.set) (f := m.view.rep (Val := Elt F) v) (View.set_slice_subset _ _)
  refine h.trans ?_
  iintro H Hk
  iapply H
  iintro Hm
  iapply Hk
  ihave Hm := (pointsTo_rep_entails (c : Thread nD τ) m _ fullShare) $$ Hm
  have e : m.view.read (Elt F) ((m.access r).write (Elt F) (m.view.rep (Val := Elt F) v) w Finset.univ) = upd v r w := by
    funext y
    by_cases hy : ∃ z, r.emb z = y
    · obtain ⟨z, rfl⟩ := hy
      rw [upd_emb]
      exact View.read_slice_write_emb r _ w (Finset.mem_univ z)
    · rw [upd_of_not v r w (fun z hz => hy ⟨z, hz⟩)]
      have := View.read_slice_write_of_not_mem r (m.view.rep (Val := Elt F) v) w Finset.univ (y := y) (fun hm => by
        obtain ⟨z, -, hz⟩ := Finset.mem_map.mp hm
        exact hy ⟨z, hz⟩)
      exact this.trans (congrFun (View.read_rep (Val := Elt F) m.view v) y)
  iapply (Entails.of_eq (congrArg (fun x => (m.view.loc (c : Thread nD τ) ↦[m.view.set]{fullShare} m.view.rep (Val := Elt F) x : sProp 𝕄)) e)) $$ Hm

/-! ## Slots -/

/-- What a load of slot `j` reads. -/
def slotX (m : Memref sig .tc .vmem S4x64x2048 .bf16) (j : Fin 4) (v : FVec F S64x2048 .bf16) : Vec F S1x64x2048 .bf16 :=
  m.view.readAt (Elt F) (slotR j).toLoadRect ((slot m j).view.rep (Val := Elt F) v)
theorem slotX_cast (m : Memref sig .tc .vmem S4x64x2048 .bf16) (j : Fin 4) (v : FVec F S64x2048 .bf16) :
    (shapeCast S64x2048 (slotX m j v) shapeCasts_S1x64x2048_S64x2048 : FVec F S64x2048 .bf16) = v :=
  View.read_rep (Val := Elt F) (slot m j).view v
theorem unpack_slotX (m : Memref sig .tc .vmem S4x64x2048 .bf16) (j : Fin 4) (v : FVec F S64x2048 .bf16) :
    unpackV (slotX m j v) = extf .f32 v bitsLt_bf16_f32 := by
  unfold unpackV; rw [slotX_cast]

theorem slot_set (m : Memref sig .tc .vmem S4x64x2048 .bf16) (j : Fin 4) : (slot m j).view.set = (m.access (slotR j)).set :=
  View.set_reshape _ _

theorem wp_loadSlot (i j : Fin 4) (q : PosShare TreeShare) (v : FVec F S64x2048 .bf16)
    {hl : (comm i).view.LoadsAt (slotR j).toLoadRect} {K : Vec F S1x64x2048 .bf16 → PR F} {Q : PUnit → sProp 𝕄} :
    commPts c i j q v ⊢ iprop((commPts c i j q v -∗ wpB c (K (slotX (comm i) j v)) Q) -∗ wpB c (.op (.load (comm i) (slotR j).toLoadRect hl) K) Q) := by
  unfold commPts
  exact wp_load_rect (defs := defs₀ (F := F)) 𝒱₀ (c : Thread nD τ) none Set.univ (Γ := PendingWaitsCtx.empty) (m := comm i) (r := slotR j) (hl := hl) (k := K) (Q := Q)
    (S := (slot (comm i) j).view.set) (q := q) (f := (slot (comm i) j).view.rep (Val := Elt F) v) (slot_set (comm i) j).symm.subset

theorem wp_putOut (i j : Fin 4) (v : FVec F S64x2048 .bf16) {K : PR F} {Q : PUnit → sProp 𝕄} :
    iprop(∃ v₀, outbPts c i j v₀) ⊢ iprop((outbPts c i j v -∗ wpB c K Q) -∗ wpB c (putOut i j v K) Q) := by
  unfold outbPts putOut
  iintro ⟨%v₀, H⟩ Hk
  iapply (wp_load_rect (defs := defs₀ (F := F)) 𝒱₀ (c : Thread nD τ) none Set.univ (Γ := PendingWaitsCtx.empty) (m := outb i) (r := slotR j) (Q := Q)
    (S := (slot (outb i) j).view.set) (q := fullShare) (f := (slot (outb i) j).view.rep (Val := Elt F) v₀) (slot_set (outb i) j).symm.subset) $$ H
  iintro H
  iapply (wp_store (defs := defs₀ (F := F)) 𝒱₀ (c : Thread nD τ) none Set.univ (Γ := PendingWaitsCtx.empty) (m := outb i) (r := slotR j) (w := packV v) (Q := Q)
    (S := (slot (outb i) j).view.set) (f := (slot (outb i) j).view.rep (Val := Elt F) v₀) (slot_set (outb i) j).symm.subset) $$ H
  iintro H
  iapply Hk
  ihave H := (pointsTo_rep_entails (c : Thread nD τ) (slot (outb i) j) _ fullShare) $$ H
  have e : (slot (outb i) j).view.read (Elt F) (((outb i).access (slotR j)).write (Elt F) ((slot (outb i) j).view.rep (Val := Elt F) v₀) (packV v) Finset.univ) = v := by
    have h1 : ((outb i).access (slotR j)).read (Elt F) (((outb i).access (slotR j)).write (Elt F) ((slot (outb i) j).view.rep (Val := Elt F) v₀) (packV v) Finset.univ) = packV v :=
      View.read_write_univ _ _
    refine (congrArg (fun x : Vec F S1x64x2048 .bf16 => (shapeCast S64x2048 x shapeCasts_S1x64x2048_S64x2048 : FVec F S64x2048 .bf16)) h1).trans ?_
    unfold packV
    rw [shapeCast_shapeCast]
  iapply (Entails.of_eq (congrArg (fun x => ((slot (outb i) j).view.loc (c : Thread nD τ) ↦[(slot (outb i) j).view.set]{fullShare} (slot (outb i) j).view.rep (Val := Elt F) x : sProp 𝕄)) e)) $$ H

/-! ## The result's buffer, band by band -/

/-- Band `i` of chunk `k`. -/
def band {α : Type} (v : S4096x2048.Idx → α) (k : Fin 16) (i : Fin 4) : S64x2048.Idx → α := fun z => v ((bR k i).emb z)

theorem wp_loadBand {m : Memref sig .tc .vmem S4096x2048 .f32} (v : S4096x2048.Idx → Elt F .f32) (k : Fin 16) (i : Fin 4)
    {off : Fin 2 → ℕ} (hoff : off = ![256 * k.val + 64 * i.val, 0]) {inb : ∀ a, off a + S64x2048.size a ≤ S4096x2048.size a}
    {hl : m.view.LoadsAt (Rect.unit (s := S4096x2048) off S64x2048.size inb).toLoadRect} {K : (S64x2048.Idx → Elt F .f32) → PR F} {Q : PUnit → sProp 𝕄} :
    mPts c m v ⊢ iprop((mPts c m v -∗ wpB c (K (band v k i)) Q)
      -∗ wpB c (.op (.load m (Rect.unit (s := S4096x2048) off S64x2048.size inb).toLoadRect hl) K) Q) := by
  subst hoff
  exact wp_loadM c v (bR k i)
theorem wp_storeBand {m : Memref sig .tc .vmem S4096x2048 .f32} (v : S4096x2048.Idx → Elt F .f32) (k : Fin 16) (i : Fin 4) (w : S64x2048.Idx → Elt F .f32)
    {off : Fin 2 → ℕ} (hoff : off = ![256 * k.val + 64 * i.val, 0]) {inb : ∀ a, off a + S64x2048.size a ≤ S4096x2048.size a}
    {hx : (m.access (Rect.unit (s := S4096x2048) off S64x2048.size inb)).Stores Finset.univ}
    {hm : Finset.univ = Finset.univ ∨ ∀ a, (Rect.unit (s := S4096x2048) off S64x2048.size inb).stride a = 1}
    {K : PUnit → PR F} {Q : PUnit → sProp 𝕄} :
    mPts c m v ⊢ iprop((mPts c m (upd v (bR k i) w) -∗ wpB c (K ⟨⟩) Q)
      -∗ wpB c (.op (.store m (Rect.unit (s := S4096x2048) off S64x2048.size inb) w Finset.univ hx hm) K) Q) := by
  subst hoff
  exact wp_storeM c v (bR k i) w

theorem bR_val (k : Fin 16) (i : Fin 4) (z : S64x2048.Idx) : ((bR k i).emb z 0).val = 256 * k.val + 64 * i.val + (z 0).val :=
  unit_emb_val (s := S4096x2048) ![256 * k.val + 64 * i.val, 0] S64x2048.size (inbB k i) z 0

theorem band_inj {k k' : Fin 16} {i i' : Fin 4} {z z' : S64x2048.Idx} (h : (bR k i).emb z = (bR k' i').emb z') : k = k' ∧ i = i' ∧ z = z' := by
  have h0 := congrArg (fun y : S4096x2048.Idx => (y 0).val) h
  have e1 : ((bR k i).emb z 0).val = 256 * k.val + 64 * i.val + (z 0).val := bR_val k i z
  have e2 : ((bR k' i').emb z' 0).val = 256 * k'.val + 64 * i'.val + (z' 0).val := bR_val k' i' z'
  have b1 : (z 0).val < 64 := (z 0).isLt
  have b2 : (z' 0).val < 64 := (z' 0).isLt
  dsimp only at h0
  rw [e1, e2] at h0
  have hi := i.isLt; have hi' := i'.isLt
  have hk : k = k' := Fin.ext (by omega)
  subst hk
  have hii : i = i' := Fin.ext (by omega)
  subst hii
  exact ⟨rfl, rfl, (bR k i).emb.injective h⟩

theorem band_upd {α : Type} (v : S4096x2048.Idx → α) (k : Fin 16) (i : Fin 4) (w : S64x2048.Idx → α) : band (upd v (bR k i) w) k i = w :=
  funext fun z => upd_emb v (bR k i) w z
theorem band_upd_other {α : Type} (v : S4096x2048.Idx → α) {k k' : Fin 16} {i i' : Fin 4} (w : S64x2048.Idx → α) (h : ¬ (k = k' ∧ i = i')) :
    band (upd v (bR k i) w) k' i' = band v k' i' := by
  funext z
  refine upd_of_not v (bR k i) w fun z' hz => h ?_
  have := band_inj hz
  exact ⟨this.1, this.2.1⟩

/-- A chunk's box holds its four bands. -/
theorem chunk_emb (k : Fin 16) (i : Fin 4) (z : S64x2048.Idx) : (oR k).emb ((hR i).emb z) = (bR k i).emb z := by
  funext a
  refine Fin.ext ?_
  have e1 := unit_emb_val _ _ (inbO k) ((hR i).emb z) a
  have e2 := unit_emb_val (s := S256x2048) _ _ (inbH i) z a
  have e3 := unit_emb_val _ _ (inbB k i) z a
  refine e1.trans (Eq.trans ?_ e3.symm)
  refine (congrArg (_ + ·) e2).trans ?_
  fin_cases a
  · show 256 * k.val + (64 * i.val + _) = 256 * k.val + 64 * i.val + _
    omega
  · show 0 + (0 + _) = 0 + _
    omega
theorem band_chunk {α : Type} (v : S4096x2048.Idx → α) (k : Fin 16) (i : Fin 4) (w : S256x2048.Idx → α) :
    band (upd v (oR k) w) k i = fun z => w ((hR i).emb z) := by
  funext z
  unfold band
  rw [← chunk_emb]
  exact upd_emb v (oR k) w _
theorem band_chunk_other {α : Type} (v : S4096x2048.Idx → α) {k k' : Fin 16} (i : Fin 4) (w : S256x2048.Idx → α) (h : k ≠ k') :
    band (upd v (oR k) w) k' i = band v k' i := by
  funext z
  refine upd_of_not v (oR k) w fun y hy => h ?_
  have h0 := congrArg (fun y : S4096x2048.Idx => (y 0).val) hy
  have e1 : ((oR k).emb y 0).val = 256 * k.val + (y 0).val := unit_emb_val _ _ (inbO k) y 0
  have e2 : ((bR k' i).emb z 0).val = 256 * k'.val + 64 * i.val + (z 0).val := bR_val k' i z
  have b1 : (y 0).val < 256 := (y 0).isLt
  have b2 : (z 0).val < 64 := (z 0).isLt
  have hi := i.isLt
  dsimp only at h0
  rw [e1, e2] at h0
  exact Fin.ext (by omega)

/-- Every element lies in a band. -/
theorem band_cover (y : S4096x2048.Idx) : ∃ (k : Fin 16) (i : Fin 4) (z : S64x2048.Idx), (bR k i).emb z = y := by
  have h0 : (y 0).val < 4096 := (y 0).isLt
  have h1 : (y 1).val < 2048 := (y 1).isLt
  refine ⟨⟨(y 0).val / 256, by omega⟩, ⟨(y 0).val % 256 / 64, by omega⟩, fun a => match a with
    | ⟨0, _⟩ => ⟨(y 0).val % 64, Nat.mod_lt _ (by decide)⟩ | ⟨1, _⟩ => ⟨(y 1).val, h1⟩, ?_⟩
  funext a
  refine Fin.ext ?_
  rw [unit_emb_val]
  fin_cases a
  · show 256 * ((y 0).val / 256) + 64 * ((y 0).val % 256 / 64) + (y 0).val % 64 = (y 0).val
    omega
  · show 0 + (y 1).val = (y 1).val
    omega
theorem band_ext {α : Type} {v v' : S4096x2048.Idx → α} (h : ∀ k i, band v k i = band v' k i) : v = v' := by
  funext y
  obtain ⟨k, i, z, rfl⟩ := band_cover y
  exact congrFun (h k i) z
open Classical in
/-- The contents with the given bands. -/
def ofBands {α : Type} (f : Fin 16 → Fin 4 → S64x2048.Idx → α) : S4096x2048.Idx → α := fun y =>
  f (band_cover y).choose (band_cover y).choose_spec.choose (band_cover y).choose_spec.choose_spec.choose
theorem band_ofBands {α : Type} (f : Fin 16 → Fin 4 → S64x2048.Idx → α) (k : Fin 16) (i : Fin 4) : band (ofBands f) k i = f k i := by
  funext z
  have h := band_inj (band_cover ((bR k i).emb z)).choose_spec.choose_spec.choose_spec
  unfold band ofBands
  rw [h.2.2, h.2.1, h.1]

end Cert.KernelIdeal.Proof
-- ==== Proof.Ideal.State.lean ====
/- What a device holds of a ring between its steps. -/
module

public import proofs.«01_k».proof.Proof.Ideal.Mem
public import Idealize.SL.BI.BigOpNat

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (κ : Dev nD × CK → ℕ) (ς : Key → ℕ) (c : Dev nD) (i : Fin 4)

theorem big_at (j : Fin 4) (Φ : Fin 4 → sProp 𝕄) : bigSep Finset.univ Φ = iprop(Φ j ∗ bigSep (Finset.univ.erase j) Φ) := bigSep_univ_split j
theorem big_ins {w : ℕ} {s : Finset ℕ} (h : w ∉ s) (Φ : ℕ → sProp 𝕄) : bigSep (insert w s) Φ = iprop(Φ w ∗ bigSep s Φ) := bigSep_insert h

theorem Ico_nil {a b : ℕ} (h : b ≤ a) (Φ : ℕ → sProp 𝕄) : bigSep (Finset.Ico a b) Φ = iprop(emp) := by
  rw [Finset.Ico_eq_empty_of_le h]; exact bigSep_empty

/-! ## Places at the cells of the slots -/

/-- The places at four cells, one per slot, before send (arrival) `w`. -/
def PosAll (kf : Fin 4 → CK) (w : ℕ) : sProp 𝕄 := bigSep Finset.univ fun j => Pos (F := F) c (kf j) (rn w j)

theorem PosAll_take (kf : Fin 4 → CK) (w : ℕ) :
    PosAll (F := F) c kf w ⊢ iprop(Pos c (kf (sw w)) (rnd w) ∗ (Pos c (kf (sw w)) (rnd w + 1) -∗ PosAll c kf (w + 1))) := by
  unfold PosAll
  rw [big_at (sw w) (fun j => Pos (F := F) c (kf j) (rn w j)), big_at (sw w) (fun j => Pos (F := F) c (kf j) (rn (w + 1) j)), rn_self]
  have h : bigSep (Finset.univ.erase (sw w)) (fun j => Pos (F := F) c (kf j) (rn w j)) = bigSep (Finset.univ.erase (sw w)) (fun j => Pos c (kf j) (rn (w + 1) j)) :=
    bigSep_congr fun j hj => by rw [rn_other (Finset.ne_of_mem_erase hj).symm]
  rw [h]
  iintro ⟨H1, H2⟩
  isplitl [H1]; · iexact H1
  iintro H1
  isplitl [H1]; · iexact H1
  iexact H2
theorem PosAll_reached (kf : Fin 4 → CK) (w : ℕ) (j : Fin 4) :
    PosAll (F := F) c kf w ⊢ iprop(PosAll c kf w ∗ reached ER (kcell c (kf j)) (rn w j)) := by
  unfold PosAll Pos
  rw [big_at j (fun j => iprop(atPos ER (kcell c (kf j)) (rn w j) ∅ 0 ∗ reached (ER (F := F)) (kcell c (kf j)) (rn w j)))]
  iintro ⟨⟨H1, #H2⟩, H3⟩
  isplitl
  · isplitl [H1]
    · isplitl [H1]; · iexact H1
      iexact H2
    iexact H3
  iexact H2

theorem rnd_rs : ∀ s < 14, rnd (s + 1) = rn (s + 1 - 3) (sw (s + 1)) := by decide +kernel
theorem rnd_ag : ∀ t < 14, rnd (16 + t) = rn (15 + t) (sw (16 + t)) := by decide +kernel
theorem sw_back : ∀ s < 15, 3 ≤ s → sw (s - 3) = sl (s + 1) := by decide +kernel

/-! ## Stocks -/

/-- The rights of the sends from `w` on. -/
def SK (w : ℕ) : sProp 𝕄 := bigSep (Finset.Ico w 30) fun v => SendToks (F := F) c i v
/-- The credits of the arrivals and the rights of the credits to grant, from `w` on. -/
def ST (w : ℕ) : sProp 𝕄 := bigSep (Finset.Ico w 30) fun v => iprop(rcvCred (F := F) c i v ∗ dutyTok ER (kcell (upD i c) (.cr i)) 0 v)
/-- The credit cell, `m` credits taken. -/
def CrS (m : ℕ) : sProp 𝕄 := iprop(Cr (F := F) c i m ∗ bigSep (Finset.Ico m 30) fun q => crdCred c i q)
/-- The slots still to be freed from step `w` on, and those freed. -/
def FR (w : ℕ) : sProp 𝕄 :=
  iprop((bigSep (freesFrom w) fun v => readerAt (ES (F := F)) (c, i, freed v) 0) ∗ bigSep (freeSet w) fun v => released (ES (F := F)) (c, i, v) 1)

theorem SK_take {w : ℕ} (h : w < 30) : SK (F := F) c i w = iprop(SendToks c i w ∗ SK c i (w + 1)) := bigSep_Ico_succ_bot h _
theorem ST_take {w : ℕ} (h : w < 30) :
    ST (F := F) c i w = iprop((rcvCred c i w ∗ dutyTok ER (kcell (upD i c) (.cr i)) 0 w) ∗ ST c i (w + 1)) := bigSep_Ico_succ_bot h _

/-- A wait for one more credit. -/
theorem wp_credit1 {m n : ℕ} (hm : m + 1 ≤ 30) (h3 : 3 ≤ n) (hn : ∀ q < m + 1, lvG q i < n) (hn' : n < 300) {K : PR F} {Q : PUnit → sProp 𝕄} :
    iprop(Recs I κ ς ∗ OwesX c n ∗ CrS c i m)
      ⊢ iprop(((OwesX c n ∗ CrS c i (m + 1)) -∗ wpB c K Q) -∗ wpB c (waitCredit i 1#32 K) Q) := by
  unfold CrS
  rw [bigSep_Ico_succ_bot (show m < 30 by omega)]
  iintro ⟨#HR, HO, HC, Hc, Hcs⟩ Hk
  iapply (wp_waitCredit I κ ς c i (m := m) (k := 1) (b := 1#32) (by decide) hm h3 hn hn') $$ [Hc HO HC]
  · isplitr; · iexact HR
    isplitl [Hc]
    · rw [bigSep_Ico_one]; iexact Hc
    isplitl [HO]; · iexact HO
    iexact HC
  iintro ⟨HO, HC⟩
  iapply Hk
  isplitl [HO]; · iexact HO
  isplitl [HC]; · iexact HC
  iexact Hcs

theorem CrS_known {m : ℕ} (hm : 1 ≤ m) (hm' : m ≤ 30) {n : ℕ} (hn : n ≤ pre (m - 1)) :
    CrS (F := F) c i m ⊢ iprop(CrS c i m ∗ Known (dnD i c) i n) := by
  unfold CrS Cr
  iintro ⟨⟨%S, Hat, %hS, #H⟩, Hc⟩
  isplitl
  · isplitl [Hat]
    · iexists S
      isplitl [Hat]; · iexact Hat
      isplitr; · ipureintro; exact hS
      iexact H
    iexact Hc
  have h : ∃ q ∈ S, m - 1 ≤ q := by
    by_contra hx
    push Not at hx
    have h1 : S ⊆ Finset.range (m - 1) := fun q hq => Finset.mem_range.mpr (hx q hq)
    have h2 := Finset.card_le_card h1
    rw [Finset.card_range] at h2
    omega
  obtain ⟨q, hq, hle⟩ := h
  ihave H' := (show (bigSep S fun q => Known (F := F) (dnD i c) i (pre q)) ⊢ Known (dnD i c) i (pre q) from bigSep_elim hq) $$ H
  iapply (Known_mono (dnD i c) i (hn.trans (pre_mono (m - 1) (by omega) q (Finset.mem_range.mp (hS.1 hq)) hle))) $$ H'

theorem OwesX_skip {n : ℕ} (h : ∀ e : Ev, e.lvl ≠ n) : OwesX (F := F) c n ⊢ OwesX c (n + 1) := by
  unfold OwesX; rw [Ow_skip c h]

/-! ## Freeing slots -/

theorem slot_nonempty (i j : Fin 4) : (slot (comm i) j).view.set.Nonempty :=
  ⟨_, View.emb_mem_set _ (fun a => ⟨0, by fin_cases a <;> decide⟩)⟩
theorem freeSlot_excl (k : Key) : iprop(freeSlot (F := F) k ∗ freeSlot k) ⊢ (False : sProp 𝕄) := by
  unfold freeSlot commPts
  obtain ⟨x, hx⟩ := slot_nonempty k.2.1 (sw k.2.2)
  iintro ⟨⟨⟨%v, H1⟩, -⟩, ⟨%v', H2⟩, -⟩
  iapply (show iprop(((slot (comm k.2.1) (sw k.2.2)).view.loc (k.1 : Thread nD τ) ↦[(slot (comm k.2.1) (sw k.2.2)).view.set]{fullShare} (slot (comm k.2.1) (sw k.2.2)).view.rep (Val := Elt F) v)
      ∗ ((slot (comm k.2.1) (sw k.2.2)).view.loc (k.1 : Thread nD τ) ↦[(slot (comm k.2.1) (sw k.2.2)).view.set]{fullShare} (slot (comm k.2.1) (sw k.2.2)).view.rep (Val := Elt F) v'))
      ⊢ (False : sProp 𝕄) from pointsTo_overlap_false hx hx)
  isplitl [H1]; · iexact H1
  iexact H2

theorem FR_step {w : ℕ} (hw : w < 30) (hf : frees w = true) (hlt : w < 27) (j : Fin 4) (hj : sw (freed w) = j) :
    iprop(Recs I κ ς ∗ FR c i w ∗ (∃ v, commPts c i j fullShare v) ∗ reached ER (kcell c (.rc i j)) (rnd (freed w)))
      ⊢ |={Set.univ}=> FR (F := F) c i (w + 1) := by
  subst hj
  unfold FR
  rw [(freesFrom_of w hw hf).1, big_ins (freesFrom_of w hw hf).2, freeSet_succ_of hf]
  iintro ⟨#HR, ⟨⟨Hr, Hrs⟩, #Hf⟩, Hp, Hre⟩
  ihave #Hsl := (Recs_slot I κ ς (c := c) (i := i) (freed_lt w hlt hf).2) $$ HR
  imod (slot_release (ES (F := F)) (k := (c, i, freed w)) (S := freeSlot (F := F) (c, i, freed w)) (Es := Set.univ) (Set.mem_univ _) (freeSlot_excl _) 0) $$ [Hr Hp Hre] with ⟨-, #Hd⟩
  · isplitr; · iexact Hsl
    isplitl [Hr]; · iexact Hr
    unfold freeSlot
    isplitl [Hp]; · iexact Hp
    iexact Hre
  imodintro
  isplitl [Hrs]; · iexact Hrs
  by_cases hm : freed w ∈ freeSet w
  · rw [Finset.insert_eq_of_mem hm]; iexact Hf
  · iapply (show iprop(released (ES (F := F)) (c, i, freed w) 1 ∗ bigSep (freeSet w) fun v => released (ES (F := F)) (c, i, v) 1)
      ⊢ bigSep (insert (freed w) (freeSet w)) fun v => released (ES (F := F)) (c, i, v) 1 from Entails.of_eq (big_ins hm fun v => released (ES (F := F)) (c, i, v) 1).symm)
    isplitr; · iexact Hd
    iexact Hf
theorem FR_skip {w : ℕ} (hw : w < 30) (hf : ¬ frees w = true) : FR (F := F) c i w = FR c i (w + 1) := by
  unfold FR; rw [freesFrom_not w hw hf, freeSet_succ_not hf]
theorem FR_known {w n : ℕ} (h : Finset.range n ⊆ freeSet w) : FR (F := F) c i w ⊢ iprop(FR c i w ∗ Known c i n) := by
  unfold FR Known
  iintro ⟨H, #Hf⟩
  isplitl
  · isplitl [H]; · iexact H
    iexact Hf
  iapply (show (bigSep (freeSet w) fun v => released (ES (F := F)) (c, i, v) 1) ⊢ bigSep (Finset.range n) fun v => released (ES (F := F)) (c, i, v) 1 from bigSep_subset h)
  iexact Hf

/-- The credit of step `w`. -/
theorem wp_grantStep {w : ℕ} (hw : w < 30) {n : ℕ} (hn : n = lvG w i) {K : PR F} {Q : PUnit → sProp 𝕄} :
    iprop(Recs I κ ς ∗ OwesX c n ∗ dutyTok ER (kcell (upD i c) (.cr i)) 0 w ∗ FR c i (w + 1))
      ⊢ iprop(((OwesX c (n + 1) ∗ FR c i (w + 1)) -∗ wpB c K Q) -∗ wpB c (grant c i K) Q) := by
  iintro ⟨#HR, HO, Ht, HF⟩ Hk
  ihave HF := (FR_known c i (pre_sub w hw)) $$ HF
  icases HF with ⟨HF, #HK⟩
  iapply (wp_grant I κ ς c i hw hn) $$ [HO Ht]
  · isplitr; · iexact HR
    isplitl [HO]; · iexact HO
    isplitl [Ht]; · iexact Ht
    iexact HK
  iintro HO
  iapply Hk
  isplitl [HO]; · iexact HO
  iexact HF

end Cert.KernelIdeal.Proof
-- ==== Proof.Ideal.StepsR.lean ====
/- One step of the reduction. -/
module

public import proofs.«01_k».proof.Proof.Ideal.State
public import Idealize.SL.BI.BigOpNat

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (κ : Dev nD × CK → ℕ) (ς : Key → ℕ) (A : Args) (c : Dev nD) (i : Fin 4)

theorem off4_eq : ∀ (d : Dev nD) (i : Fin 4) (n : Fin 16), k0_off4 d (stepW i n.val) (baseW i) = ![256 * (ck i d n.val).val + 64 * i.val, 0] := by
  decide +kernel

theorem lvl_ne_send (i : Fin 4) (e : Ev) : e.lvl ≠ 3 + 8 * 15 + 2 * rho i := by
  have hi := rho_le i
  rcases e with b | ⟨w, j⟩ | ⟨w, j⟩ <;> dsimp only [Ev.lvl]
  · cases b <;> simp <;> omega
  · have := rho_le j; split <;> omega
  · have := rho_le j; split <;> omega
theorem lvl_ne_last (i : Fin 4) (e : Ev) : e.lvl ≠ 3 + 8 * 31 + 2 * rho i := by
  have hi := rho_le i
  rcases e with b | ⟨w, j⟩ | ⟨w, j⟩ <;> dsimp only [Ev.lvl]
  · cases b <;> simp <;> omega
  · have := rho_le j; have := w.isLt; split <;> omega
  · have := rho_le j; split <;> omega
theorem lvl_ne_grant (i : Fin 4) (σ : ℕ) (hσ : σ = 0 ∨ σ = 16) (e : Ev) : e.lvl ≠ 3 + 8 * σ + 2 * rho i + 1 := by
  have hi := rho_le i
  rcases e with b | ⟨w, j⟩ | ⟨w, j⟩ <;> dsimp only [Ev.lvl]
  · cases b <;> simp <;> omega
  · have := rho_le j; split <;> omega
  · have := rho_le j; split <;> omega

/-- The outgoing slots and their sends before step `s` of the reduction. -/
def Out (s : ℕ) : sProp 𝕄 :=
  iprop(PosAll (F := F) c (CK.sn i) (s - 3) ∗ (bigSep (Finset.Ico (s - 3) (s + 1)) fun v => sndCred c i v)
    ∗ bigSep (Finset.Ico (s + 1) 4) fun v => iprop(∃ x, outbPts c i (sl v) x))
/-- The same once the slot of step `s`'s send is free. -/
def Out' (s : ℕ) : sProp 𝕄 :=
  iprop(PosAll (F := F) c (CK.sn i) (s + 1 - 3) ∗ (bigSep (Finset.Ico (s + 1 - 3) (s + 1)) fun v => sndCred c i v)
    ∗ bigSep (Finset.Ico (s + 1 + 1) 4) fun v => iprop(∃ x, outbPts c i (sl v) x))

theorem sndPay_rs {w : ℕ} (h : w < 15) : sndPay I c i w = iprop(∃ v, outbPts c i (sw w) v) := if_pos h

theorem sl_sub {s : ℕ} (h : 3 ≤ s) : sl (s - 3) = sl (s + 1) := Fin.ext (by show (s - 3) % 4 = (s + 1) % 4; omega)

theorem wp_outWait {s : ℕ} (hs : s < 15) {n : ℕ} (hn : 3 ≤ n) (hn' : n < 300) {K : PR F} {Q : PUnit → sProp 𝕄} :
    iprop(Recs I κ ς ∗ OwesX c n ∗ Out c i s)
      ⊢ iprop(((OwesX c n ∗ Out' c i s ∗ ∃ v, outbPts c i (sl (s + 1)) v) -∗ wpB c K Q)
        -∗ wpB c ((fun K : PR F => bif Nat.ble 3 s then waitSnd i (sl (s - 3)) (slot (outb i) (sl (s - 3))) (slot_words (outb_whole i) _) K else K) K) Q) := by
  unfold Out Out'
  by_cases h : 3 ≤ s
  · have hb : Nat.ble 3 s = true := Nat.ble_eq.mpr h
    have hw : sw (s - 3) = sl (s - 3) := sw_rs (by omega)
    have e1 : s + 1 - 3 = s - 3 + 1 := by omega
    simp only [hb, cond_true]
    rw [bigSep_Ico_succ_bot (show s - 3 < s + 1 by omega), e1,
      Ico_nil (show 4 ≤ s + 1 by omega), Ico_nil (show 4 ≤ s + 1 + 1 by omega)]
    iintro ⟨#HR, HO, HP, ⟨Hc, Hcs⟩, -⟩ Hk
    ihave HP := (PosAll_take c (CK.sn i) (s - 3)) $$ HP
    icases HP with ⟨Hp, HP⟩
    iapply (wp_waitSnd I κ ς c i (w := s - 3) (by omega) hw (slot (outb i) (sl (s - 3))) (slot_words (outb_whole i) _) (N_outb i _) hn hn') $$ [HO Hc Hp]
    · isplitr; · iexact HR
      isplitl [Hc]; · iexact Hc
      isplitl [HO]; · iexact HO
      rw [← hw]; iexact Hp
    iintro ⟨HO, Hp, Hpay⟩
    iapply Hk
    isplitl [HO]; · iexact HO
    isplitr [Hpay]
    · isplitl [HP Hp]
      · iapply HP; rw [hw]; iexact Hp
      isplitl [Hcs]; · iexact Hcs
      iempintro
    have e : sndPay I c i (s - 3) = iprop(∃ v, outbPts c i (sl (s + 1)) v) := by
      rw [sndPay_rs I c i (show s - 3 < 15 by omega), hw, sl_sub h]
    iapply (Entails.of_eq e); iexact Hpay
  · have hb : Nat.ble 3 s = false := by
      rw [Bool.eq_false_iff]; exact fun hx => h (Nat.ble_eq.mp hx)
    have e1 : s + 1 - 3 = s - 3 := by omega
    simp only [hb, cond_false]
    rw [e1, bigSep_Ico_succ_bot (show s + 1 < 4 by omega)]
    iintro ⟨#HR, HO, HP, Hcs, Ho, Hos⟩ Hk
    iapply Hk
    isplitl [HO]; · iexact HO
    isplitr [Ho]
    · isplitl [HP]; · iexact HP
      isplitl [Hcs]; · iexact Hcs
      iexact Hos
    iexact Ho

/-- The wait for the slot of step `s`'s send to be free at the reader. -/
theorem wp_rsCredit {s : ℕ} (hs : s < 14) {n : ℕ} (hn : n = lvS (s + 1) i) {K : PR F} {Q : PUnit → sProp 𝕄} :
    iprop(Recs I κ ς ∗ OwesX c n ∗ CrS c i (s - 3) ∗ Known (dnD i c) i 4)
      ⊢ iprop(((OwesX c n ∗ CrS c i (s + 1 - 3) ∗ Known (dnD i c) i (s + 1 + 1)) -∗ wpB c K Q)
        -∗ wpB c ((fun K : PR F => bif Nat.ble 3 s then waitCredit i 1#32 K else K) K) Q) := by
  have hr := rho_le i
  by_cases h : 3 ≤ s
  · have hb : Nat.ble 3 s = true := Nat.ble_eq.mpr h
    have e1 : s + 1 - 3 = s - 3 + 1 := by omega
    simp only [hb, cond_true]
    rw [e1]
    iintro ⟨#HR, HO, HC, #HK⟩ Hk
    iapply (wp_credit1 I κ ς c i (m := s - 3) (n := n) (by omega) (by rw [hn]; exact le_lvS _ _)
      (by intro q hq; subst hn; unfold lvG lvS; rw [if_pos (by omega), if_pos (by omega)]; omega)
      (by subst hn; unfold lvS; rw [if_pos (by omega)]; omega)) $$ [HO HC]
    · isplitr; · iexact HR
      isplitl [HO]; · iexact HO
      iexact HC
    iintro ⟨HO, HC⟩
    ihave HC := (CrS_known c i (m := s - 3 + 1) (by omega) (by omega) (n := s + 1 + 1) (by unfold pre; rw [if_pos (by omega)]; omega)) $$ HC
    icases HC with ⟨HC, HK'⟩
    iapply Hk
    isplitl [HO]; · iexact HO
    isplitl [HC]; · iexact HC
    iexact HK'
  · have hb : Nat.ble 3 s = false := by
      rw [Bool.eq_false_iff]; exact fun hx => h (Nat.ble_eq.mp hx)
    have e1 : s + 1 - 3 = s - 3 := by omega
    simp only [hb, cond_false]
    rw [e1]
    iintro ⟨#HR, HO, HC, #HK⟩ Hk
    iapply Hk
    isplitl [HO]; · iexact HO
    isplitl [HC]; · iexact HC
    iapply (Known_mono (dnD i c) i (show s + 1 + 1 ≤ 4 by omega)); iexact HK

/-- The send of step `s`. -/
theorem wp_rsSend {s : ℕ} (hs : s < 14) {n : ℕ} (hn : n = lvS (s + 1) i) {K : PR F} {Q : PUnit → sProp 𝕄} :
    iprop(Recs I κ ς ∗ OwesX c n ∗ CrS c i (s - 3) ∗ Known (dnD i c) i 4 ∗ Out' c i s ∗ SK c i (s + 1) ∗ ∃ v, outbPts c i (sl (s + 1)) v)
      ⊢ iprop(((OwesX c (n + 1) ∗ CrS c i (s + 1 - 3) ∗ Out c i (s + 1) ∗ SK c i (s + 1 + 1)) -∗ wpB c K Q)
        -∗ wpB c (putOut i (sl (s + 1)) (truncf .bf16 (acc I (s + 1) i c) bitsLt_bf16_f32) <|
          (fun K : PR F => bif Nat.ble 3 s then waitCredit i 1#32 K else K) <|
          sendTo c i (sl (s + 1)) (slot (outb i) (sl (s + 1))) (slot_words (outb_whole i) _) K) Q) := by
  rw [SK_take c i (show s + 1 < 30 by omega)]
  have hw : sw (s + 1) = sl (s + 1) := sw_rs (by omega)
  iintro ⟨#HR, HO, HC, #HK, HOut, ⟨Ht, HS⟩, Hb⟩ Hk
  iapply (wp_putOut c i (sl (s + 1)) _) $$ Hb
  iintro Hb
  iapply (wp_rsCredit I κ ς c i hs hn) $$ [HO HC]
  · isplitr; · iexact HR
    isplitl [HO]; · iexact HO
    isplitl [HC]; · iexact HC
    iexact HK
  iintro ⟨HO, HC, #HK'⟩
  unfold Out'
  icases HOut with ⟨HP, Hcs, Hos⟩
  ihave HP := (PosAll_reached c (CK.sn i) _ (sl (s + 1))) $$ HP
  icases HP with ⟨HP, #Hre⟩
  rw [← hw, ← rnd_rs s hs, hw]
  unfold outbPts
  iapply (wp_sendTo I κ ς c i (w := s + 1) (by omega) hw (slot (outb i) (sl (s + 1))) (slot_words (outb_whole i) _) fullShare _
    ((View.read_rep (Val := Elt F) _ _).trans (sent_rs I (show s + 1 < 15 by omega) i c).symm)
    (by
      rw [sndPay_rs I c i (show s + 1 < 15 by omega), hw]
      iintro H
      iexists _
      unfold outbPts
      iexact H) hn) $$ [HO Ht Hb]
  · isplitr; · iexact HR
    isplitl [Hb]; · iexact Hb
    isplitl [HO]; · iexact HO
    isplitl [Ht]; · iexact Ht
    isplitr; · iexact Hre
    iexact HK'
  iintro ⟨Hc, HO⟩
  iapply Hk
  isplitl [HO]; · iexact HO
  isplitl [HC]; · iexact HC
  isplitr [HS]
  · unfold Out
    isplitl [HP]; · iexact HP
    isplitl [Hc Hcs]
    · rw [bigSep_Ico_succ_top (show s + 1 - 3 ≤ s + 1 by omega)]
      isplitl [Hc]; · iexact Hc
      iexact Hcs
    iexact Hos
  iexact HS

/-- A ring before step `s` of the reduction. -/
def RS (s : ℕ) : sProp 𝕄 :=
  iprop(PosAll (F := F) c (CK.rc i) s ∗ Out c i s ∗ CrS c i (s - 3) ∗ Known (dnD i c) i 4 ∗ SK c i (s + 1) ∗ ST c i s ∗ FR c i s)
/-- A ring after the reduction's last step. -/
def RE : sProp 𝕄 :=
  iprop(PosAll (F := F) c (CK.rc i) 15 ∗ Out' c i 14 ∗ (∃ v, outbPts c i 3 v) ∗ CrS c i 11 ∗ SK c i 15 ∗ ST c i 15 ∗ FR c i 15)
/-- A ring after step `s`. -/
def RN (s : ℕ) : sProp 𝕄 := if s < 14 then RS (F := F) c i (s + 1) else RE c i

/-- The level at which ring `i` starts step `σ`. -/
abbrev lvO (σ : ℕ) (i : Fin 4) : ℕ := 3 + 8 * σ + 2 * rho i

theorem accV_eq {s : ℕ} (hs : s < 15) (a : Vec F S64x2048 .f32) (ha : a = bandV I c (ck i c (s + 1)) i) :
    accV a (slotX (comm i) (sl s) (msg I s i c)) = acc I (s + 1) i c := by
  subst ha
  unfold accV
  rw [unpack_slotX, shapeCast_self]
  unfold msg
  rw [sent_rs I hs]; rfl

theorem wp_rsStep {s : ℕ} (hs : s < 15) (v : S4096x2048.Idx → Elt F .f32) (hv : band v (ck i c (s + 1)) i = bandV I c (ck i c (s + 1)) i)
    {K : PR F} {Q : PUnit → sProp 𝕄} :
    iprop(Recs I κ ς ∗ OwesX c (lvO (s + 1) i) ∗ RS c i s ∗ mPts c A.o v)
      ⊢ iprop(((OwesX c (lvO (s + 1) i + 2) ∗ RN c i s ∗ mPts c A.o (upd v (bR (ck i c (s + 1)) i) (acc I (s + 1) i c))) -∗ wpB c K Q)
        -∗ wpB c (rsStep A c i ⟨s, hs⟩ K) Q) := by
  have hr := rho_le i
  have hw : sw s = sl s := sw_rs hs
  unfold RS rsStep
  rw [ST_take c i (show s < 30 by omega)]
  iintro ⟨#HR, HO, ⟨HP, HOut, HC, #HK, HS, ⟨⟨Hrc, Hgt⟩, HT⟩, HF⟩, Ho⟩ Hk
  ihave HP := (PosAll_take c (CK.rc i) s) $$ HP
  icases HP with ⟨Hp, HP⟩
  iapply (wp_waitRcv I κ ς c i (w := s) (by omega) hw (slot (outb i) (sl s)) (slot_words (outb_whole i) _)
    (n := lvO (s + 1) i) (by unfold lvS lvO; rw [if_pos hs]; omega) (by unfold lvO; omega)) $$ [Hrc HO Hp]
  · isplitr; · iexact HR
    isplitl [Hrc]; · iexact Hrc
    isplitl [HO]; · iexact HO
    rw [← hw]; iexact Hp
  iintro ⟨HO, Hp, Hcm⟩
  ihave HP := HP $$ [Hp]
  · rw [hw]; iexact Hp
  iapply (wp_outWait I κ ς c i hs (n := lvO (s + 1) i) (by unfold lvO; omega) (by unfold lvO; omega)) $$ [HO HOut]
  · isplitr; · iexact HR
    isplitl [HO]; · iexact HO
    iexact HOut
  iintro ⟨HO, HOut, Hb⟩
  iapply (wp_loadBand c v (ck i c (s + 1)) i (off4_eq c i ⟨s + 1, by omega⟩)) $$ Ho
  iintro Ho
  iapply (wp_loadSlot c i (sl s) fullShare _) $$ Hcm
  iintro Hcm
  iapply (wp_loadBand c v (ck i c (s + 1)) i (off4_eq c i ⟨s + 1, by omega⟩)) $$ Ho
  iintro Ho
  iapply (wp_storeBand c v (ck i c (s + 1)) i _ (off4_eq c i ⟨s + 1, by omega⟩)) $$ Ho
  rw [accV_eq I c i hs _ hv]
  iintro Ho
  -- the slot read is freed
  have hf := freed_rs s hs
  ihave HP := (PosAll_reached c (CK.rc i) (s + 1) (sl s)) $$ HP
  icases HP with ⟨HP, #Hre⟩
  imod (FR_step I κ ς c i (show s < 30 by omega) hf.1 (show s < 27 by omega) (sl s) (hf.2.1.trans hw)) $$ [HF Hcm] with HF
  · isplitr; · iexact HR
    isplitl [HF]; · iexact HF
    isplitl [Hcm]; · iexists _; iexact Hcm
    rw [hf.2.2, hw]; iexact Hre
  by_cases h : s < 14
  · have hb : Nat.blt s 14 = true := Nat.blt_eq.mpr h
    simp only [hb, cond_true]
    iapply (wp_rsSend I κ ς c i h (n := lvO (s + 1) i) (by unfold lvS; rw [if_pos (by omega)])) $$ [HO HC HOut HS Hb]
    · isplitr; · iexact HR
      isplitl [HO]; · iexact HO
      isplitl [HC]; · iexact HC
      isplitr; · iexact HK
      isplitl [HOut]; · iexact HOut
      isplitl [HS]; · iexact HS
      iexact Hb
    iintro ⟨HO, HC, HOut, HS⟩
    iapply (wp_grantStep I κ ς c i (w := s) (by omega) (n := lvO (s + 1) i + 1) (by unfold lvG; rw [if_pos hs])) $$ [HO Hgt HF]
    · isplitr; · iexact HR
      isplitl [HO]; · iexact HO
      isplitl [Hgt]; · iexact Hgt
      iexact HF
    iintro ⟨HO, HF⟩
    iapply Hk
    isplitl [HO]; · iexact HO
    isplitr [Ho]
    · unfold RN
      rw [if_pos h]
      unfold RS
      isplitl [HP]; · iexact HP
      isplitl [HOut]; · iexact HOut
      isplitl [HC]; · iexact HC
      isplitr; · iexact HK
      isplitl [HS]; · iexact HS
      isplitl [HT]; · iexact HT
      iexact HF
    iexact Ho
  · obtain rfl : s = 14 := by omega
    have hb : Nat.blt 14 14 = false := by decide
    simp only [hb, cond_false]
    ihave HO := (OwesX_skip c (lvl_ne_send i)) $$ HO
    iapply (wp_grantStep I κ ς c i (w := 14) (by omega) (n := lvO (14 + 1) i + 1) (by unfold lvG; rw [if_pos hs])) $$ [HO Hgt HF]
    · isplitr; · iexact HR
      isplitl [HO]; · iexact HO
      isplitl [Hgt]; · iexact Hgt
      iexact HF
    iintro ⟨HO, HF⟩
    iapply Hk
    isplitl [HO]; · iexact HO
    isplitr [Ho]
    · unfold RN
      rw [if_neg h]
      unfold RE
      isplitl [HP]; · iexact HP
      isplitl [HOut]; · iexact HOut
      isplitl [Hb]; · iexact Hb
      isplitl [HC]; · iexact HC
      isplitl [HS]; · iexact HS
      isplitl [HT]; · iexact HT
      iexact HF
    iexact Ho

end Cert.KernelIdeal.Proof
-- ==== Proof.Ideal.StepsA.lean ====
/- The end of the reduction and one step of the distribution. -/
module

public import proofs.«01_k».proof.Proof.Ideal.StepsR
public import Idealize.SL.BI.BigOpNat

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (κ : Dev nD × CK → ℕ) (ς : Key → ℕ) (A : Args) (c : Dev nD) (i : Fin 4)

theorem off5_eq : ∀ (d : Dev nD) (i : Fin 4), k0_off5 d (stepW i 1) (baseW i) = ![256 * (ck i d 15).val + 64 * i.val, 0] := by
  decide +kernel

/-- A ring's four outgoing slots. -/
def OutAll : sProp 𝕄 :=
  iprop((∃ v, outbPts (F := F) c i 0 v) ∗ (∃ v, outbPts c i 1 v) ∗ (∃ v, outbPts c i 2 v) ∗ (∃ v, outbPts c i 3 v))
/-- A ring between the reduction and the distribution, `m` credits taken. -/
def RM (m : ℕ) : sProp 𝕄 :=
  iprop(PosAll (F := F) c (CK.rc i) 15 ∗ PosAll c (CK.sn i) 15 ∗ CrS c i m ∗ SK c i 15 ∗ ST c i 15 ∗ FR c i 15)

theorem wp_waitSndAll {w : ℕ} (hw : w < 30) {j : Fin 4} (hj : sw w = j) (dst : Memref sig .tc .vmem S64x2048 .bf16) (hd : dst.view.WordExact)
    (hN : dst.view.dmaCredit = N) {n : ℕ} (hn : 3 ≤ n) (hn' : n < 300) {K : PR F} {Q : PUnit → sProp 𝕄} :
    iprop(Recs I κ ς ∗ sndCred c i w ∗ OwesX c n ∗ PosAll c (CK.sn i) w)
      ⊢ iprop(((OwesX c n ∗ PosAll c (CK.sn i) (w + 1) ∗ sndPay I c i w) -∗ wpB c K Q) -∗ wpB c (waitSnd i j dst hd K) Q) := by
  subst hj
  iintro ⟨#HR, Hc, HO, HP⟩ Hk
  ihave HP := (PosAll_take c (CK.sn i) w) $$ HP
  icases HP with ⟨Hp, HP⟩
  iapply (wp_waitSnd I κ ς c i (w := w) hw rfl dst hd hN hn hn') $$ [HO Hc Hp]
  · isplitr; · iexact HR
    isplitl [Hc]; · iexact Hc
    isplitl [HO]; · iexact HO
    iexact Hp
  iintro ⟨HO, Hp, Hpay⟩
  iapply Hk
  isplitl [HO]; · iexact HO
  isplitl [HP Hp]
  · iapply HP; iexact Hp
  iexact Hpay

theorem wp_rsTail {n : ℕ} (hn : 3 ≤ n) (hn' : n < 300) {K : PR F} {Q : PUnit → sProp 𝕄} :
    iprop(Recs I κ ς ∗ OwesX c n ∗ RE c i)
      ⊢ iprop(((OwesX c n ∗ RM c i 11 ∗ OutAll c i) -∗ wpB c K Q) -∗ wpB c (rsTail i K) Q) := by
  unfold RE Out' RM OutAll rsTail
  rw [bigSep_Ico_succ_bot (show 14 + 1 - 3 < 14 + 1 by decide), bigSep_Ico_succ_bot (show 14 + 1 - 3 + 1 < 14 + 1 by decide),
    bigSep_Ico_succ_bot (show 14 + 1 - 3 + 1 + 1 < 14 + 1 by decide)]
  iintro ⟨#HR, HO, HP, ⟨HPs, ⟨Hc0, Hc1, Hc2, -⟩, -⟩, Hb3, HC, HS, HT, HF⟩ Hk
  iapply (wp_waitSndAll I κ ς c i (w := 12) (by decide) (j := 0) (by decide +kernel) (slot (outb i) 0) (slot_words (outb_whole i) _) (N_outb i _) hn hn') $$ [HO Hc0 HPs]
  · isplitr; · iexact HR
    isplitl [Hc0]; · iexact Hc0
    isplitl [HO]; · iexact HO
    iexact HPs
  iintro ⟨HO, HPs, Hb0⟩
  iapply (wp_waitSndAll I κ ς c i (w := 13) (by decide) (j := 1) (by decide +kernel) (slot (outb i) 1) (slot_words (outb_whole i) _) (N_outb i _) hn hn') $$ [HO Hc1 HPs]
  · isplitr; · iexact HR
    isplitl [Hc1]; · iexact Hc1
    isplitl [HO]; · iexact HO
    iexact HPs
  iintro ⟨HO, HPs, Hb1⟩
  iapply (wp_waitSndAll I κ ς c i (w := 14) (by decide) (j := 2) (by decide +kernel) (slot (outb i) 2) (slot_words (outb_whole i) _) (N_outb i _) hn hn') $$ [HO Hc2 HPs]
  · isplitr; · iexact HR
    isplitl [Hc2]; · iexact Hc2
    isplitl [HO]; · iexact HO
    iexact HPs
  iintro ⟨HO, HPs, Hb2⟩
  iapply Hk
  isplitl [HO]; · iexact HO
  isplitr [Hb0 Hb1 Hb2 Hb3]
  · isplitl [HP]; · iexact HP
    isplitl [HPs]; · iexact HPs
    isplitl [HC]; · iexact HC
    isplitl [HS]; · iexact HS
    isplitl [HT]; · iexact HT
    iexact HF
  isplitl [Hb0]
  · iapply (show sndPay I c i 12 ⊢ iprop(∃ v, outbPts c i 0 v) from Entails.of_eq (sndPay_rs I c i (by decide))); iexact Hb0
  isplitl [Hb1]
  · iapply (show sndPay I c i 13 ⊢ iprop(∃ v, outbPts c i 1 v) from Entails.of_eq (sndPay_rs I c i (by decide))); iexact Hb1
  isplitl [Hb2]
  · iapply (show sndPay I c i 14 ⊢ iprop(∃ v, outbPts c i 2 v) from Entails.of_eq (sndPay_rs I c i (by decide))); iexact Hb2
  iexact Hb3

theorem big_Ico {a b e : ℕ} (h : a ≤ b) (h' : b ≤ e) (Φ : ℕ → sProp 𝕄) :
    bigSep (Finset.Ico a e) Φ = iprop(bigSep (Finset.Ico a b) Φ ∗ bigSep (Finset.Ico b e) Φ) := by
  rw [← Finset.Ico_union_Ico_eq_Ico h h']
  exact bigSep_union (Finset.disjoint_left.mpr fun x hx hy => by
    have := (Finset.mem_Ico.mp hx).2; have := (Finset.mem_Ico.mp hy).1; omega)

/-- The four credits taken between the reduction and the distribution. -/
theorem wp_credit4 {n : ℕ} (hn : n = 3 + 8 * 16) {K : PR F} {Q : PUnit → sProp 𝕄} :
    iprop(Recs I κ ς ∗ OwesX c n ∗ RM c i 11)
      ⊢ iprop(((OwesX c n ∗ RM c i 15) -∗ wpB c K Q) -∗ wpB c (waitCredit i 4#32 K) Q) := by
  have hr := rho_le i
  unfold RM CrS
  rw [big_Ico (show 11 ≤ 11 + 4 by decide) (show 11 + 4 ≤ 30 by decide)]
  iintro ⟨#HR, HO, HP, HPs, ⟨HC, Hc, Hcs⟩, HS, HT, HF⟩ Hk
  iapply (wp_waitCredit I κ ς c i (m := 11) (k := 4) (n := n) (b := 4#32) (by decide) (by decide) (by omega)
    (by intro q hq; unfold lvG; rw [if_pos (by omega)]; omega) (by omega)) $$ [Hc HO HC]
  · isplitr; · iexact HR
    isplitl [Hc]; · iexact Hc
    isplitl [HO]; · iexact HO
    iexact HC
  iintro ⟨HO, HC⟩
  iapply Hk
  isplitl [HO]; · iexact HO
  isplitl [HP]; · iexact HP
  isplitl [HPs]; · iexact HPs
  isplitl [HC Hcs]
  · isplitl [HC]; · iexact HC
    iexact Hcs
  isplitl [HS]; · iexact HS
  isplitl [HT]; · iexact HT
  iexact HF

/-- The last credits. -/
theorem wp_credit3 {n : ℕ} (hn : n = 3 + 8 * 32) {K : PR F} {Q : PUnit → sProp 𝕄} :
    iprop(Recs I κ ς ∗ OwesX c n ∗ CrS c i 27)
      ⊢ iprop(((OwesX c n ∗ Pos c (.cr i) 1) -∗ wpB c K Q) -∗ wpB c (waitCredit i 3#32 K) Q) := by
  have hr := rho_le i
  unfold CrS
  iintro ⟨#HR, HO, HC, Hc⟩ Hk
  iapply (wp_lastCredit I κ ς c i (m := 27) (k := 3) (n := n) (b := 3#32) (by decide) (by decide) (by omega)
    (by intro q hq; unfold lvG; split <;> omega) (by omega)) $$ [Hc HO HC]
  · isplitr; · iexact HR
    isplitl [Hc]; · iexact Hc
    isplitl [HO]; · iexact HO
    iexact HC
  iintro H
  iapply Hk; iexact H

theorem upd_whole {s : Shape} {α : Type} (v : s.Idx → α) {off : Fin s.rank → ℕ} (hz : off = fun _ => 0) (inb : ∀ a, off a + s.size a ≤ s.size a)
    (w : s.Idx → α) : upd v (Rect.unit off s.size inb) w = w := by
  subst hz
  funext y
  have e : (Rect.unit (fun _ => 0) s.size inb).emb y = y := funext fun a => Fin.ext (by rw [unit_emb_val, Nat.zero_add])
  exact (congrArg (upd v (Rect.unit (fun _ => 0) s.size inb) w) e.symm).trans (upd_emb v (Rect.unit (fun _ => 0) s.size inb) w y)

theorem off00 : (![0, 0] : Fin 2 → ℕ) = fun _ => 0 := funext fun a => by fin_cases a <;> rfl

theorem wp_finish (v : S4096x2048.Idx → Elt F .f32) (hv : band v (ck i c 15) i = acc I 15 i c) {K : PR F} {Q : PUnit → sProp 𝕄} :
    iprop(mPts c A.o v ∗ ∃ x, ownPts c i x)
      ⊢ iprop(((mPts c A.o (upd v (bR (ck i c 15) i) (finV I i c)) ∗ ownPts c i (ownV (finV I i c))) -∗ wpB c K Q)
        -∗ wpB c (finish A c i (I.sx c (Shape.Idx.first (numel1_S1.symm ▸ Nat.one_pos))) (I.sw c (Shape.Idx.first (numel1_S1.symm ▸ Nat.one_pos))) K) Q) := by
  unfold finish
  iintro ⟨Ho, %x, Hw⟩ Hk
  iapply (wp_loadBand c v (ck i c 15) i (off5_eq c i)) $$ Ho
  iintro Ho
  iapply (wp_loadBand c v (ck i c 15) i (off5_eq c i)) $$ Ho
  iintro Ho
  iapply (wp_storeBand c v (ck i c 15) i _ (off5_eq c i)) $$ Ho
  rw [hv]
  iintro Ho
  ihave Hw := (show ownPts c i x ⊢ mPts c (own i) x from BI.Entails.refl _) $$ Hw
  iapply (wp_loadM_whole c x off00) $$ Hw
  iintro Hw
  iapply (wp_storeM c x _ _) $$ Hw
  rw [upd_whole x off00]
  iintro Hw
  iapply Hk
  isplitl [Ho]; · iexact Ho
  iapply (show mPts c (own i) (ownV (finV I i c)) ⊢ ownPts c i (ownV (finV I i c)) from BI.Entails.refl _)
  iexact Hw

/-- A ring before step `t` of the distribution. -/
def Hold (t : ℕ) : sProp 𝕄 :=
  if t = 0 then iprop(emp) else commPts c i (sw (14 + t)) (if t < 15 then fullShare.right else fullShare) (msg I (14 + t) i c)
def Kept (t : ℕ) : sProp 𝕄 := bigSep (Finset.Ico 26 (14 + t)) fun w => iprop(∃ v, commPts (F := F) c i (sw w) fullShare v)
def OwnB (t : ℕ) : sProp 𝕄 := if t = 0 then iprop(emp) else iprop(∃ v, ownPts (F := F) c i v)
def AG (t : ℕ) : sProp 𝕄 :=
  iprop(PosAll (F := F) c (CK.rc i) (15 + t) ∗ PosAll c (CK.sn i) (15 + t) ∗ (bigSep (Finset.Ico (15 + t) (min (16 + t) 30)) fun v => sndCred c i v)
    ∗ CrS c i (15 + min (t - 2) 12) ∗ SK c i (16 + t) ∗ ST c i (15 + t) ∗ FR c i (15 + t) ∗ Hold I c i t ∗ Kept c i t ∗ OwnB c i t)

/-- The send that starts the distribution. -/
theorem wp_agFirst {K : PR F} {Q : PUnit → sProp 𝕄} :
    iprop(Recs I κ ς ∗ OwesX c (lvO 16 i) ∗ RM c i 15 ∗ ownPts c i (ownV (finV I i c)))
      ⊢ iprop(((OwesX c (lvO 16 i + 2) ∗ AG I c i 0) -∗ wpB c K Q) -∗ wpB c (sendTo c i 0 (own i) (own_whole i).wordExact K) Q) := by
  unfold RM
  rw [SK_take c i (show 15 < 30 by decide)]
  iintro ⟨#HR, HO, ⟨HP, HPs, HC, ⟨Ht, HS⟩, HT, HF⟩, Hw⟩ Hk
  ihave HC := (CrS_known c i (m := 15) (n := 16) (by decide) (by decide) (by decide)) $$ HC
  icases HC with ⟨HC, #HK⟩
  ihave HPs := (PosAll_reached c (CK.sn i) _ 0) $$ HPs
  icases HPs with ⟨HPs, #Hre⟩
  unfold ownPts
  iapply (wp_sendTo I κ ς c i (w := 15) (by decide) (j := 0) (by decide +kernel) (own i) (own_whole i).wordExact fullShare _
    ((View.read_rep (Val := Elt F) _ _).trans (sent_own I i c).symm)
    (show ownPts c i (ownV (finV I i c)) ⊢ sndPay I c i 15 from BI.Entails.refl _) (n := lvO 16 i) (by rfl)) $$ [HO Ht Hw]
  · isplitr; · iexact HR
    isplitl [Hw]; · iexact Hw
    isplitl [HO]; · iexact HO
    isplitl [Ht]; · iexact Ht
    isplitr; · iexact Hre
    iexact HK
  iintro ⟨Hc, HO⟩
  ihave HO := (OwesX_skip c (n := lvO 16 i + 1) (lvl_ne_grant i 16 (.inr rfl))) $$ HO
  iapply Hk
  isplitl [HO]; · iexact HO
  unfold AG Hold Kept OwnB
  isplitl [HP]; · iexact HP
  isplitl [HPs]; · iexact HPs
  isplitl [Hc]
  · rw [show min (16 + 0) 30 = 15 + 0 + 1 by decide, bigSep_Ico_one]; iexact Hc
  isplitl [HC]; · iexact HC
  isplitl [HS]; · iexact HS
  isplitl [HT]; · iexact HT
  isplitl [HF]; · iexact HF
  isplitr; · rw [if_pos rfl]; iempintro
  isplitr; · rw [Ico_nil (by decide)]; iempintro
  rw [if_pos rfl]; iempintro

theorem comm_halves (j : Fin 4) (v : FVec F S64x2048 .bf16) :
    commPts c i j fullShare v ⊢ iprop(commPts c i j fullShare.left v ∗ commPts c i j fullShare.right v) :=
  (pointsTo_share (PosShare.mem_left_op_right fullShare)).1
theorem comm_join (j : Fin 4) (v : FVec F S64x2048 .bf16) :
    iprop(commPts c i j fullShare.left v ∗ commPts c i j fullShare.right v) ⊢ commPts c i j fullShare v :=
  (pointsTo_share (PosShare.mem_left_op_right fullShare)).2

/-- Step `t`'s send, passing on what arrived. -/
theorem wp_agSend {t : ℕ} (ht : t < 15) {K : PR F} {Q : PUnit → sProp 𝕄} :
    iprop(Recs I κ ς ∗ OwesX c (lvO (17 + t) i) ∗ CrS c i (15 + min (t - 2) 12) ∗ PosAll c (CK.sn i) (15 + t) ∗ SK c i (16 + t)
        ∗ commPts c i (sl t) fullShare (msg I (15 + t) i c))
      ⊢ iprop(((OwesX c (lvO (17 + t) i + 1) ∗ CrS c i (15 + min (t + 1 - 2) 12) ∗ PosAll c (CK.sn i) (15 + t) ∗ SK c i (17 + t)
          ∗ (bigSep (Finset.Ico (16 + t) (min (17 + t) 30)) fun v => sndCred c i v)
          ∗ commPts c i (sl t) (if t + 1 < 15 then fullShare.right else fullShare) (msg I (15 + t) i c)) -∗ wpB c K Q)
        -∗ wpB c ((fun K : PR F => bif Nat.blt t 14 then
            (fun K : PR F => bif Nat.ble 2 t then waitCredit i 1#32 K else K) <|
            sendTo c i (sl (t + 1)) (slot (comm i) (sl t)) (slot_words (comm_whole i) _) K
          else K) K) Q) := by
  have hr := rho_le i
  by_cases h : t < 14
  · have hb : Nat.blt t 14 = true := Nat.blt_eq.mpr h
    have hw : sw (16 + t) = sl (t + 1) := by rw [show 16 + t = 15 + (t + 1) by omega]; exact sw_ag (t + 1)
    have hw' : sw (15 + t) = sl t := sw_ag t
    have hcr : iprop(Recs I κ ς ∗ OwesX c (lvO (17 + t) i) ∗ CrS c i (15 + min (t - 2) 12))
      ⊢ iprop(((OwesX c (lvO (17 + t) i) ∗ CrS c i (15 + min (t + 1 - 2) 12)) -∗ wpB c (sendTo c i (sl (t + 1)) (slot (comm i) (sl t)) (slot_words (comm_whole i) _) K) Q)
        -∗ wpB c (bif Nat.ble 2 t then waitCredit i 1#32 (sendTo c i (sl (t + 1)) (slot (comm i) (sl t)) (slot_words (comm_whole i) _) K)
          else (sendTo c i (sl (t + 1)) (slot (comm i) (sl t)) (slot_words (comm_whole i) _) K)) Q) := by
      by_cases h2 : 2 ≤ t
      · have hb2 : Nat.ble 2 t = true := Nat.ble_eq.mpr h2
        simp only [hb2, cond_true]
        rw [show 15 + min (t + 1 - 2) 12 = 15 + min (t - 2) 12 + 1 by omega]
        exact wp_credit1 I κ ς c i (m := 15 + min (t - 2) 12) (n := lvO (17 + t) i) (by omega) (by unfold lvO; omega)
          (by intro q hq; unfold lvG lvO; split <;> omega) (by unfold lvO; omega)
      · have hb2 : Nat.ble 2 t = false := by
          rw [Bool.eq_false_iff]; exact fun hx => h2 (Nat.ble_eq.mp hx)
        simp only [hb2, cond_false]
        rw [show 15 + min (t + 1 - 2) 12 = 15 + min (t - 2) 12 by omega]
        iintro ⟨-, H⟩ Hk
        iapply Hk; iexact H
    simp only [hb, cond_true]
    rw [SK_take c i (show 16 + t < 30 by omega), if_pos (show t + 1 < 15 by omega), show min (17 + t) 30 = 16 + t + 1 by omega, bigSep_Ico_one]
    iintro ⟨#HR, HO, HC, HPs, ⟨Ht, HS⟩, Hcm⟩ Hk
    iapply hcr $$ [HO HC]
    · isplitr; · iexact HR
      isplitl [HO]; · iexact HO
      iexact HC
    iintro ⟨HO, HC⟩
    ihave HC := (CrS_known c i (m := 15 + min (t + 1 - 2) 12) (n := 16 + t + 1) (by omega) (by omega) (by
      unfold pre; rw [if_neg (by omega)]; split
      · omega
      · rw [if_neg (by omega)]; omega)) $$ HC
    icases HC with ⟨HC, #HK⟩
    ihave HPs := (PosAll_reached c (CK.sn i) _ (sl (t + 1))) $$ HPs
    icases HPs with ⟨HPs, #Hre⟩
    ihave Hcm := (comm_halves c i _ _) $$ Hcm
    icases Hcm with ⟨Hl, Hr⟩
    iapply (wp_sendTo I κ ς c i (w := 16 + t) (by omega) hw (slot (comm i) (sl t)) (slot_words (comm_whole i) _) fullShare.left
      ((slot (comm i) (sl t)).view.rep (Val := Elt F) (msg I (15 + t) i c))
      ((View.read_rep (Val := Elt F) _ _).trans (sent_fwd I t i c).symm)
      (by
        unfold sndPay
        rw [if_neg (by omega), if_neg (by omega), show 16 + t - 1 = 15 + t by omega, hw']
        exact BI.Entails.refl _) (n := lvO (17 + t) i) (by unfold lvS; rw [if_neg (by omega)]; unfold lvO; omega)) $$ [HO Ht Hl]
    · isplitr; · iexact HR
      isplitl [Hl]; · unfold commPts; iexact Hl
      isplitl [HO]; · iexact HO
      isplitl [Ht]; · iexact Ht
      isplitr; · rw [rnd_ag t h, hw]; iexact Hre
      iexact HK
    iintro ⟨Hc, HO⟩
    iapply Hk
    isplitl [HO]; · iexact HO
    isplitl [HC]; · iexact HC
    isplitl [HPs]; · iexact HPs
    isplitl [HS]; · rw [show 17 + t = 16 + t + 1 by omega]; iexact HS
    isplitl [Hc]; · iexact Hc
    iexact Hr
  · obtain rfl : t = 14 := by omega
    have hb : Nat.blt 14 14 = false := by decide
    simp only [hb, cond_false]
    iintro ⟨#HR, HO, HC, HPs, HS, Hcm⟩ Hk
    ihave HO := (OwesX_skip c (n := lvO (17 + 14) i) (lvl_ne_last i)) $$ HO
    iapply Hk
    isplitl [HO]; · iexact HO
    isplitl [HC]; · iexact HC
    isplitl [HPs]; · iexact HPs
    isplitr
    · unfold SK; rw [Ico_nil (show 30 ≤ 17 + 14 by decide)]; iempintro
    isplitr; · rw [Ico_nil (by decide)]; iempintro
    rw [if_neg (by decide)]; iexact Hcm

theorem N_src (t : ℕ) : (agSrc i t).view.dmaCredit = N := by
  cases t with
  | zero => exact N_own i
  | succ t => exact N_comm i _

/-- What the slot or band sent from comes back as, whole. -/
def Back (t : ℕ) : sProp 𝕄 := if t = 0 then iprop(∃ v, ownPts (F := F) c i v) else iprop(∃ v, commPts c i (sw (14 + t)) fullShare v)
theorem back_join {t : ℕ} (ht : t < 15) : iprop(sndPay I c i (15 + t) ∗ Hold I c i t) ⊢ Back c i t := by
  unfold sndPay Hold Back
  by_cases h : t = 0
  · subst h
    rw [if_neg (by decide), if_pos rfl, if_pos rfl, if_pos rfl]
    iintro ⟨H, -⟩
    iexists _; iexact H
  · rw [if_neg (by omega), if_neg (by omega), if_neg h, if_neg h, if_pos ht, show 15 + t - 1 = 14 + t by omega]
    iintro H
    ihave H := (comm_join c i _ _) $$ H
    iexists _; iexact H

theorem frees_ag : ∀ w < 27, 15 < w → frees w = true := fun w h h' => (freed_ag w h h').1
theorem frees_not : ∀ w, w = 15 ∨ 27 ≤ w → ¬ frees w = true := by
  intro w h
  unfold frees
  rw [decide_eq_true_eq]; omega

theorem back_free {t : ℕ} (ht : t < 15) :
    iprop(Recs I κ ς ∗ FR c i (15 + t) ∗ PosAll c (CK.rc i) (15 + t + 1) ∗ Back c i t ∗ Kept c i t ∗ OwnB c i t)
      ⊢ |={Set.univ}=> iprop(FR (F := F) c i (15 + t + 1) ∗ PosAll c (CK.rc i) (15 + t + 1) ∗ Kept c i (t + 1) ∗ OwnB c i (t + 1)) := by
  unfold Back Kept OwnB
  by_cases h : t = 0
  · subst h
    rw [if_pos rfl, if_pos rfl, if_neg (by decide), FR_skip c i (w := 15 + 0) (by decide) (frees_not _ (.inl rfl)),
      Ico_nil (by decide), Ico_nil (by decide)]
    iintro ⟨-, HF, HP, Hw, -, -⟩
    imodintro
    isplitl [HF]; · iexact HF
    isplitl [HP]; · iexact HP
    isplitr; · iempintro
    iexact Hw
  · rw [if_neg h, if_neg h, if_neg (by omega)]
    by_cases h' : t < 12
    · have hf := freed_ag (15 + t) (by omega) (by omega)
      rw [Ico_nil (show 14 + t ≤ 26 by omega), Ico_nil (show 14 + (t + 1) ≤ 26 by omega)]
      iintro ⟨#HR, HF, HP, Hcm, -, Hw⟩
      ihave HP := (PosAll_reached c (CK.rc i) _ (sw (15 + t - 1))) $$ HP
      icases HP with ⟨HP, #Hre⟩
      imod (FR_step I κ ς c i (w := 15 + t) (by omega) hf.1 (by omega) (sw (15 + t - 1)) hf.2.1) $$ [HF Hcm] with HF
      · isplitr; · iexact HR
        isplitl [HF]; · iexact HF
        isplitl [Hcm]; · rw [show 15 + t - 1 = 14 + t by omega]; iexact Hcm
        rw [hf.2.2]; iexact Hre
      imodintro
      isplitl [HF]; · iexact HF
      isplitl [HP]; · iexact HP
      isplitr; · iempintro
      iexact Hw
    · rw [show 14 + (t + 1) = 14 + t + 1 by omega, bigSep_Ico_succ_top (show 26 ≤ 14 + t by omega),
        FR_skip c i (w := 15 + t) (by omega) (frees_not _ (.inr (by omega)))]
      iintro ⟨-, HF, HP, Hcm, HKe, Hw⟩
      imodintro
      isplitl [HF]; · iexact HF
      isplitl [HP]; · iexact HP
      isplitl [Hcm HKe]
      · isplitl [Hcm]; · iexact Hcm
        iexact HKe
      iexact Hw

theorem wp_agStep {t : ℕ} (ht : t < 15) (v : S4096x2048.Idx → Elt F .f32) {K : PR F} {Q : PUnit → sProp 𝕄} :
    iprop(Recs I κ ς ∗ OwesX c (lvO (17 + t) i) ∗ AG I c i t ∗ mPts c A.o v)
      ⊢ iprop(((OwesX c (lvO (17 + t) i + 2) ∗ AG I c i (t + 1) ∗ mPts c A.o (upd v (bR (ck i c t) i) (extf .f32 (msg I (15 + t) i c) bitsLt_bf16_f32))) -∗ wpB c K Q)
        -∗ wpB c (agStep A c i ⟨t, ht⟩ K) Q) := by
  have hr := rho_le i
  have hw : sw (15 + t) = sl t := sw_ag t
  unfold AG agStep
  rw [ST_take c i (show 15 + t < 30 by omega), show min (16 + t) 30 = 15 + t + 1 by omega, bigSep_Ico_one]
  iintro ⟨#HR, HO, ⟨HP, HPs, Hc, HC, HS, ⟨⟨Hrc, Hgt⟩, HT⟩, HF, HH, HKe, HW⟩, Ho⟩ Hk
  ihave HP := (PosAll_take c (CK.rc i) (15 + t)) $$ HP
  icases HP with ⟨Hp, HP⟩
  iapply (wp_waitRcv I κ ς c i (w := 15 + t) (by omega) hw (agSrc i t) (agSrc_words i _)
    (n := lvO (17 + t) i) (by unfold lvS lvO; rw [if_neg (by omega)]; omega) (by unfold lvO; omega)) $$ [Hrc HO Hp]
  · isplitr; · iexact HR
    isplitl [Hrc]; · iexact Hrc
    isplitl [HO]; · iexact HO
    rw [← hw]; iexact Hp
  iintro ⟨HO, Hp, Hcm⟩
  ihave HP := HP $$ [Hp]
  · rw [hw]; iexact Hp
  iapply (wp_agSend I κ ς c i ht) $$ [HO HC HPs HS Hcm]
  · isplitr; · iexact HR
    isplitl [HO]; · iexact HO
    isplitl [HC]; · iexact HC
    isplitl [HPs]; · iexact HPs
    isplitl [HS]; · iexact HS
    iexact Hcm
  iintro ⟨HO, HC, HPs, HS, Hcs, Hcm⟩
  iapply (wp_loadSlot c i (sl t) _ _) $$ Hcm
  iintro Hcm
  iapply (wp_loadBand c v (ck i c t) i (off4_eq c i ⟨t, by omega⟩)) $$ Ho
  iintro Ho
  iapply (wp_storeBand c v (ck i c t) i _ (off4_eq c i ⟨t, by omega⟩)) $$ Ho
  rw [unpack_slotX]
  iintro Ho
  iapply (wp_waitSndAll I κ ς c i (w := 15 + t) (by omega) hw (agSrc i t) (agSrc_words i _) (N_src i t)
    (n := lvO (17 + t) i + 1) (by unfold lvO; omega) (by unfold lvO; omega)) $$ [HO Hc HPs]
  · isplitr; · iexact HR
    isplitl [Hc]; · iexact Hc
    isplitl [HO]; · iexact HO
    iexact HPs
  iintro ⟨HO, HPs, Hpay⟩
  ihave HB := (back_join I c i ht) $$ [Hpay HH]
  · isplitl [Hpay]; · iexact Hpay
    iexact HH
  imod (back_free I κ ς c i ht) $$ [HF HP HB HKe HW] with ⟨HF, HP, HKe, HW⟩
  · isplitr; · iexact HR
    isplitl [HF]; · iexact HF
    isplitl [HP]; · iexact HP
    isplitl [HB]; · iexact HB
    isplitl [HKe]; · iexact HKe
    iexact HW
  iapply (wp_grantStep I κ ς c i (w := 15 + t) (by omega) (n := lvO (17 + t) i + 1) (by unfold lvG lvO; rw [if_neg (by omega)]; omega)) $$ [HO Hgt HF]
  · isplitr; · iexact HR
    isplitl [HO]; · iexact HO
    isplitl [Hgt]; · iexact Hgt
    iexact HF
  iintro ⟨HO, HF⟩
  iapply Hk
  isplitl [HO]; · iexact HO
  isplitr [Ho]
  · rw [show 16 + (t + 1) = 17 + t by omega, show 15 + (t + 1) = 15 + t + 1 by omega]
    isplitl [HP]; · iexact HP
    isplitl [HPs]; · iexact HPs
    isplitl [Hcs]; · rw [show 15 + t + 1 = 16 + t by omega]; iexact Hcs
    isplitl [HC]; · iexact HC
    isplitl [HS]; · iexact HS
    isplitl [HT]; · iexact HT
    isplitl [HF]; · iexact HF
    isplitl [Hcm]
    · unfold Hold
      rw [if_neg (show ¬ t + 1 = 0 by omega), show 14 + (t + 1) = 15 + t by omega, hw]; iexact Hcm
    isplitl [HKe]; · iexact HKe
    iexact HW
  iexact Ho

end Cert.KernelIdeal.Proof
-- ==== Proof.Ideal.Body.lean ====
/- The body on a symbolic device, from what it is given to what it leaves. -/
module

public import proofs.«01_k».proof.Proof.Ideal.StepsA
public import Idealize.SL.BI.BigOpNat

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (κ : Dev nD × CK → ℕ) (ς : Key → ℕ) (A : Args) (c : Dev nD)

/-! ## The four rings of a step -/

/-- The four rings' resources. -/
def All (P : Fin 4 → sProp 𝕄) : sProp 𝕄 := iprop(P 0 ∗ P 1 ∗ P 2 ∗ P 3)
theorem All_bigSep (P : Fin 4 → sProp 𝕄) : bigSep Finset.univ P = All P := by
  have h : (Finset.univ : Finset (Fin 4)) = insert 0 (insert 1 (insert 2 {3})) := by decide
  rw [h, bigSep_insert (by decide), bigSep_insert (by decide), bigSep_insert (by decide), bigSep_singleton]; rfl

theorem wp_rings {R : sProp 𝕄} [BI.Persistent R] (G : ℕ → sProp 𝕄) (P P' : Fin 4 → sProp 𝕄) (f : Fin 4 → PR F → PR F)
    (h : ∀ i K (Q : PUnit → sProp 𝕄), iprop(R ∗ G (rho i) ∗ P i) ⊢ iprop(((G (rho i + 1) ∗ P' i) -∗ wpB c K Q) -∗ wpB c (f i K) Q))
    {K : PR F} {Q : PUnit → sProp 𝕄} :
    iprop(R ∗ G 0 ∗ All P) ⊢ iprop(((G 4 ∗ All P') -∗ wpB c K Q) -∗ wpB c (rings f K) Q) := by
  have h' : ∀ i n m K, rho i = n → n + 1 = m → iprop(R ∗ G n ∗ P i) ⊢ iprop(((G m ∗ P' i) -∗ wpB c K Q) -∗ wpB c (f i K) Q) := by
    rintro i n m K rfl rfl; exact h i K Q
  unfold All rings
  iintro ⟨#HR, HG, H0, H1, H2, H3⟩ Hk
  iapply (h' 0 0 1 _ rfl rfl) $$ [HG H0]
  · isplitr; · iexact HR
    isplitl [HG]; · iexact HG
    iexact H0
  iintro ⟨HG, H0⟩
  iapply (h' 2 1 2 _ rfl rfl) $$ [HG H2]
  · isplitr; · iexact HR
    isplitl [HG]; · iexact HG
    iexact H2
  iintro ⟨HG, H2⟩
  iapply (h' 1 2 3 _ rfl rfl) $$ [HG H1]
  · isplitr; · iexact HR
    isplitl [HG]; · iexact HG
    iexact H1
  iintro ⟨HG, H1⟩
  iapply (h' 3 3 4 _ rfl rfl) $$ [HG H3]
  · isplitr; · iexact HR
    isplitl [HG]; · iexact HG
    iexact H3
  iintro ⟨HG, H3⟩
  iapply Hk
  isplitl [HG]; · iexact HG
  isplitl [H0]; · iexact H0
  isplitl [H1]; · iexact H1
  isplitl [H2]; · iexact H2
  iexact H3

theorem wp_inOrder {R : sProp 𝕄} [BI.Persistent R] (G : sProp 𝕄) (P P' : Fin 4 → sProp 𝕄) (f : Fin 4 → PR F → PR F)
    (h : ∀ i K (Q : PUnit → sProp 𝕄), iprop(R ∗ G ∗ P i) ⊢ iprop(((G ∗ P' i) -∗ wpB c K Q) -∗ wpB c (f i K) Q))
    {K : PR F} {Q : PUnit → sProp 𝕄} :
    iprop(R ∗ G ∗ All P) ⊢ iprop(((G ∗ All P') -∗ wpB c K Q) -∗ wpB c (f 0 (f 1 (f 2 (f 3 K)))) Q) := by
  unfold All
  iintro ⟨#HR, HG, H0, H1, H2, H3⟩ Hk
  iapply (h 0 _ Q) $$ [HG H0]
  · isplitr; · iexact HR
    isplitl [HG]; · iexact HG
    iexact H0
  iintro ⟨HG, H0⟩
  iapply (h 1 _ Q) $$ [HG H1]
  · isplitr; · iexact HR
    isplitl [HG]; · iexact HG
    iexact H1
  iintro ⟨HG, H1⟩
  iapply (h 2 _ Q) $$ [HG H2]
  · isplitr; · iexact HR
    isplitl [HG]; · iexact HG
    iexact H2
  iintro ⟨HG, H2⟩
  iapply (h 3 _ Q) $$ [HG H3]
  · isplitr; · iexact HR
    isplitl [HG]; · iexact HG
    iexact H3
  iintro ⟨HG, H3⟩
  iapply Hk
  isplitl [HG]; · iexact HG
  isplitl [H0]; · iexact H0
  isplitl [H1]; · iexact H1
  isplitl [H2]; · iexact H2
  iexact H3

/-! ## The product -/

/-- The chunk computed `r`-th. -/
def chk (d : Dev nD) (r : Fin 16) : Fin 16 := ⟨(k0_off1 d (k0_off1_at r) 0) / 256 % 16, Nat.mod_lt _ (by decide)⟩
theorem off1_eq : ∀ (d : Dev nD) (r : Fin 16), k0_off1 d (k0_off1_at r) = ![256 * (chk d r).val, 0] := by decide +kernel
theorem off2_eq : ∀ (d : Dev nD) (r : Fin 16), k0_off2 d (k0_off1_at r) = ![256 * (chk d r).val, 0] := by decide +kernel
theorem off3_eq : ∀ (d : Dev nD) (i : Fin 4), k0_off3 d (baseW i) = ![256 * (ck i d 0).val + 64 * i.val, 0] := by decide +kernel
theorem chk_surj : ∀ (d : Dev nD) (k : Fin 16), ∃ r, chk d r = k := by decide +kernel
theorem chk_own : ∀ (d : Dev nD) (i : Fin 4), ∃ r : Fin 16, r.val < 3 ∧ chk d r = ck i d 0 := by decide +kernel
theorem ck_inj : ∀ (i : Fin 4) (d : Dev nD) (k k' : Fin 16), ck i d k.val = ck i d k'.val → k = k' := by decide +kernel

/-- The chunks computed first hold the product. -/
def GInv (S : ℕ) (v : S4096x2048.Idx → Elt F .f32) : Prop := ∀ r : Fin 16, r.val < S → ∀ i, band v (chk c r) i = bandV I c (chk c r) i

theorem GInv_step {S : ℕ} (hS : S < 16) {v : S4096x2048.Idx → Elt F .f32} (h : GInv I c S v) :
    GInv I c (S + 1) (upd v (oR (chk c ⟨S, hS⟩)) (chunkV I c (chk c ⟨S, hS⟩))) := by
  intro r hr i
  by_cases e : chk c ⟨S, hS⟩ = chk c r
  · rw [← e, band_chunk]; rfl
  · rw [band_chunk_other v i _ e]
    refine h r ?_ i
    have : r.val ≠ S := fun hx => e (congrArg (chk c) (Fin.ext hx.symm))
    omega

/-- The inputs' windows. -/
def Ins : sProp 𝕄 := iprop(mPts c A.x (I.x c) ∗ mPts c A.w (I.w c) ∗ mPts c A.sx (I.sx c) ∗ mPts c A.sw (I.sw c))

theorem wp_loadChunk {m : Memref sig .tc .vmem S4096x256 .i8} (v : S4096x256.Idx → Elt F .i8) (k : Fin 16)
    {off : Fin 2 → ℕ} (hoff : off = ![256 * k.val, 0]) {inb : ∀ a, off a + S256x256.size a ≤ S4096x256.size a}
    {hl : m.view.LoadsAt (Rect.unit (s := S4096x256) off S256x256.size inb).toLoadRect} {K : (S256x256.Idx → Elt F .i8) → PR F} {Q : PUnit → sProp 𝕄} :
    mPts c m v ⊢ iprop((mPts c m v -∗ wpB c (K fun z => v ((xR k).emb z)) Q)
      -∗ wpB c (.op (.load m (Rect.unit (s := S4096x256) off S256x256.size inb).toLoadRect hl) K) Q) := by
  subst hoff
  exact wp_loadM c v (xR k)
theorem wp_loadOut {m : Memref sig .tc .vmem S4096x2048 .f32} (v : S4096x2048.Idx → Elt F .f32) (k : Fin 16)
    {off : Fin 2 → ℕ} (hoff : off = ![256 * k.val, 0]) {inb : ∀ a, off a + S256x2048.size a ≤ S4096x2048.size a}
    {hl : m.view.LoadsAt (Rect.unit (s := S4096x2048) off S256x2048.size inb).toLoadRect} {K : (S256x2048.Idx → Elt F .f32) → PR F} {Q : PUnit → sProp 𝕄} :
    mPts c m v ⊢ iprop((mPts c m v -∗ wpB c (K fun z => v ((oR k).emb z)) Q)
      -∗ wpB c (.op (.load m (Rect.unit (s := S4096x2048) off S256x2048.size inb).toLoadRect hl) K) Q) := by
  subst hoff
  exact wp_loadM c v (oR k)
theorem wp_storeOut {m : Memref sig .tc .vmem S4096x2048 .f32} (v : S4096x2048.Idx → Elt F .f32) (k : Fin 16) (w : S256x2048.Idx → Elt F .f32)
    {off : Fin 2 → ℕ} (hoff : off = ![256 * k.val, 0]) {inb : ∀ a, off a + S256x2048.size a ≤ S4096x2048.size a}
    {hx : (m.access (Rect.unit (s := S4096x2048) off S256x2048.size inb)).Stores Finset.univ}
    {hm : Finset.univ = Finset.univ ∨ ∀ a, (Rect.unit (s := S4096x2048) off S256x2048.size inb).stride a = 1}
    {K : PUnit → PR F} {Q : PUnit → sProp 𝕄} :
    mPts c m v ⊢ iprop((mPts c m (upd v (oR k) w) -∗ wpB c (K ⟨⟩) Q)
      -∗ wpB c (.op (.store m (Rect.unit (s := S4096x2048) off S256x2048.size inb) w Finset.univ hx hm) K) Q) := by
  subst hoff
  exact wp_storeM c v (oR k) w

/-- The result's window, the first `S` chunks computed. -/
def GOut (S : ℕ) : sProp 𝕄 := iprop(∃ v, mPts c A.o v ∗ ⌜GInv I c S v⌝)

theorem wp_gemm {S : ℕ} (hS : S < 16) {K : PR F} {Q : PUnit → sProp 𝕄} :
    iprop(Ins I A c ∗ GOut I A c S) ⊢ iprop(((Ins I A c ∗ GOut I A c (S + 1)) -∗ wpB c K Q) -∗ wpB c (gemm A c ⟨S, hS⟩ K) Q) := by
  unfold Ins GOut gemm
  iintro ⟨⟨Hx, Hw, Hs⟩, %v, Ho, %hv⟩ Hk
  iapply (wp_loadChunk c (I.x c) (chk c ⟨S, hS⟩) (off1_eq c ⟨S, hS⟩)) $$ Hx
  iintro Hx
  iapply (wp_loadM_whole c (I.w c) off00) $$ Hw
  iintro Hw
  iapply (wp_loadOut c v (chk c ⟨S, hS⟩) (off2_eq c ⟨S, hS⟩)) $$ Ho
  iintro Ho
  iapply (wp_storeOut c v (chk c ⟨S, hS⟩) _ (off2_eq c ⟨S, hS⟩)) $$ Ho
  iintro Ho
  iapply Hk
  isplitr [Ho]
  · isplitl [Hx]; · iexact Hx
    isplitl [Hw]; · iexact Hw
    iexact Hs
  iexists _
  isplitl [Ho]; · iexact Ho
  ipureintro
  exact GInv_step I c hS hv

theorem wp_gemmLoop (n : ℕ) (hn : n ≤ 16) {K : PR F} {Q : PUnit → sProp 𝕄} :
    iprop(Ins I A c ∗ GOut I A c (16 - n)) ⊢ iprop(((Ins I A c ∗ GOut I A c 16) -∗ wpB c K Q) -∗ wpB c (gemmLoop A c n K) Q) := by
  induction n with
  | zero =>
    iintro H Hk
    iapply Hk; iexact H
  | succ n ih =>
    unfold gemmLoop
    rw [dif_pos (show 15 - n < 16 by omega), show 16 - (n + 1) = 15 - n by omega]
    iintro H Hk
    iapply (wp_gemm I A c (show 15 - n < 16 by omega)) $$ H
    rw [show 15 - n + 1 = 16 - n by omega]
    iintro H
    iapply (ih (by omega)) $$ H
    iexact Hk

/-! ## The first messages -/

/-- The outgoing slots, slot 0 holding the first message. -/
def Out1 (i : Fin 4) : sProp 𝕄 :=
  iprop(outbPts (F := F) c i 0 (truncf .bf16 (acc I 0 i c) bitsLt_bf16_f32) ∗ (∃ v, outbPts c i 1 v) ∗ (∃ v, outbPts c i 2 v) ∗ (∃ v, outbPts c i 3 v))

theorem wp_first (i : Fin 4) {K : PR F} {Q : PUnit → sProp 𝕄} :
    iprop(GOut I A c 3 ∗ OutAll c i) ⊢ iprop(((GOut I A c 3 ∗ Out1 I c i) -∗ wpB c K Q) -∗ wpB c (first A c i K) Q) := by
  unfold GOut OutAll Out1 first
  iintro ⟨⟨%v, Ho, %hv⟩, H0, Hr⟩ Hk
  iapply (wp_loadBand c v (ck i c 0) i (off3_eq c i)) $$ Ho
  have e : band v (ck i c 0) i = acc I 0 i c := by
    obtain ⟨r, hr, h⟩ := chk_own c i
    rw [← h, hv r hr i, h]; rfl
  rw [e]
  iintro Ho
  iapply (wp_putOut c i 0 _) $$ H0
  iintro H0
  iapply Hk
  isplitl [Ho]
  · iexists v
    isplitl [Ho]; · iexact Ho
    ipureintro; exact hv
  isplitl [H0]
  · iapply (Entails.of_eq (congrArg (outbPts c i 0) (show sendV (acc I 0 i c) = truncf .bf16 (acc I 0 i c) bitsLt_bf16_f32 by
      unfold sendV; rw [shapeCast_self])))
    iexact H0
  iexact Hr

/-- A ring at the start. -/
def R0 (i : Fin 4) : sProp 𝕄 :=
  iprop(PosAll (F := F) c (CK.rc i) 0 ∗ PosAll c (CK.sn i) 0 ∗ CrS c i 0 ∗ SK c i 0 ∗ ST c i 0 ∗ FR c i 0)

theorem wp_rsFirst (i : Fin 4) {K : PR F} {Q : PUnit → sProp 𝕄} :
    iprop(Recs I κ ς ∗ OwesX c (3 + 2 * rho i) ∗ R0 c i ∗ Known (dnD i c) i 4 ∗ Out1 I c i)
      ⊢ iprop(((OwesX c (3 + 2 * (rho i + 1)) ∗ RS c i 0) -∗ wpB c K Q)
        -∗ wpB c (sendTo c i 0 (slot (outb i) 0) (slot_words (outb_whole i) _) K) Q) := by
  unfold R0 Out1 RS Out
  rw [SK_take c i (show 0 < 30 by decide)]
  iintro ⟨#HR, HO, ⟨HP, HPs, HC, ⟨Ht, HS⟩, HT, HF⟩, #HK, Hb, Hb1, Hb2, Hb3⟩ Hk
  ihave HPs := (PosAll_reached c (CK.sn i) _ 0) $$ HPs
  icases HPs with ⟨HPs, #Hre⟩
  unfold outbPts
  iapply (wp_sendTo I κ ς c i (w := 0) (by decide) (j := 0) (by decide +kernel) (slot (outb i) 0) (slot_words (outb_whole i) _) fullShare _
    ((View.read_rep (Val := Elt F) _ _).trans (sent_rs I (by decide) i c).symm)
    (by
      rw [sndPay_rs I c i (by decide)]
      iintro H
      iexists _
      unfold outbPts
      iexact H) (n := 3 + 2 * rho i) (by unfold lvS; rw [if_pos (by decide)])) $$ [HO Ht Hb]
  · isplitr; · iexact HR
    isplitl [Hb]; · iexact Hb
    isplitl [HO]; · iexact HO
    isplitl [Ht]; · iexact Ht
    isplitr; · iexact Hre
    iapply (Known_mono (dnD i c) i (show 0 + 1 ≤ 4 by decide)); iexact HK
  iintro ⟨Hc, HO⟩
  ihave HO := (OwesX_skip c (n := 3 + 2 * rho i + 1) (fun e => by have := lvl_ne_grant i 0 (.inl rfl) e; simpa using this)) $$ HO
  iapply Hk
  isplitl [HO]; · iexact HO
  isplitl [HP]; · iexact HP
  isplitl [HPs Hc Hb1 Hb2 Hb3]
  · isplitl [HPs]; · iexact HPs
    isplitl [Hc]
    · rw [show 0 - 3 = 0 by decide, bigSep_Ico_one]; iexact Hc
    rw [bigSep_Ico_succ_bot (show 0 + 1 < 4 by decide), bigSep_Ico_succ_bot (show 0 + 1 + 1 < 4 by decide), bigSep_Ico_succ_bot (show 0 + 1 + 1 + 1 < 4 by decide),
      Ico_nil (by decide)]
    isplitl [Hb1]; · iexact Hb1
    isplitl [Hb2]; · iexact Hb2
    isplitl [Hb3]; · iexact Hb3
    iempintro
  isplitl [HC]; · iexact HC
  isplitr; · iexact HK
  isplitl [HS]; · iexact HS
  isplitl [HT]; · iexact HT
  iexact HF

end Cert.KernelIdeal.Proof
-- ==== Proof.Ideal.Loops.lean ====
/- The loops over the rings. -/
module

public import proofs.«01_k».proof.Proof.Ideal.Body
public import Idealize.SL.BI.BigOpNat

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (κ : Dev nD × CK → ℕ) (ς : Key → ℕ) (A : Args) (c : Dev nD)

/-! ## The reduction -/

/-- The first `p i` bands of ring `i`, in the order it takes them, hold the running sums; the rest still hold the product. -/
def OInv (p : Fin 4 → ℕ) (v : S4096x2048.Idx → Elt F .f32) : Prop :=
  ∀ i, ∀ k : Fin 16, band v (ck i c k) i = if k.val ≤ p i then acc I k i c else bandV I c (ck i c k) i

theorem OInv_step {p p' : Fin 4 → ℕ} {v : S4096x2048.Idx → Elt F .f32} (h : OInv I c p v) (i : Fin 4) {s : ℕ} (hs : s + 1 < 16)
    (hp : p i = s) (hp' : p' i = s + 1) (ho : ∀ j, j ≠ i → p' j = p j) :
    OInv I c p' (upd v (bR (ck i c (s + 1)) i) (acc I (s + 1) i c)) := by
  intro j k
  by_cases hj : j = i
  · subst hj
    by_cases hk : k.val = s + 1
    · rw [hk, band_upd, if_pos (by omega)]
    · rw [band_upd_other v _ (fun e => hk (by have := congrArg Fin.val (ck_inj j c ⟨s + 1, hs⟩ k e.1); exact this.symm)), h j k]
      by_cases h1 : k.val ≤ s
      · rw [if_pos (by omega), if_pos (by omega)]
      · rw [if_neg (by omega), if_neg (by omega)]
  · rw [band_upd_other v _ (fun e => hj e.2.symm), h j k, ho j hj]

theorem OInv_start {v : S4096x2048.Idx → Elt F .f32} (h : GInv I c 16 v) : OInv I c (fun _ => 0) v := by
  intro i k
  obtain ⟨r, hr⟩ := chk_surj c (ck i c k)
  rw [← hr, h r r.isLt i, hr]
  by_cases hk : k.val ≤ 0
  · have : k.val = 0 := by omega
    rw [if_pos hk, this]; rfl
  · rw [if_neg hk]

def prog (s k : ℕ) (i : Fin 4) : ℕ := if rho i < k then s + 1 else s
theorem prog_zero (s : ℕ) : prog s 0 = fun _ => s := funext fun _ => if_neg (by omega)
theorem prog_four (s : ℕ) : prog s 4 = fun _ => s + 1 := funext fun i => if_pos (by have := rho_le i; omega)
theorem prog_self (s : ℕ) (i : Fin 4) : prog s (rho i) i = s := if_neg (by omega)
theorem prog_next (s : ℕ) (i : Fin 4) : prog s (rho i + 1) i = s + 1 := if_pos (by omega)
theorem prog_other (s : ℕ) (i j : Fin 4) (h : j ≠ i) : prog s (rho i + 1) j = prog s (rho i) j := by
  have : rho j ≠ rho i := fun e => h (rho_inj e)
  unfold prog
  by_cases h' : rho j < rho i
  · rw [if_pos h', if_pos (by omega)]
  · rw [if_neg h', if_neg (by omega)]

/-- What is owed and what the result's window holds, `k` rings into step `s` of the reduction. -/
def GR (s k : ℕ) : sProp 𝕄 := iprop(OwesX (F := F) c (3 + 8 * (s + 1) + 2 * k) ∗ ∃ v, mPts c A.o v ∗ ⌜OInv I c (prog s k) v⌝)

theorem wp_rsRing {s : ℕ} (hs : s < 15) (i : Fin 4) {K : PR F} {Q : PUnit → sProp 𝕄} :
    iprop(Recs I κ ς ∗ GR I A c s (rho i) ∗ RS c i s)
      ⊢ iprop(((GR I A c s (rho i + 1) ∗ RN c i s) -∗ wpB c K Q) -∗ wpB c (rsStep A c i ⟨s, hs⟩ K) Q) := by
  unfold GR
  iintro ⟨#HR, ⟨HO, %v, Ho, %hv⟩, HS⟩ Hk
  have hv' : band v (ck i c (s + 1)) i = bandV I c (ck i c (s + 1)) i :=
    (hv i ⟨s + 1, by omega⟩).trans (if_neg (by rw [prog_self]; exact Nat.not_succ_le_self s))
  iapply (wp_rsStep I κ ς A c i hs v hv') $$ [HO HS Ho]
  · isplitr; · iexact HR
    isplitl [HO]; · iexact HO
    isplitl [HS]; · iexact HS
    iexact Ho
  iintro ⟨HO, HS, Ho⟩
  iapply Hk
  isplitr [HS]
  · isplitl [HO]; · iexact HO
    iexists _
    isplitl [Ho]; · iexact Ho
    ipureintro
    exact OInv_step I c hv i (by omega) (prog_self s i) (prog_next s i) (prog_other s i)
  iexact HS

theorem wp_rsRound {s : ℕ} (hs : s < 15) {K : PR F} {Q : PUnit → sProp 𝕄} :
    iprop(Recs I κ ς ∗ GR I A c s 0 ∗ All fun i => RS c i s)
      ⊢ iprop(((GR I A c s 4 ∗ All fun i => RN c i s) -∗ wpB c K Q) -∗ wpB c (rings (fun i => rsStep A c i ⟨s, hs⟩) K) Q) :=
  wp_rings c (R := Recs I κ ς) (GR I A c s) (fun i => RS c i s) (fun i => RN c i s) _ fun i _ _ => wp_rsRing I κ ς A c hs i

theorem GR_next (s : ℕ) : GR I A c s 4 = GR I A c (s + 1) 0 := by
  unfold GR; rw [prog_four, prog_zero, show 3 + 8 * (s + 1) + 2 * 4 = 3 + 8 * (s + 1 + 1) + 2 * 0 by omega]

theorem wp_rsLoop (n : ℕ) (hn : n < 15) {K : PR F} {Q : PUnit → sProp 𝕄} :
    iprop(Recs I κ ς ∗ GR I A c (14 - n) 0 ∗ All fun i => RS c i (14 - n))
      ⊢ iprop(((GR I A c 15 0 ∗ All fun i => RE c i) -∗ wpB c K Q) -∗ wpB c (rsLoop A c (n + 1) K) Q) := by
  induction n with
  | zero =>
    unfold rsLoop
    rw [dif_pos (show 14 - 0 < 15 by decide)]
    iintro H Hk
    iapply (wp_rsRound I κ ς A c (show 14 - 0 < 15 by decide)) $$ H
    rw [GR_next]
    iexact Hk
  | succ n ih =>
    have e : (fun i : Fin 4 => RN (F := F) c i (14 - (n + 1))) = fun i => RS c i (14 - n) := funext fun i => by
      unfold RN; rw [if_pos (by omega), show 14 - (n + 1) + 1 = 14 - n by omega]
    rw [show rsLoop A c (n + 1 + 1) K = rings (fun i => rsStep A c i ⟨14 - (n + 1), by omega⟩) (rsLoop A c (n + 1) K) from
      dif_pos (show 14 - (n + 1) < 15 by omega)]
    iintro ⟨#HR, H⟩ Hk
    iapply (wp_rsRound I κ ς A c (show 14 - (n + 1) < 15 by omega)) $$ [H]
    · isplitr; · iexact HR
      iexact H
    rw [GR_next, e, show 14 - (n + 1) + 1 = 14 - n by omega]
    iintro H
    iapply (ih (by omega)) $$ [H]
    · isplitr; · iexact HR
      iexact H
    iexact Hk

/-! ## The completed bands -/

def MInv (k : ℕ) (v : S4096x2048.Idx → Elt F .f32) : Prop :=
  ∀ i, band v (ck i c 15) i = if rho i < k then finV I i c else acc I 15 i c

def GF (k : ℕ) : sProp 𝕄 := iprop(∃ v, mPts (F := F) c A.o v ∗ ⌜MInv I c k v⌝)

theorem wp_finRing (i : Fin 4) {K : PR F} {Q : PUnit → sProp 𝕄} :
    iprop(emp ∗ GF I A c (rho i) ∗ ∃ x, ownPts c i x)
      ⊢ iprop(((GF I A c (rho i + 1) ∗ ownPts c i (ownV (finV I i c))) -∗ wpB c K Q)
        -∗ wpB c (finish A c i (I.sx c (Shape.Idx.first (numel1_S1.symm ▸ Nat.one_pos))) (I.sw c (Shape.Idx.first (numel1_S1.symm ▸ Nat.one_pos))) K) Q) := by
  unfold GF
  iintro ⟨-, ⟨%v, Ho, %hv⟩, Hw⟩ Hk
  iapply (wp_finish I A c i v ((hv i).trans (if_neg (by omega)))) $$ [Ho Hw]
  · isplitl [Ho]; · iexact Ho
    iexact Hw
  iintro ⟨Ho, Hw⟩
  iapply Hk
  isplitr [Hw]
  · iexists _
    isplitl [Ho]; · iexact Ho
    ipureintro
    intro j
    by_cases hj : j = i
    · subst hj; rw [band_upd, if_pos (by omega)]
    · rw [band_upd_other v _ (fun e => hj e.2.symm), hv j]
      have : rho j ≠ rho i := fun e => hj (rho_inj e)
      by_cases h' : rho j < rho i
      · rw [if_pos h', if_pos (by omega)]
      · rw [if_neg h', if_neg (by omega)]
  iexact Hw

/-! ## The distribution -/

def FInv (p : Fin 4 → ℕ) (v : S4096x2048.Idx → Elt F .f32) : Prop :=
  ∀ i, band v (ck i c 15) i = finV I i c ∧ ∀ k : Fin 15, k.val < p i → band v (ck i c k) i = extf .f32 (msg I (15 + k) i c) bitsLt_bf16_f32

theorem FInv_step {p p' : Fin 4 → ℕ} {v : S4096x2048.Idx → Elt F .f32} (h : FInv I c p v) (i : Fin 4) {t : ℕ} (ht : t < 15)
    (hp : p i = t) (hp' : p' i = t + 1) (ho : ∀ j, j ≠ i → p' j = p j) :
    FInv I c p' (upd v (bR (ck i c t) i) (extf .f32 (msg I (15 + t) i c) bitsLt_bf16_f32)) := by
  intro j
  by_cases hj : j = i
  · subst hj
    refine ⟨?_, fun k hk => ?_⟩
    · rw [band_upd_other v _ (fun e => by have := congrArg Fin.val (ck_inj j c ⟨t, by omega⟩ 15 e.1); simp at this; omega)]
      exact (h j).1
    · by_cases hk' : k.val = t
      · rw [hk', band_upd]
      · rw [band_upd_other v _ (fun e => hk' (by
          have := congrArg Fin.val (ck_inj j c ⟨t, by omega⟩ ⟨k.val, by omega⟩ e.1); exact this.symm))]
        exact (h j).2 k (by omega)
  · refine ⟨?_, fun k hk => ?_⟩
    · rw [band_upd_other v _ (fun e => hj e.2.symm)]; exact (h j).1
    · rw [band_upd_other v _ (fun e => hj e.2.symm)]; exact (h j).2 k (by rw [← ho j hj]; exact hk)

def GA (t k : ℕ) : sProp 𝕄 := iprop(OwesX (F := F) c (3 + 8 * (17 + t) + 2 * k) ∗ ∃ v, mPts c A.o v ∗ ⌜FInv I c (prog t k) v⌝)

theorem wp_agRing {t : ℕ} (ht : t < 15) (i : Fin 4) {K : PR F} {Q : PUnit → sProp 𝕄} :
    iprop(Recs I κ ς ∗ GA I A c t (rho i) ∗ AG I c i t)
      ⊢ iprop(((GA I A c t (rho i + 1) ∗ AG I c i (t + 1)) -∗ wpB c K Q) -∗ wpB c (agStep A c i ⟨t, ht⟩ K) Q) := by
  unfold GA
  iintro ⟨#HR, ⟨HO, %v, Ho, %hv⟩, HS⟩ Hk
  iapply (wp_agStep I κ ς A c i ht v) $$ [HO HS Ho]
  · isplitr; · iexact HR
    isplitl [HO]; · iexact HO
    isplitl [HS]; · iexact HS
    iexact Ho
  iintro ⟨HO, HS, Ho⟩
  iapply Hk
  isplitr [HS]
  · isplitl [HO]; · iexact HO
    iexists _
    isplitl [Ho]; · iexact Ho
    ipureintro
    exact FInv_step I c hv i ht (prog_self t i) (prog_next t i) (prog_other t i)
  iexact HS

theorem wp_agRound {t : ℕ} (ht : t < 15) {K : PR F} {Q : PUnit → sProp 𝕄} :
    iprop(Recs I κ ς ∗ GA I A c t 0 ∗ All fun i => AG I c i t)
      ⊢ iprop(((GA I A c t 4 ∗ All fun i => AG I c i (t + 1)) -∗ wpB c K Q) -∗ wpB c (rings (fun i => agStep A c i ⟨t, ht⟩) K) Q) :=
  wp_rings c (R := Recs I κ ς) (GA I A c t) (fun i => AG I c i t) (fun i => AG I c i (t + 1)) _ fun i _ _ => wp_agRing I κ ς A c ht i

theorem GA_next (t : ℕ) : GA I A c t 4 = GA I A c (t + 1) 0 := by
  unfold GA; rw [prog_four, prog_zero, show 3 + 8 * (17 + t) + 2 * 4 = 3 + 8 * (17 + (t + 1)) + 2 * 0 by omega]

theorem wp_agLoop (n : ℕ) (hn : n ≤ 15) {K : PR F} {Q : PUnit → sProp 𝕄} :
    iprop(Recs I κ ς ∗ GA I A c (15 - n) 0 ∗ All fun i => AG I c i (15 - n))
      ⊢ iprop(((GA I A c 15 0 ∗ All fun i => AG I c i 15) -∗ wpB c K Q) -∗ wpB c (agLoop A c n K) Q) := by
  induction n with
  | zero =>
    iintro ⟨-, H⟩ Hk
    iapply Hk; iexact H
  | succ n ih =>
    rw [show agLoop A c (n + 1) K = rings (fun i => agStep A c i ⟨14 - n, by omega⟩) (agLoop A c n K) from
      dif_pos (show 14 - n < 15 by omega), show 15 - (n + 1) = 14 - n by omega]
    iintro ⟨#HR, H⟩ Hk
    iapply (wp_agRound I κ ς A c (show 14 - n < 15 by omega)) $$ [H]
    · isplitr; · iexact HR
      iexact H
    rw [GA_next, show 14 - n + 1 = 15 - n by omega]
    iintro H
    iapply (ih (by omega)) $$ [H]
    · isplitr; · iexact HR
      iexact H
    iexact Hk

/-! ## The result -/

/-- The step of ring `i` at which device `d` gets chunk `k`. -/
def ckn (i : Fin 4) (d : Dev nD) (k : Fin 16) : Fin 16 :=
  if i.val < 2 then ⟨(d.val + 240 - k.val) % 16, Nat.mod_lt _ (by decide)⟩ else ⟨(k.val + 16 - d.val) % 16, Nat.mod_lt _ (by decide)⟩
theorem ck_ckn : ∀ (i : Fin 4) (d : Dev nD) (k : Fin 16), ck i d (ckn i d k).val = k := by decide +kernel

/-- What device `d` ends with. -/
def outV : S4096x2048.Idx → Elt F .f32 :=
  ofBands fun k i => if (ckn i c k).val = 15 then finV I i c else extf .f32 (msg I (15 + (ckn i c k).val) i c) bitsLt_bf16_f32

theorem FInv_outV {v : S4096x2048.Idx → Elt F .f32} (h : FInv I c (fun _ => 15) v) : v = outV I c := by
  refine band_ext fun k i => ?_
  unfold outV
  rw [band_ofBands]
  by_cases h' : (ckn i c k).val = 15
  · rw [if_pos h']
    have := (h i).1
    rw [← h', ck_ckn] at this; exact this
  · rw [if_neg h']
    have := (h i).2 ⟨(ckn i c k).val, by have := (ckn i c k).isLt; omega⟩ (by have := (ckn i c k).isLt; show (ckn i c k).val < 15; omega)
    simp only [ck_ckn] at this; exact this

end Cert.KernelIdeal.Proof
-- ==== Proof.Ideal.Whole.lean ====
/- The whole body on a symbolic device. -/
module

public import proofs.«01_k».proof.Proof.Ideal.Loops
public import Idealize.SL.BI.BigOpNat

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (κ : Dev nD × CK → ℕ) (ς : Key → ℕ) (A : Args) (c : Dev nD)

theorem All_sep (P P' : Fin 4 → sProp 𝕄) : All (fun i => iprop(P i ∗ P' i)) = iprop(All P ∗ All P') :=
  (All_bigSep _).symm.trans ((bigSep_sep Finset.univ P P').trans (by rw [All_bigSep, All_bigSep]; rfl))
theorem All_split (P P' : Fin 4 → sProp 𝕄) : All (fun i => iprop(P i ∗ P' i)) ⊢ iprop(All P ∗ All P') := Entails.of_eq (All_sep P P')
theorem All_join (P P' : Fin 4 → sProp 𝕄) : iprop(All P ∗ All P') ⊢ All (fun i => iprop(P i ∗ P' i)) := Entails.of_eq (All_sep P P').symm
theorem All_mono {P P' : Fin 4 → sProp 𝕄} (h : ∀ i, P i ⊢ P' i) : All P ⊢ All P' := by
  rw [← All_bigSep, ← All_bigSep]; exact bigSep_mono fun i _ => h i

/-- A ring at the start, with all its buffers. -/
def Start (i : Fin 4) : sProp 𝕄 := iprop(R0 c i ∗ OutAll (F := F) c i ∗ ∃ x, ownPts (F := F) c i x)
/-- What the barrier takes. -/
def BarRes : sProp 𝕄 :=
  iprop(cred (tallyAt (kcell c .bar) 1 2) ∗ atPos (ER (F := F)) (kcell c .bar) 0 ∅ 0
    ∗ dutyTok (ER (F := F)) (kcell (leftD c) .bar) 0 0 ∗ dutyTok (ER (F := F)) (kcell (rightD c) .bar) 0 1)
def BodyPre : sProp 𝕄 :=
  iprop(OwesX (F := F) c 1 ∗ BarRes c ∗ (All fun i => Start c i) ∗ Ins I A c ∗ ∃ v, mPts (F := F) c A.o v)

/-- A ring's four slots. -/
def CommAll (i : Fin 4) : sProp 𝕄 :=
  iprop((∃ v, commPts (F := F) c i 0 fullShare v) ∗ (∃ v, commPts (F := F) c i 1 fullShare v) ∗ (∃ v, commPts (F := F) c i 2 fullShare v) ∗ (∃ v, commPts (F := F) c i 3 fullShare v))
/-- A ring at the end. -/
def Fin0 (i : Fin 4) : sProp 𝕄 :=
  iprop(PosAll (F := F) c (CK.rc i) 30 ∗ PosAll c (CK.sn i) 30 ∗ CommAll c i ∗ ∃ x, ownPts c i x)
def BodyPost : sProp 𝕄 :=
  iprop(OwesX (F := F) c 259 ∗ Pos c .bar 1 ∗ (All fun i => Fin0 c i) ∗ (All fun i => Pos c (.cr i) 1) ∗ (All fun i => OutAll c i) ∗ Ins I A c ∗ mPts c A.o (outV I c))

theorem AG_end (i : Fin 4) : AG I c i 15 ⊢ iprop(Fin0 c i ∗ CrS c i 27) := by
  unfold AG Fin0 Hold Kept OwnB CommAll
  rw [if_neg (by decide), if_neg (by decide), if_neg (by decide), bigSep_Ico_succ_bot (show 26 < 14 + 15 by decide),
    bigSep_Ico_succ_bot (show 26 + 1 < 14 + 15 by decide), bigSep_Ico_succ_bot (show 26 + 1 + 1 < 14 + 15 by decide),
    show sw (14 + 15) = 2 by decide, show sw 26 = 3 by decide, show sw (26 + 1) = 0 by decide, show sw (26 + 1 + 1) = 1 by decide]
  iintro ⟨HP, HPs, -, HC, -, -, -, H2, ⟨H3, H0, H1, -⟩, Hw⟩
  isplitr [HC]
  · isplitl [HP]; · iexact HP
    isplitl [HPs]; · iexact HPs
    isplitr [Hw]
    · isplitl [H0]; · iexact H0
      isplitl [H1]; · iexact H1
      isplitl [H2]; · iexists _; iexact H2
      iexact H3
    iexact Hw
  iexact HC

theorem off0 : (![0] : Fin 1 → ℕ) = fun _ => 0 := funext fun a => by fin_cases a; rfl

theorem OInv_end {v : S4096x2048.Idx → Elt F .f32} (h : OInv I c (prog 15 0) v) : MInv I c 0 v := by
  intro i
  have := h i 15
  rw [prog_zero, if_pos (show (15 : Fin 16).val ≤ 15 by decide)] at this
  rw [if_neg (by omega)]; exact this
theorem MInv_end {v : S4096x2048.Idx → Elt F .f32} (h : MInv I c 4 v) : FInv I c (prog 0 0) v := by
  intro i
  have hr := rho_le i
  refine ⟨(h i).trans (if_pos (by omega)), fun k hk => ?_⟩
  rw [prog_zero] at hk; exact absurd hk (Nat.not_lt_zero _)

/-- From the end of the reduction to the start of the distribution: the sends taken back, four credits on each ring. -/
theorem wp_credits {n : ℕ} (hn : n = 3 + 8 * 16) {K : PR F} {Q : PUnit → sProp 𝕄} :
    iprop(Recs I κ ς ∗ OwesX c n ∗ All fun i => RE c i)
      ⊢ iprop(((OwesX c n ∗ (All fun i => RM c i 15) ∗ All fun i => OutAll c i) -∗ wpB c K Q) -∗ wpB c (creditsP K) Q) := by
  unfold creditsP
  iintro ⟨#HR, HO, HS⟩ Hk
  iapply (wp_rings c (R := Recs I κ ς) (fun _ => OwesX c n) (fun i => RE c i) (fun i => iprop(RM c i 11 ∗ OutAll c i)) rsTail
    fun i _ _ => wp_rsTail I κ ς c i (show 3 ≤ n by omega) (show n < 300 by omega)) $$ [HO HS]
  · isplitr; · iexact HR
    isplitl [HO]; · iexact HO
    iexact HS
  iintro ⟨HO, HS⟩
  ihave HS := (All_split _ _) $$ HS
  icases HS with ⟨HM, Hout⟩
  iapply (wp_inOrder c (R := Recs I κ ς) (OwesX c n) (fun i => RM c i 11) (fun i => RM c i 15) (fun i K => waitCredit i 4#32 K)
    fun i _ _ => wp_credit4 I κ ς c i hn) $$ [HO HM]
  · isplitr; · iexact HR
    isplitl [HO]; · iexact HO
    iexact HM
  iintro ⟨HO, HM⟩
  iapply Hk
  isplitl [HO]; · iexact HO
  isplitl [HM]; · iexact HM
  iexact Hout

theorem wp_fin {K : PR F} {Q : PUnit → sProp 𝕄} :
    iprop(Ins I A c ∗ GF I A c 0 ∗ All fun i => iprop(∃ x, ownPts (F := F) c i x))
      ⊢ iprop(((Ins I A c ∗ GF I A c 4 ∗ All fun i => ownPts c i (ownV (finV I i c))) -∗ wpB c K Q) -∗ wpB c (finP A c K) Q) := by
  unfold finP smemLoadElt Ins
  iintro ⟨⟨Hx, Hw, Hsx, Hsw⟩, HG, Hown⟩ Hk
  iapply (wp_loadM_whole c (I.sx c) off0) $$ Hsx
  iintro Hsx
  iapply (wp_loadM_whole c (I.sw c) off0) $$ Hsw
  iintro Hsw
  iapply (wp_rings c (R := iprop(emp)) (GF I A c) (fun i => iprop(∃ x, ownPts (F := F) c i x)) (fun i => ownPts c i (ownV (finV I i c))) _
    fun i _ _ => wp_finRing I A c i) $$ [HG Hown]
  · isplitr; · iempintro
    isplitl [HG]; · iexact HG
    iexact Hown
  iintro ⟨HG, Hown⟩
  iapply Hk
  isplitr [HG Hown]
  · isplitl [Hx]; · iexact Hx
    isplitl [Hw]; · iexact Hw
    isplitl [Hsx]; · iexact Hsx
    iexact Hsw
  isplitl [HG]; · iexact HG
  iexact Hown

/-- The distribution, to the end of the body. -/
theorem wp_ag {v : S4096x2048.Idx → Elt F .f32} (hv : FInv I c (prog 0 0) v) {Q : PUnit → sProp 𝕄} :
    iprop(Recs I κ ς ∗ OwesX c (3 + 8 * 16) ∗ (All fun i => iprop(RM c i 15 ∗ ownPts c i (ownV (finV I i c)))) ∗ mPts c A.o v)
      ⊢ iprop(((OwesX c 259 ∗ (All fun i => Fin0 c i) ∗ (All fun i => Pos c (.cr i) 1) ∗ mPts c A.o (outV I c)) -∗ wpB c (.ret ⟨⟩) Q)
        -∗ wpB c (agP A c) Q) := by
  unfold agP tailP
  iintro ⟨#HR, HO, HS, Ho⟩ Hk
  iapply (wp_rings c (R := Recs I κ ς) (fun k => OwesX c (3 + 8 * 16 + 2 * k)) (fun i => iprop(RM c i 15 ∗ ownPts c i (ownV (finV I i c))))
    (fun i => AG I c i 0) (fun i => sendTo c i 0 (own i) (own_whole i).wordExact) fun i _ _ => wp_agFirst I κ ς c i) $$ [HO HS]
  · isplitr; · iexact HR
    isplitl [HO]; · iexact HO
    iexact HS
  iintro ⟨HO, HS⟩
  iapply (wp_agLoop I κ ς A c 15 (by decide)) $$ [HO HS Ho]
  · isplitr; · iexact HR
    isplitr [HS]
    · unfold GA
      isplitl [HO]; · iexact HO
      iexists v
      isplitl [Ho]; · iexact Ho
      ipureintro; exact hv
    iexact HS
  unfold GA
  rw [prog_zero]
  iintro ⟨⟨HO, %v', Ho, %hv'⟩, HS⟩
  have e := FInv_outV I c hv'
  subst e
  ihave HS := (All_mono (AG_end I c)) $$ HS
  ihave HS := (All_split _ _) $$ HS
  icases HS with ⟨HF, HC⟩
  iapply (wp_inOrder c (R := Recs I κ ς) (OwesX c (3 + 8 * (17 + 15) + 2 * 0)) (fun i => CrS c i 27) (fun i => Pos c (.cr i) 1) (fun i K => waitCredit i 3#32 K)
    fun i _ _ => wp_credit3 I κ ς c i (by decide)) $$ [HO HC]
  · isplitr; · iexact HR
    isplitl [HO]; · iexact HO
    iexact HC
  iintro ⟨HO, HC⟩
  iapply Hk
  isplitl [HO]; · iexact HO
  isplitl [HF]; · iexact HF
  isplitl [HC]; · iexact HC
  iexact Ho

/-- The barrier, taken with all four rings' slots free. -/
theorem wp_bar {K : PR F} {Q : PUnit → sProp 𝕄} :
    iprop(Recs I κ ς ∗ OwesX c 1 ∗ BarRes c ∗ All fun i => R0 c i)
      ⊢ iprop(((OwesX c 3 ∗ Pos c .bar 1 ∗ All fun i => iprop(R0 c i ∗ Known (dnD i c) i 4)) -∗ wpB c K Q) -∗ wpB c (barrierP c K) Q) := by
  have h : ∀ i, R0 (F := F) c i ⊢ iprop(R0 c i ∗ Known c i 4) := fun i => by
    unfold R0
    iintro ⟨HP, HPs, HC, HS, HT, HF⟩
    ihave HF := (FR_known c i (w := 0) (n := 4) (by decide +kernel)) $$ HF
    icases HF with ⟨HF, #HK⟩
    isplitl
    · isplitl [HP]; · iexact HP
      isplitl [HPs]; · iexact HPs
      isplitl [HC]; · iexact HC
      isplitl [HS]; · iexact HS
      isplitl [HT]; · iexact HT
      iexact HF
    iexact HK
  unfold BarRes
  iintro ⟨#HR, HO, ⟨Hc, Hat, Ht0, Ht1⟩, HS⟩ Hk
  ihave HS := (All_mono h) $$ HS
  unfold All
  icases HS with ⟨⟨H0, #K0⟩, ⟨H1, #K1⟩, ⟨H2, #K2⟩, ⟨H3, #K3⟩⟩
  iapply (wp_barrier I κ ς c) $$ [HO Hc Hat Ht0 Ht1]
  · isplitr; · iexact HR
    isplitl [HO]; · iexact HO
    isplitl [Hc]; · iexact Hc
    isplitl [Hat]; · iexact Hat
    isplitl [Ht0]; · iexact Ht0
    isplitl [Ht1]; · iexact Ht1
    isplitr; · iexact K0
    isplitr; · iexact K1
    isplitr; · iexact K2
    iexact K3
  iintro ⟨HO, HB, #N0, #N1, #N2, #N3⟩
  iapply Hk
  isplitl [HO]; · iexact HO
  isplitl [HB]; · iexact HB
  isplitl [H0]
  · isplitl [H0]; · iexact H0
    iexact N0
  isplitl [H1]
  · isplitl [H1]; · iexact H1
    iexact N1
  isplitl [H2]
  · isplitl [H2]; · iexact H2
    iexact N2
  isplitl [H3]; · iexact H3
  iexact N3

theorem wp_body {Q : PUnit → sProp 𝕄} :
    iprop(Recs I κ ς ∗ BodyPre I A c) ⊢ iprop((BodyPost I A c -∗ wpB c (.ret ⟨⟩) Q) -∗ wpB c (bodyP A c) Q) := by
  unfold BodyPre BodyPost Start bodyP
  rw [All_sep, All_sep]
  iintro ⟨#HR, HO, HB, ⟨HS, Hout, Hown⟩, HI, %v, Ho⟩ Hk
  iapply (wp_gemm I A c (S := 0) (by decide)) $$ [HI Ho]
  · isplitl [HI]; · iexact HI
    unfold GOut
    iexists v
    isplitl [Ho]; · iexact Ho
    ipureintro; intro r hr; exact absurd hr (Nat.not_lt_zero _)
  iintro H
  iapply (wp_gemm I A c (S := 0 + 1) (by decide)) $$ H
  iintro H
  iapply (wp_gemm I A c (S := 0 + 1 + 1) (by decide)) $$ H
  iintro ⟨HI, Ho⟩
  iapply (wp_rings c (R := iprop(emp)) (fun _ => GOut I A c 3) (fun i => OutAll c i) (fun i => Out1 I c i) (fun i => first A c i)
    fun i _ _ => by
      iintro ⟨-, H⟩
      iapply (wp_first I A c i) $$ H) $$ [Ho Hout]
  · isplitr; · iempintro
    isplitl [Ho]; · iexact Ho
    iexact Hout
  iintro ⟨Ho, Hout⟩
  iapply (wp_bar I κ ς c) $$ [HO HB HS]
  · isplitr; · iexact HR
    isplitl [HO]; · iexact HO
    isplitl [HB]; · iexact HB
    iexact HS
  iintro ⟨HO, HB, HS⟩
  iapply (wp_rings c (R := Recs I κ ς) (fun k => OwesX c (3 + 2 * k)) (fun i => iprop((R0 c i ∗ Known (dnD i c) i 4) ∗ Out1 I c i)) (fun i => RS c i 0)
    (fun i => sendTo c i 0 (slot (outb i) 0) (slot_words (outb_whole i) _)) fun i _ _ => by
      iintro ⟨#HR, HO, ⟨HS, HK⟩, Hout⟩
      iapply (wp_rsFirst I κ ς c i)
      isplitr; · iexact HR
      isplitl [HO]; · iexact HO
      isplitl [HS]; · iexact HS
      isplitl [HK]; · iexact HK
      iexact Hout) $$ [HO HS Hout]
  · isplitr; · iexact HR
    isplitl [HO]; · iexact HO
    iapply (All_join _ _)
    isplitl [HS]; · iexact HS
    iexact Hout
  iintro ⟨HO, HS⟩
  iapply (wp_gemmLoop I A c 13 (by decide)) $$ [HI Ho]
  · isplitl [HI]; · iexact HI
    iexact Ho
  unfold GOut
  iintro ⟨HI, %v', Ho, %hv⟩
  iapply (wp_rsLoop I κ ς A c 14 (by decide)) $$ [HO HS Ho]
  · isplitr; · iexact HR
    isplitr [HS]
    · unfold GR
      isplitl [HO]; · iexact HO
      iexists v'
      isplitl [Ho]; · iexact Ho
      ipureintro
      rw [prog_zero]; exact OInv_start I c hv
    iexact HS
  unfold GR
  iintro ⟨⟨HO, %v'', Ho, %hv''⟩, HS⟩
  iapply (wp_credits I κ ς c (n := 3 + 8 * (15 + 1) + 2 * 0) (by decide)) $$ [HO HS]
  · isplitr; · iexact HR
    isplitl [HO]; · iexact HO
    iexact HS
  iintro ⟨HO, HM, Hout⟩
  iapply (wp_fin I A c) $$ [HI Ho Hown]
  · isplitl [HI]; · iexact HI
    isplitl [Ho]
    · unfold GF
      iexists v''
      isplitl [Ho]; · iexact Ho
      ipureintro; exact OInv_end I c hv''
    iexact Hown
  unfold GF
  iintro ⟨HI, ⟨%v₃, Ho, %hv₃⟩, Hown⟩
  iapply (wp_ag I κ ς A c (MInv_end I c hv₃)) $$ [HO HM Hown Ho]
  · isplitr; · iexact HR
    isplitl [HO]; · iexact HO
    isplitr [Ho]
    · iapply (All_join _ _)
      isplitl [HM]; · iexact HM
      iexact Hown
    iexact Ho
  iintro ⟨HO, HF, HC, Ho⟩
  iapply Hk
  isplitl [HO]; · iexact HO
  isplitl [HB]; · iexact HB
  isplitl [HF]; · iexact HF
  isplitl [HC]; · iexact HC
  isplitl [Hout]; · iexact Hout
  isplitl [HI]; · iexact HI
  iexact Ho

end Cert.KernelIdeal.Proof
-- ==== Proof.Ideal.Bufs.lean ====
/- The kernel's buffers, cut into slots and joined. -/
module

public import proofs.«01_k».proof.Proof.Ideal.Whole
public import Idealize.SL.BI.BigOpNat
public import Idealize.ShloMosaic.Lib.Ring

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (c : Dev nD)

theorem slotR_mem (j : Fin 4) (x : S4x64x2048.Idx) : x ∈ (slotR j).set ↔ (x 0).val = j.val := by
  unfold slotR
  rw [Rect.mem_set_unit]
  constructor
  · intro h
    have := h 0
    have e : (![j.val, 0, 0] : Fin 3 → ℕ) 0 = j.val := rfl
    have e' : S1x64x2048.size 0 = 1 := rfl
    rw [e, e'] at this; omega
  · intro h a
    have hx := (x a).isLt
    match a with
    | 0 => exact ⟨h.ge, by show (x 0).val < j.val + 1; omega⟩
    | 1 => exact ⟨Nat.zero_le _, by show (x 1).val < 0 + 64; simpa using hx⟩
    | 2 => exact ⟨Nat.zero_le _, by show (x 2).val < 0 + 2048; simpa using hx⟩

/-- The elements of slot `j`. -/
def slotSet (m : Memref sig .tc .vmem S4x64x2048 .bf16) (j : Fin 4) : Finset (Idx (m.view.loc (c : Thread nD τ))) := (slot m j).view.set

theorem slots_disj (m : Memref sig .tc .vmem S4x64x2048 .bf16) (j j' : Fin 4) (h : j ≠ j') :
    Disjoint (slotSet c m j) (slotSet c m j') := by
  unfold slotSet
  rw [slot_set, slot_set]
  refine Finset.disjoint_left.mpr fun y hy hy' => ?_
  obtain ⟨z, -, rfl⟩ := Finset.mem_map.mp hy
  obtain ⟨z', -, e⟩ := Finset.mem_map.mp hy'
  have e' : (slotR j').emb z' = (slotR j).emb z := m.view.emb.injective e
  have h1 := (slotR_mem j _).mp (show (slotR j).emb z ∈ (slotR j).set from LoadRect.idx_mem _ z)
  have h2 := (slotR_mem j' _).mp (show (slotR j').emb z' ∈ (slotR j').set from LoadRect.idx_mem _ z')
  rw [e'] at h2
  exact h (Fin.ext (h1.symm.trans h2))

theorem slots_cover (m : Memref sig .tc .vmem S4x64x2048 .bf16) (hm : m.IsWhole) :
    Finset.univ.biUnion (slotSet c m) = Finset.univ := by
  refine Finset.eq_univ_iff_forall.mpr fun y => ?_
  have hy : y ∈ m.view.set := by rw [hm.set_eq_univ]; exact Finset.mem_univ _
  obtain ⟨x, -, rfl⟩ := Finset.mem_map.mp hy
  refine Finset.mem_biUnion.mpr ⟨⟨(x 0).val, (x 0).isLt⟩, Finset.mem_univ _, ?_⟩
  unfold slotSet
  rw [slot_set]
  have hj := LoadRect.exists_idx_of_mem _ ((slotR_mem ⟨(x 0).val, (x 0).isLt⟩ x).mpr rfl)
  obtain ⟨z, hz⟩ := hj
  exact Finset.mem_map.mpr ⟨z, Finset.mem_univ _, congrArg m.view.emb hz⟩

/-- Slot `j` of `m` at some contents. -/
def slotAny (m : Memref sig .tc .vmem S4x64x2048 .bf16) (j : Fin 4) : sProp 𝕄 :=
  iprop(∃ v : FVec F S64x2048 .bf16, (slot m j).view.loc (c : Thread nD τ) ↦[(slot m j).view.set]{fullShare} (slot m j).view.rep (Val := Elt F) v)

theorem slotAny_of (m : Memref sig .tc .vmem S4x64x2048 .bf16) (j : Fin 4) (f : Buf (Elt F) (m.view.loc (c : Thread nD τ))) :
    (m.view.loc (c : Thread nD τ) ↦[slotSet c m j]{fullShare} f : sProp 𝕄) ⊢ slotAny c m j := by
  have h := pointsTo_rep_entails (Ix := ℕ) (Name := ℕ) (U := UU) (Lvl := ℕ) (c : Thread nD τ) (slot m j) f fullShare
  exact h.trans (exists_intro_trans _ (Entails.refl _))

theorem slotAny_to (m : Memref sig .tc .vmem S4x64x2048 .bf16) (j : Fin 4) :
    slotAny c m j ⊢ (iprop(∃ f : Buf (Elt F) (m.view.loc (c : Thread nD τ)), m.view.loc (c : Thread nD τ) ↦[slotSet c m j]{fullShare} f) : sProp 𝕄) :=
  exists_elim fun v => exists_intro_trans ((slot m j).view.rep (Val := Elt F) v) (Entails.refl _)

theorem slots_split (m : Memref sig .tc .vmem S4x64x2048 .bf16) (hm : m.IsWhole) :
    (iprop(∃ f : Buf (Elt F) (m.view.loc (c : Thread nD τ)), m.view.loc (c : Thread nD τ) ↦{fullShare} f) : sProp 𝕄)
      ⊢ All fun j => slotAny (F := F) c m j := by
  refine exists_elim fun f => ?_
  have h1 : (bigSep Finset.univ fun j => (m.view.loc (c : Thread nD τ) ↦[slotSet c m j]{fullShare} f : sProp 𝕄)) ⊢ bigSep Finset.univ fun j => slotAny (F := F) c m j :=
    bigSep_mono fun j _ => slotAny_of c m j f
  have h2 := Idealize.ShloMosaic.Ring.pointsTo_blocks (Ix := ℕ) (Name := ℕ) (U := UU) (Lvl := ℕ) (slotSet c m) (slots_disj c m) (slots_cover c m hm) (q := fullShare) f
  rw [← All_bigSep]
  exact (Entails.of_eq h2).trans h1

theorem slots_join (m : Memref sig .tc .vmem S4x64x2048 .bf16) (hm : m.IsWhole) :
    (All fun j => slotAny (F := F) c m j)
      ⊢ (iprop(∃ f : Buf (Elt F) (m.view.loc (c : Thread nD τ)), m.view.loc (c : Thread nD τ) ↦{fullShare} f) : sProp 𝕄) := by
  have h1 : (bigSep Finset.univ fun j => slotAny (F := F) c m j) ⊢ bigSep Finset.univ fun j =>
      (iprop(∃ f : Buf (Elt F) (m.view.loc (c : Thread nD τ)), m.view.loc (c : Thread nD τ) ↦[slotSet c m j]{fullShare} f) : sProp 𝕄) :=
    bigSep_mono fun j _ => slotAny_to c m j
  have h2 := Idealize.ShloMosaic.Ring.pointsTo_blocks_join_exists (Ix := ℕ) (Name := ℕ) (U := UU) (Lvl := ℕ) (slotSet c m) (slots_disj c m) (slots_cover c m hm)
    (q := fullShare) (m.view.rep (Val := Elt F) fun _ => Classical.choice ((inferInstance : ∀ e, Nonempty (Elt F e)) .bf16))
  rw [← All_bigSep]
  exact h1.trans h2

theorem rep_whole (b : Ref sig .tc) (v : b.ty.Contents (Elt F)) : (View.whole b : View sig .tc _ _ _).rep (Val := Elt F) v = v :=
  (View.read_whole (Val := Elt F) (b := b) _).symm.trans (View.read_rep (Val := Elt F) (View.whole b : View sig .tc _ _ _) v)

theorem whole_pts (b : Ref sig .tc) (v : b.ty.Contents (Elt F)) :
    ((Memref.whole b : Memref sig .tc _ _ _).view.loc (c : Thread nD τ) ↦[(Memref.whole b : Memref sig .tc _ _ _).view.set]{fullShare} (Memref.whole b : Memref sig .tc _ _ _).view.rep (Val := Elt F) v : sProp 𝕄)
      = ((c : Thread nD τ).loc b ↦{fullShare} (v : Buf (Elt F) ((c : Thread nD τ).loc b))) := by
  simp only [Memref.view_whole, View.set_whole, rep_whole]

/-- A buffer at some contents. -/
abbrev bufAny (b : Ref sig .tc) : sProp 𝕄 :=
  iprop(∃ f : Buf (Elt F) ((c : Thread nD τ).loc b), ((c : Thread nD τ).loc b) ↦{fullShare} f)

theorem commB_split (i : Fin 4) : bufAny (F := F) c (comm i).view.ref ⊢ CommAll c i := slots_split c (comm i) (comm_whole i)
theorem commB_join (i : Fin 4) : CommAll (F := F) c i ⊢ bufAny c (comm i).view.ref := slots_join c (comm i) (comm_whole i)
theorem outbB_split (i : Fin 4) : bufAny (F := F) c (outb i).view.ref ⊢ OutAll c i := slots_split c (outb i) (outb_whole i)
theorem outbB_join (i : Fin 4) : OutAll (F := F) c i ⊢ bufAny c (outb i).view.ref := slots_join c (outb i) (outb_whole i)
theorem own_eq (i : Fin 4) : bufAny (F := F) c (own i).view.ref = iprop(∃ x, ownPts (F := F) c i x) := by
  unfold ownPts
  have h := fun (b : Ref sig .tc) => (funext fun v => (whole_pts (F := F) c b v).symm)
  fin_cases i <;> exact congrArg _ (h _)

theorem scr_eq : (Pipeline.scopedRest cfg0.spec c : sProp 𝕄)
    = iprop(bufAny (F := F) c (comm 0).view.ref ∗ bufAny (F := F) c (comm 1).view.ref ∗ bufAny (F := F) c (comm 2).view.ref ∗ bufAny (F := F) c (comm 3).view.ref
      ∗ bufAny (F := F) c (outb 0).view.ref ∗ bufAny (F := F) c (outb 1).view.ref ∗ bufAny (F := F) c (outb 2).view.ref ∗ bufAny (F := F) c (outb 3).view.ref
      ∗ bufAny (F := F) c (own 0).view.ref ∗ bufAny (F := F) c (own 1).view.ref ∗ bufAny (F := F) c (own 2).view.ref ∗ bufAny (F := F) c (own 3).view.ref) :=
  scopedRest0_eq c

/-- The scratch buffers, slot by slot. -/
theorem scr_split : (Pipeline.scopedRest cfg0.spec c : sProp 𝕄)
    ⊢ iprop((All fun i => CommAll (F := F) c i) ∗ (All fun i => OutAll (F := F) c i) ∗ All fun i => iprop(∃ x, ownPts (F := F) c i x)) := by
  rw [scr_eq]
  iintro ⟨H0, H1, H2, H3, H4, H5, H6, H7, H8, H9, H10, H11⟩
  isplitl [H0 H1 H2 H3]
  · unfold All
    isplitl [H0]; · iapply (commB_split (F := F) c 0) $$ H0
    isplitl [H1]; · iapply (commB_split (F := F) c 1) $$ H1
    isplitl [H2]; · iapply (commB_split (F := F) c 2) $$ H2
    iapply (commB_split (F := F) c 3) $$ H3
  isplitl [H4 H5 H6 H7]
  · unfold All
    isplitl [H4]; · iapply (outbB_split (F := F) c 0) $$ H4
    isplitl [H5]; · iapply (outbB_split (F := F) c 1) $$ H5
    isplitl [H6]; · iapply (outbB_split (F := F) c 2) $$ H6
    iapply (outbB_split (F := F) c 3) $$ H7
  unfold All
  isplitl [H8]; · iapply (Entails.of_eq (own_eq (F := F) c 0)) $$ H8
  isplitl [H9]; · iapply (Entails.of_eq (own_eq (F := F) c 1)) $$ H9
  isplitl [H10]; · iapply (Entails.of_eq (own_eq (F := F) c 2)) $$ H10
  iapply (Entails.of_eq (own_eq (F := F) c 3)) $$ H11

theorem scr_join : iprop((All fun i => CommAll (F := F) c i) ∗ (All fun i => OutAll (F := F) c i) ∗ All fun i => iprop(∃ x, ownPts (F := F) c i x))
    ⊢ (Pipeline.scopedRest cfg0.spec c : sProp 𝕄) := by
  rw [scr_eq]
  unfold All
  iintro ⟨⟨H0, H1, H2, H3⟩, ⟨H4, H5, H6, H7⟩, H8, H9, H10, H11⟩
  isplitl [H0]; · iapply (commB_join (F := F) c 0) $$ H0
  isplitl [H1]; · iapply (commB_join (F := F) c 1) $$ H1
  isplitl [H2]; · iapply (commB_join (F := F) c 2) $$ H2
  isplitl [H3]; · iapply (commB_join (F := F) c 3) $$ H3
  isplitl [H4]; · iapply (outbB_join (F := F) c 0) $$ H4
  isplitl [H5]; · iapply (outbB_join (F := F) c 1) $$ H5
  isplitl [H6]; · iapply (outbB_join (F := F) c 2) $$ H6
  isplitl [H7]; · iapply (outbB_join (F := F) c 3) $$ H7
  isplitl [H8]; · iapply (Entails.of_eq (own_eq (F := F) c 0).symm) $$ H8
  isplitl [H9]; · iapply (Entails.of_eq (own_eq (F := F) c 1).symm) $$ H9
  isplitl [H10]; · iapply (Entails.of_eq (own_eq (F := F) c 2).symm) $$ H10
  iapply (Entails.of_eq (own_eq (F := F) c 3).symm) $$ H11
-- ==== Proof.Ideal.Ghost.lean ====
/- The launch: tokens minted, dealt to the devices that spend them. -/
module

public import proofs.«01_k».proof.Proof.Ideal.Bufs
public import Idealize.SL.BI.BigOpNat
public import Idealize.ShloMosaic.Lib.Pipeline.Kit

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Minting -/

def ringCells : Finset (GSem nD τ sig) :=
  Finset.univ.map ⟨fun x : Dev nD × CK => kcell x.1 x.2, fun _ _ h => Prod.ext (kcell_inj h).1 (kcell_inj h).2⟩

abbrev Tok := GSem nD τ sig × ℕ × ℕ
def barTok : Dev nD × Bool ↪ Tok where
  toFun x := (kcell x.1 .bar, 0, x.2.toNat)
  inj' := fun ⟨c, b⟩ ⟨c', b'⟩ h => by
    have h1 := (kcell_inj (congrArg (fun t : Tok => t.1) h)).1
    have h2 : b.toNat = b'.toNat := congrArg (fun t : Tok => t.2.2) h
    cases b <;> cases b' <;> first | exact absurd h2 (by decide) | (simp only at h1; rw [h1])
/-- The duty of arrival `k.2.2` at a cell of ring `k.2.1` of device `k.1`. -/
def keyTok (f : Fin 4 → ℕ → CK) (g : ℕ → ℕ) (hf : ∀ i w i' w', f i w = f i' w' → i = i') : Key ↪ Tok where
  toFun k := (kcell k.1 (f k.2.1 k.2.2), g k.2.2, k.2.2)
  inj' := fun ⟨c, i, w⟩ ⟨c', i', w'⟩ h => by
    have h1 := kcell_inj (congrArg (fun t : Tok => t.1) h)
    have h2 : w = w' := congrArg (fun t : Tok => t.2.2) h
    have h3 : c = c' := h1.1
    have h4 : i = i' := hf _ _ _ _ h1.2
    rw [h2, h3, h4]
def crTok : Key ↪ Tok := keyTok (fun i _ => .cr i) (fun _ => 0) fun _ _ _ _ h => CK.cr.inj h
def snTok : Key ↪ Tok := keyTok (fun i w => .sn i (sw w)) rnd fun _ _ _ _ h => (CK.sn.inj h).1
def rcTok : Key ↪ Tok := keyTok (fun i w => .rc i (sw w)) rnd fun _ _ _ _ h => (CK.rc.inj h).1

def ringToks : Finset Tok := Finset.univ.map barTok ∪ (keysAll.map crTok ∪ (keysAll.map snTok ∪ keysAll.map rcTok))

theorem maps_disj {α β : Type} {f : α ↪ Tok} {g : β ↪ Tok} (s : Finset α) (t : Finset β) (kf : α → Dev nD × CK) (kg : β → Dev nD × CK)
    (hf : ∀ a, (f a).1 = kcell (kf a).1 (kf a).2) (hg : ∀ b, (g b).1 = kcell (kg b).1 (kg b).2) (h : ∀ a b, (kf a).2 ≠ (kg b).2) : Disjoint (s.map f) (t.map g) :=
  Finset.disjoint_left.mpr fun x h1 h2 => by
    obtain ⟨a, -, rfl⟩ := Finset.mem_map.mp h1
    obtain ⟨b, -, e⟩ := Finset.mem_map.mp h2
    exact h a b (kcell_inj ((hf a).symm.trans ((congrArg Prod.fst e).symm.trans (hg b)))).2

theorem ringToks_split (Φ : Tok → sProp 𝕄) : bigSep ringToks Φ
    = iprop((bigSep Finset.univ fun x => Φ (barTok x)) ∗ (bigSep keysAll fun k => Φ (crTok k)) ∗ (bigSep keysAll fun k => Φ (snTok k)) ∗ bigSep keysAll fun k => Φ (rcTok k)) := by
  unfold ringToks
  have d4 : Disjoint (keysAll.map snTok) (keysAll.map rcTok) :=
    maps_disj _ _ (fun k => (k.1, .sn k.2.1 (sw k.2.2))) (fun k => (k.1, .rc k.2.1 (sw k.2.2))) (fun _ => rfl) (fun _ => rfl) (fun _ _ h => by cases h)
  have d5 : Disjoint (keysAll.map crTok) (keysAll.map snTok) :=
    maps_disj _ _ (fun k => (k.1, .cr k.2.1)) (fun k => (k.1, .sn k.2.1 (sw k.2.2))) (fun _ => rfl) (fun _ => rfl) (fun _ _ h => by cases h)
  have d6 : Disjoint (keysAll.map crTok) (keysAll.map rcTok) :=
    maps_disj _ _ (fun k => (k.1, .cr k.2.1)) (fun k => (k.1, .rc k.2.1 (sw k.2.2))) (fun _ => rfl) (fun _ => rfl) (fun _ _ h => by cases h)
  have d7 : Disjoint (Finset.univ.map barTok) (keysAll.map crTok) :=
    maps_disj _ _ (fun x => (x.1, .bar)) (fun k => (k.1, .cr k.2.1)) (fun _ => rfl) (fun _ => rfl) (fun _ _ h => by cases h)
  have d8 : Disjoint (Finset.univ.map barTok) (keysAll.map snTok) :=
    maps_disj _ _ (fun x => (x.1, .bar)) (fun k => (k.1, .sn k.2.1 (sw k.2.2))) (fun _ => rfl) (fun _ => rfl) (fun _ _ h => by cases h)
  have d9 : Disjoint (Finset.univ.map barTok) (keysAll.map rcTok) :=
    maps_disj _ _ (fun x => (x.1, .bar)) (fun k => (k.1, .rc k.2.1 (sw k.2.2))) (fun _ => rfl) (fun _ => rfl) (fun _ _ h => by cases h)
  have d2 := Finset.disjoint_union_right.mpr ⟨d5, d6⟩
  have d1 := Finset.disjoint_union_right.mpr ⟨d7, Finset.disjoint_union_right.mpr ⟨d8, d9⟩⟩
  rw [bigSep_union d1, bigSep_union d2, bigSep_union d4, bigSep_map, bigSep_map, bigSep_map, bigSep_map]
  rfl

def u₀ : UU :=
  (initOf (Pipeline.cells cfgs cellOf_inj) (Pipeline.launchToks cfgs cellOf_inj), (initOf ringCells ringToks, initSlots keysAll 1))

/-! ## Dealing -/

/-- A ring and an arrival. -/
def pairs : Finset (Fin 4 × ℕ) := Finset.univ ×ˢ Finset.range 30

theorem big_insert' {α : Type} [DecidableEq α] {a : α} {s : Finset α} (h : a ∉ s) (Φ : α → sProp 𝕄) : bigSep (insert a s) Φ = iprop(Φ a ∗ bigSep s Φ) := bigSep_insert h

theorem big_prod {α β : Type} [DecidableEq α] [DecidableEq β] (s : Finset α) (t : Finset β) (Φ : α × β → sProp 𝕄) :
    bigSep (s ×ˢ t) Φ = bigSep s fun a => bigSep t fun b => Φ (a, b) := by
  induction s using Finset.induction_on with
  | empty => rw [Finset.empty_product, bigSep_empty, bigSep_empty]
  | insert a s ha ih =>
    have hd : Disjoint (t.map ⟨fun b => (a, b), fun _ _ h => (Prod.mk.inj h).2⟩) (s ×ˢ t) := Finset.disjoint_left.mpr fun x h1 h2 => by
      obtain ⟨b, -, rfl⟩ := Finset.mem_map.mp h1
      exact ha (Finset.mem_product.mp h2).1
    have hu : insert a s ×ˢ t = t.map ⟨fun b => (a, b), fun _ _ h => (Prod.mk.inj h).2⟩ ∪ s ×ˢ t := by
      ext ⟨x, y⟩
      simp only [Finset.mem_product, Finset.mem_insert, Finset.mem_union, Finset.mem_map, Function.Embedding.coeFn_mk, Prod.mk.injEq]
      constructor
      · rintro ⟨rfl | h, h'⟩
        · exact Or.inl ⟨y, h', rfl⟩
        · exact Or.inr ⟨h, h'⟩
      · rintro (⟨b, hb, e⟩ | ⟨h, h'⟩)
        · have e := Prod.mk.inj e; exact ⟨Or.inl e.1.symm, e.2 ▸ hb⟩
        · exact ⟨Or.inr h, h'⟩
    rw [hu, bigSep_union hd, bigSep_map, bigSep_insert ha, ih]; rfl

theorem big_comm {α β : Type} [DecidableEq α] [DecidableEq β] (s : Finset α) (t : Finset β) (Φ : α → β → sProp 𝕄) :
    (bigSep s fun a => bigSep t fun b => Φ a b) = bigSep t fun b => bigSep s fun a => Φ a b := by
  rw [← big_prod s t (fun x => Φ x.1 x.2), ← big_prod t s (fun x => Φ x.2 x.1),
    show t ×ˢ s = (s ×ˢ t).map (Equiv.prodComm α β).toEmbedding from by ext ⟨x, y⟩; simp [and_comm], bigSep_map]
  rfl

theorem pool_own (Φ : Key → sProp 𝕄) : bigSep keysAll Φ = bigSep Finset.univ fun c : Dev nD => bigSep pairs fun x => Φ (c, x.1, x.2) := by
  unfold keysAll pairs; rw [big_prod]

/-- The keys dealt around each ring. -/
theorem pool_move (e : Fin 4 → Dev nD ≃ Dev nD) (Φ : Key → sProp 𝕄) :
    bigSep keysAll Φ = bigSep Finset.univ fun c : Dev nD => bigSep pairs fun x => Φ (e x.1 c, x.1, x.2) := by
  rw [pool_own, big_comm, big_comm Finset.univ pairs]
  exact bigSep_congr fun x _ => by rw [bigSep_univ_equiv (e x.1)]

def dnE (i : Fin 4) : Dev nD ≃ Dev nD := ⟨dnD i, upD i, up_dn i, dn_up i⟩
def upE (i : Fin 4) : Dev nD ≃ Dev nD := ⟨upD i, dnD i, dn_up i, up_dn i⟩
def leftE : Dev nD ≃ Dev nD := ⟨leftD, rightD, right_left, left_right⟩
def rightE : Dev nD ≃ Dev nD := ⟨rightD, leftD, left_right, right_left⟩

/-- What a device spends or waits with: its places, the rights to pay, the counts of its slots. -/
def Lin (c : Dev nD) : sProp 𝕄 :=
  iprop((bigSep Finset.univ fun k : CK => atPos (ER (F := F)) (kcell c k) 0 ∅ 0)
    ∗ dutyTok (ER (F := F)) (kcell (leftD c) .bar) 0 0 ∗ dutyTok (ER (F := F)) (kcell (rightD c) .bar) 0 1
    ∗ (bigSep pairs fun x => dutyTok (ER (F := F)) (kcell (upD x.1 c) (.cr x.1)) 0 x.2)
    ∗ (bigSep pairs fun x => dutyTok (ER (F := F)) (kcell c (.sn x.1 (sw x.2))) (rnd x.2) x.2)
    ∗ (bigSep pairs fun x => dutyTok (ER (F := F)) (kcell (dnD x.1 c) (.rc x.1 (sw x.2))) (rnd x.2) x.2)
    ∗ (bigSep pairs fun x => writeTok (ES (F := F)) (dnD x.1 c, x.1, x.2) 1)
    ∗ (bigSep pairs fun x => readerAt (ES (F := F)) (c, x.1, x.2) 0))

theorem deal :
    iprop((bigSep ringCells fun g => atPos (ER (F := F)) g 0 ∅ 0) ∗ (bigSep ringToks fun x => dutyTok (ER (F := F)) x.1 x.2.1 x.2.2)
      ∗ (bigSep (keysAll ×ˢ Finset.range 1) fun x => writeTok (ES (F := F)) x.1 (x.2 + 1)) ∗ (bigSep keysAll fun k => readerAt (ES (F := F)) k 0))
      ⊢ (bigSep Finset.univ fun c => Lin (F := F) c) := by
  have e1 : (bigSep ringCells fun g => atPos (ER (F := F)) g 0 ∅ 0) = bigSep Finset.univ fun c : Dev nD => bigSep Finset.univ fun k : CK => atPos (ER (F := F)) (kcell c k) 0 ∅ 0 := by
    unfold ringCells; rw [bigSep_map, bigSep_univ_prod]; rfl
  have e2 : (bigSep Finset.univ fun x => dutyTok (ER (F := F)) (barTok x).1 (barTok x).2.1 (barTok x).2.2)
      = iprop((bigSep Finset.univ fun c : Dev nD => dutyTok (ER (F := F)) (kcell (leftD c) .bar) 0 0) ∗ bigSep Finset.univ fun c : Dev nD => dutyTok (ER (F := F)) (kcell (rightD c) .bar) 0 1) := by
    rw [bigSep_univ_prod]
    have h : ∀ c : Dev nD, (bigSep Finset.univ fun b : Bool => dutyTok (ER (F := F)) (barTok (c, b)).1 (barTok (c, b)).2.1 (barTok (c, b)).2.2)
        = iprop(dutyTok (ER (F := F)) (kcell c .bar) 0 0 ∗ dutyTok (ER (F := F)) (kcell c .bar) 0 1) := fun c => by
      rw [bigSep_univ_eq_bigSepL [false, true] (by decide) (by decide)]; rfl
    refine (bigSep_congr fun c _ => h c).trans ((bigSep_sep' _ _ _).trans ?_)
    rw [bigSep_univ_equiv leftE (fun c => dutyTok (ER (F := F)) (kcell c .bar) 0 0), bigSep_univ_equiv rightE (fun c => dutyTok (ER (F := F)) (kcell c .bar) 0 1)]
    rfl
  have e3 : (bigSep (keysAll ×ˢ Finset.range 1) fun x => writeTok (ES (F := F)) x.1 (x.2 + 1)) = bigSep keysAll fun k => writeTok (ES (F := F)) k 1 := by
    rw [big_prod]
    exact bigSep_congr fun k _ => by rw [Finset.range_one, bigSep_singleton]
  rw [e1, ringToks_split, e2, e3, pool_move upE (fun k => dutyTok (ER (F := F)) (crTok k).1 (crTok k).2.1 (crTok k).2.2),
    pool_own (fun k => dutyTok (ER (F := F)) (snTok k).1 (snTok k).2.1 (snTok k).2.2),
    pool_move dnE (fun k => dutyTok (ER (F := F)) (rcTok k).1 (rcTok k).2.1 (rcTok k).2.2),
    pool_move dnE (fun k => writeTok (ES (F := F)) k 1), pool_own (fun k => readerAt (ES (F := F)) k 0)]
  unfold Lin
  simp only [bigSep_sep']
  iintro ⟨H1, ⟨⟨H2, H3⟩, H4, H5, H6⟩, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## Setting up -/

variable (I : Inp F)

/-- The kernel's scoped semaphores. -/
abbrev OK := Fin 4 ⊕ (Fin 4 × Fin 4) ⊕ (Fin 4 × Fin 4)
def osem (k : OK) : SemLoc sig := csem (CK.equiv (.inr k))
theorem ownSemFacts : Pipeline.OwnSemFacts cfg0.spec osem := by decide +kernel

theorem unscopedSems0_eq (c : Dev nD) : (unscopedSems0 c : sProp 𝕄) = semVal (kcell c .bar) 0 := by
  unfold unscopedSems0; rw [bigSep_eq_bigSepL_of_eq [SemLoc.reg barS] (by decide) (by decide)]; rfl

theorem sems_eq (c : Dev nD) : (bigSep Finset.univ fun k : CK => (semVal (kcell c k) 0 : sProp 𝕄))
    = iprop(unscopedSems0 c ∗ Pipeline.ownSems0 (Ix := ℕ) (Name := ℕ) (U := UU) (Lvl := ℕ) (Val := Elt F) (τ := τ) osem c) := by
  rw [bigSep_univ_equiv CK.equiv, bigSep_univ_sum, unscopedSems0_eq, show (Finset.univ : Finset Unit) = {()} from rfl, bigSep_singleton]
  rfl

def RecsG (κ : Dev nD × CK → ℕ) (ς : Key → ℕ) : sProp 𝕄 :=
  iprop((bigSep Finset.univ fun x : Dev nD × CK => cellInv ER (Rd I) (κ x) (kcell x.1 x.2))
    ∗ (bigSep Finset.univ fun x : Dev nD × CK => reached (ER (F := F)) (kcell x.1 x.2) 0)
    ∗ (bigSep keysAll fun k => slotInv ES (ς k) k (freeSlot (F := F) k)))
instance RecsG_persistent (κ : Dev nD × CK → ℕ) (ς : Key → ℕ) : BI.Persistent (RecsG I κ ς) := by unfold RecsG; infer_instance

def G (c : Dev nD) : sProp 𝕄 := if c = 0 then BI.own (EX (F := F) (initOf ringCells ringToks, initSlots keysAll 1)) else iprop(emp)
def G' (c : Dev nD) : sProp 𝕄 := iprop(∃ κ ς, RecsG I κ ς ∗ Lin c)

theorem G_all : (bigSep Finset.univ fun c => G (F := F) c) = BI.own (EX (F := F) (initOf ringCells ringToks, initSlots keysAll 1)) := by
  have h : (bigSep (Finset.univ.erase (0 : Dev nD)) fun c => G (F := F) c) = iprop(emp) := by
    refine (bigSep_congr (Ψ := fun _ => (iprop(emp) : sProp 𝕄)) fun c hc => ?_).trans ?_
    · unfold G; exact if_neg (Finset.ne_of_mem_erase hc)
    · exact bigSep_emp_const _
  refine (bigSep_univ_at _ (0 : Dev nD)).trans ?_
  rw [h]
  unfold G
  rw [if_pos rfl]
  exact sep_emp_eq _

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem glob : (bigSep Finset.univ fun c => iprop(Pipeline.ownSems0 (Ix := ℕ) (Name := ℕ) (U := UU) (Lvl := ℕ) (Val := Elt F) (τ := τ) osem c ∗ unscopedSems0 c ∗ G (F := F) c) : sProp 𝕄)
    ⊢ |={Set.univ}=> bigSep Finset.univ (G' I) := by
  have hs : iprop((bigSep Finset.univ fun c : Dev nD => Pipeline.ownSems0 (Ix := ℕ) (Name := ℕ) (U := UU) (Lvl := ℕ) (Val := Elt F) (τ := τ) osem c)
      ∗ bigSep Finset.univ fun c : Dev nD => (unscopedSems0 c : sProp 𝕄)) ⊢ bigSep Finset.univ fun x : Dev nD × CK => (semVal (kcell x.1 x.2) 0 : sProp 𝕄) := by
    rw [bigSep_univ_prod, bigSep_congr fun c _ => sems_eq (F := F) c, bigSep_sep']
    exact sep_comm.1
  have hr : (bigSep ringCells fun g => roundState (ER (F := F)) (Rd I) g 0) = bigSep Finset.univ fun x : Dev nD × CK => roundState ER (Rd I) (kcell x.1 x.2) 0 := by
    unfold ringCells; rw [bigSep_map]; rfl
  have hr' : (bigSep ringCells fun g => reached (ER (F := F)) g 0) = bigSep Finset.univ fun x : Dev nD × CK => reached ER (kcell x.1 x.2) 0 := by
    unfold ringCells; rw [bigSep_map]; rfl
  have hi : iprop((bigSep Finset.univ fun x : Dev nD × CK => (semVal (kcell x.1 x.2) 0 : sProp 𝕄)) ∗ bigSep Finset.univ fun x : Dev nD × CK => roundState ER (Rd I) (kcell x.1 x.2) 0)
      ⊢ (|={Set.univ}=> bigSep Finset.univ fun x : Dev nD × CK => iprop(∃ κ : ℕ, cellInv ER (Rd I) κ (kcell x.1 x.2)) : sProp 𝕄) := by
    rw [← bigSep_sep']
    exact (bigSep_mono fun x _ => (Rounds.body_intro ER (Rd I) (kcell x.1 x.2)).trans inv_alloc).trans (bigSep_fupd _ _)
  rw [bigSep_sep', bigSep_sep', G_all]
  iintro ⟨Ho, Hu, HX⟩
  ihave Hv := hs $$ [Ho Hu]
  · isplitl [Ho] <;> iassumption
  ihave HX := (own_pair_emb (EX (F := F)) _ _) $$ HX
  icases HX with ⟨HR, HS⟩
  imod (Rounds.fund (ER (F := F)) (Rd I) ringCells ringToks) $$ HR with ⟨Hst, Hr, Hat, Htok⟩
  imod (slots_init (ES (F := F)) keysAll 1 (freeSlot (F := F))) $$ HS with ⟨%ς, -, #Hsl, Hrd, Hwt⟩
  ihave Hst := (Entails.of_eq hr) $$ Hst
  ihave #Hr := (Entails.of_eq hr') $$ Hr
  imod hi $$ [Hv Hst] with Hi
  · isplitl [Hv] <;> iassumption
  ihave HK := (BI.bigSep_exists_pi Finset.univ (fun (x : Dev nD × CK) (κ : ℕ) => (cellInv ER (Rd I) κ (kcell x.1 x.2) : sProp 𝕄))) $$ Hi
  icases HK with ⟨%κ, #HI⟩
  ihave HL := (deal (F := F)) $$ [Hat Htok Hwt Hrd]
  · isplitl [Hat]; · iexact Hat
    isplitl [Htok]; · iexact Htok
    isplitl [Hwt]; · iexact Hwt
    iexact Hrd
  imodintro
  iapply (with_persistent (R := RecsG I κ ς) (Φ := fun c => Lin (F := F) c) fun c _ => by
    unfold G'
    iintro ⟨H1, H2⟩
    iexists κ, ς
    isplitl [H1] <;> iassumption)
  isplitr [HL]
  · unfold RecsG
    isplitr; · iexact HI
    isplitr; · iexact Hr
    iexact Hsl
  iexact HL
-- ==== Proof.Ideal.Open.lean ====
/- What the body starts from, from what the launch deals. -/
module

public import proofs.«01_k».proof.Proof.Ideal.Ghost
public import Idealize.SL.BI.BigOpNat

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (κ : Dev nD × CK → ℕ) (ς : Key → ℕ) (c : Dev nD)

/-! ## The credits of the launch -/

theorem pairs_All (Φ : Fin 4 × ℕ → sProp 𝕄) : bigSep pairs Φ = All fun i => bigSep (Finset.Ico 0 30) fun w => Φ (i, w) := by
  unfold pairs; rw [big_prod, All_bigSep, Finset.range_eq_Ico]

def Creds : sProp 𝕄 :=
  iprop(cred (tallyAt (kcell c .bar) 1 2) ∗ (bigSep pairs fun x => rcvCred (F := F) c x.1 x.2) ∗ bigSep pairs fun x => crdCred (F := F) c x.1 x.2)

/-- A step and a ring as a ring and an arrival. -/
def pairE : Fin 30 × Fin 4 ↪ Fin 4 × ℕ := ⟨fun x => (x.2, x.1.val), fun x y h => Prod.ext (Fin.ext (Prod.mk.inj h).2) (Prod.mk.inj h).1⟩
theorem pairs_map : (Finset.univ : Finset (Fin 30 × Fin 4)).map pairE = pairs := by decide +kernel

theorem evs_one : evs 1 = Finset.univ := by decide +kernel

theorem creds : (Pipeline.launchCred (fun d => Ow d 1) c : sProp 𝕄) ⊢ Creds c := by
  have h : (Pipeline.launchCred (fun d => Ow d 1) c : sProp 𝕄) = bigSep Finset.univ fun e : Ev => Pipeline.launchCred (fun d => Ev.tally d e) c := by
    unfold Ow; rw [Pipeline.launchCred_sum (evs 1) (fun e d => Ev.tally d e) c, evs_one]
  have hb : (bigSep Finset.univ fun b : Bool => (Pipeline.launchCred (fun d => Ev.tally d (.bar b)) c : sProp 𝕄)) ⊢ cred (tallyAt (kcell c .bar) 1 2) := by
    rw [bigSep_univ_eq_bigSepL [false, true] (by decide) (by decide), show (2 : ℕ) = 1 + 1 from rfl, ← tallyAt_add]
    refine .trans ?_ (cred_add _ _).2
    exact BIClass.sep_mono (Pipeline.launchCred_tallyAt (csem .bar) leftD rightD left_right right_left 1 1 c)
      (Pipeline.launchCred_tallyAt (csem .bar) rightD leftD right_left left_right 1 1 c)
  have hs : (bigSep Finset.univ fun x : Fin 30 × Fin 4 => (Pipeline.launchCred (fun d => Ev.tally d (.send x.1 x.2)) c : sProp 𝕄)) ⊢ bigSep pairs fun x => rcvCred (F := F) c x.1 x.2 := by
    rw [← pairs_map, bigSep_map]
    refine bigSep_mono fun x _ => ?_
    exact Pipeline.launchCred_tallyAt (csem (.rc x.2 (sw x.1.val))) (dnD x.2) (upD x.2) (dn_up x.2) (up_dn x.2) _ N c
  have hg : (bigSep Finset.univ fun x : Fin 30 × Fin 4 => (Pipeline.launchCred (fun d => Ev.tally d (.grant x.1 x.2)) c : sProp 𝕄)) ⊢ bigSep pairs fun x => crdCred (F := F) c x.1 x.2 := by
    rw [← pairs_map, bigSep_map]
    refine bigSep_mono fun x _ => ?_
    exact Pipeline.launchCred_tallyAt (csem (.cr x.2)) (upD x.2) (dnD x.2) (up_dn x.2) (dn_up x.2) _ 1 c
  rw [h, bigSep_univ_equiv Ev.equiv, bigSep_univ_sum, bigSep_univ_sum]
  exact BIClass.sep_mono hb (BIClass.sep_mono hs hg)

/-! ## A ring's stock -/

theorem CK_split (Φ : CK → sProp 𝕄) : bigSep Finset.univ Φ
    = iprop(Φ .bar ∗ (All fun i => Φ (.cr i)) ∗ (All fun i => bigSep Finset.univ fun j => Φ (.sn i j)) ∗ All fun i => bigSep Finset.univ fun j => Φ (.rc i j)) := by
  rw [bigSep_univ_equiv CK.equiv, bigSep_univ_sum, bigSep_univ_sum, bigSep_univ_sum, show (Finset.univ : Finset Unit) = {()} from rfl, bigSep_singleton,
    bigSep_univ_prod, bigSep_univ_prod, All_bigSep, All_bigSep, All_bigSep]
  rfl

def RingIn (i : Fin 4) : sProp 𝕄 :=
  iprop(atPos (ER (F := F)) (kcell c (.cr i)) 0 ∅ 0
    ∗ (bigSep Finset.univ fun j => atPos (ER (F := F)) (kcell c (.sn i j)) 0 ∅ 0)
    ∗ (bigSep Finset.univ fun j => atPos (ER (F := F)) (kcell c (.rc i j)) 0 ∅ 0)
    ∗ (bigSep (Finset.Ico 0 30) fun w => dutyTok (ER (F := F)) (kcell (upD i c) (.cr i)) 0 w)
    ∗ (bigSep (Finset.Ico 0 30) fun w => dutyTok (ER (F := F)) (kcell c (.sn i (sw w))) (rnd w) w)
    ∗ (bigSep (Finset.Ico 0 30) fun w => dutyTok (ER (F := F)) (kcell (dnD i c) (.rc i (sw w))) (rnd w) w)
    ∗ (bigSep (Finset.Ico 0 30) fun w => writeTok (ES (F := F)) (dnD i c, i, w) 1)
    ∗ (bigSep (Finset.Ico 0 30) fun w => readerAt (ES (F := F)) (c, i, w) 0)
    ∗ (bigSep (Finset.Ico 0 30) fun w => rcvCred (F := F) c i w)
    ∗ (bigSep (Finset.Ico 0 30) fun w => crdCred (F := F) c i w)
    ∗ CommAll (F := F) c i ∗ OutAll (F := F) c i ∗ ∃ x, ownPts (F := F) c i x)

theorem rn_zero (j : Fin 4) : rn 0 j = 0 := by unfold rn; simp

theorem PosAll_open (kf : Fin 4 → CK) : iprop(Recs I κ ς ∗ bigSep Finset.univ fun j => atPos (ER (F := F)) (kcell c (kf j)) 0 ∅ 0) ⊢ PosAll (F := F) c kf 0 := by
  unfold PosAll
  refine with_persistent fun j _ => ?_
  unfold Pos
  rw [rn_zero]
  iintro ⟨#HR, H⟩
  isplitl; · iexact H
  iapply (Recs_reached I κ ς (c := c) (k := kf j)) $$ HR

theorem big_four (Φ : ℕ → sProp 𝕄) : bigSep (Finset.range 4) Φ = iprop(Φ 0 ∗ Φ 1 ∗ Φ 2 ∗ Φ 3) := by
  rw [show Finset.range 4 = {0, 1, 2, 3} from by decide, bigSep_insert (by decide), bigSep_insert (by decide), bigSep_insert (by decide), bigSep_singleton]
  rfl

theorem freeSlots (i : Fin 4) : iprop(Recs I κ ς ∗ CommAll (F := F) c i) ⊢ bigSep (Finset.range 4) fun w => freeSlot (F := F) (c, i, w) := by
  rw [big_four]
  unfold CommAll freeSlot
  have h : ∀ w : ℕ, rnd w = 0 → ∀ j, Recs I κ ς ⊢ reached (ER (F := F)) (kcell c (.rc i j)) (rnd w) := fun w hw j => by
    rw [hw]; exact Recs_reached I κ ς (c := c) (k := .rc i j)
  iintro ⟨#HR, H0, H1, H2, H3⟩
  isplitl [H0]
  · isplitl [H0]; · iexact H0
    iapply (h 0 (by decide) _) $$ HR
  isplitl [H1]
  · isplitl [H1]; · iexact H1
    iapply (h 1 (by decide) _) $$ HR
  isplitl [H2]
  · isplitl [H2]; · iexact H2
    iapply (h 2 (by decide) _) $$ HR
  isplitl [H3]; · iexact H3
  iapply (h 3 (by decide) _) $$ HR

theorem free_open (i : Fin 4) :
    iprop(Recs I κ ς ∗ CommAll (F := F) c i ∗ bigSep (Finset.Ico 0 30) fun w => readerAt (ES (F := F)) (c, i, w) 0) ⊢ |={Set.univ}=> FR (F := F) c i 0 := by
  have hd : Disjoint (Finset.range 4) ((freesFrom 0).image freed) := Finset.disjoint_left.mpr fun x h1 h2 => by
    obtain ⟨v, hv, rfl⟩ := Finset.mem_image.mp h2
    have hv := Finset.mem_filter.mp hv
    have := (freed_lt v (Finset.mem_Ico.mp hv.1).2 hv.2).1
    have := Finset.mem_range.mp h1
    omega
  have hinj : Set.InjOn freed (freesFrom 0 : Finset ℕ) := fun v hv w hw e => by
    have hv := Finset.mem_filter.mp (Finset.mem_coe.mp hv)
    have hw := Finset.mem_filter.mp (Finset.mem_coe.mp hw)
    exact freed_injOn v (Finset.mem_Ico.mp hv.1).2 w (Finset.mem_Ico.mp hw.1).2 hv.2 hw.2 e
  have hsp : (bigSep (Finset.Ico 0 30) fun w => readerAt (ES (F := F)) (c, i, w) 0)
      = iprop((bigSep (Finset.range 4) fun w => readerAt (ES (F := F)) (c, i, w) 0) ∗ bigSep (freesFrom 0) fun v => readerAt (ES (F := F)) (c, i, freed v) 0) := by
    rw [← Finset.range_eq_Ico, freed_cover, bigSep_union hd, bigSep_image_of_injOn hinj]; rfl
  have hrel : iprop(Recs I κ ς ∗ bigSep (Finset.range 4) fun w => iprop(readerAt (ES (F := F)) (c, i, w) 0 ∗ freeSlot (F := F) (c, i, w)))
      ⊢ |={Set.univ}=> bigSep (Finset.range 4) fun w => released (ES (F := F)) (c, i, w) 1 := by
    refine (with_persistent (Ψ := fun w => iprop(|={Set.univ}=> released (ES (F := F)) (c, i, w) 1)) fun w hw => ?_).trans (bigSep_fupd _ _)
    iintro ⟨#HR, Hr, Hf⟩
    ihave #Hsl := (Recs_slot I κ ς (c := c) (i := i) (w := w) (by have := Finset.mem_range.mp hw; omega)) $$ HR
    imod (slot_release (ES (F := F)) (k := (c, i, w)) (S := freeSlot (F := F) (c, i, w)) (Es := Set.univ) (Set.mem_univ _) (freeSlot_excl _) 0) $$ [Hr Hf] with ⟨-, #Hd⟩
    · isplitr; · iexact Hsl
      isplitl [Hr]; · iexact Hr
      iexact Hf
    imodintro
    iexact Hd
  have hz : freeSet 0 = Finset.range 4 := by unfold freeSet; simp
  rw [hsp]
  iintro ⟨#HR, Hc, Hr, Hrs⟩
  ihave Hf := (freeSlots I κ ς c i) $$ [Hc]
  · isplitr; · iexact HR
    iexact Hc
  ihave H := (Entails.of_eq (bigSep_sep' (Finset.range 4) (fun w => readerAt (ES (F := F)) (c, i, w) 0) (fun w => freeSlot (F := F) (c, i, w))).symm) $$ [Hr Hf]
  · isplitl [Hr]; · iexact Hr
    iexact Hf
  imod hrel $$ [H] with H
  · isplitr; · iexact HR
    iexact H
  imodintro
  unfold FR
  rw [hz]
  isplitl [Hrs]; · iexact Hrs
  iexact H

theorem ring_open (i : Fin 4) : iprop(Recs I κ ς ∗ RingIn (F := F) c i) ⊢ |={Set.univ}=> Start (F := F) c i := by
  unfold RingIn Start R0 CrS SK ST SendToks
  simp only [bigSep_sep']
  iintro ⟨#HR, Hcr, Hsn, Hrc, Tcr, Tsn, Trc, Tw, Hrd, Crc, Ccr, Hcm, Hout, Hown⟩
  imod (free_open I κ ς c i) $$ [Hcm Hrd] with HF
  · isplitr; · iexact HR
    isplitl [Hcm] <;> iassumption
  imodintro
  isplitr [Hout Hown]
  · isplitl [Hrc]
    · iapply (PosAll_open I κ ς c (CK.rc i))
      isplitr; · iexact HR
      iexact Hrc
    isplitl [Hsn]
    · iapply (PosAll_open I κ ς c (CK.sn i))
      isplitr; · iexact HR
      iexact Hsn
    isplitl [Hcr Ccr]
    · isplitl [Hcr]
      · unfold Cr
        iexists ∅
        isplitl [Hcr]; · iexact Hcr
        isplitr; · ipureintro; exact ⟨Finset.empty_subset _, Nat.zero_le _⟩
        rw [bigSep_empty]; iempintro
      iexact Ccr
    isplitl [Tsn Trc Tw]
    · isplitl [Tsn]; · iexact Tsn
      isplitl [Trc] <;> iassumption
    isplitl [Crc Tcr]
    · isplitl [Crc] <;> iassumption
    iexact HF
  isplitl [Hout] <;> iassumption

theorem body_open :
    iprop(Recs I κ ς ∗ Lin (F := F) c ∗ Creds c ∗ (All fun i => CommAll (F := F) c i) ∗ (All fun i => OutAll (F := F) c i) ∗ All fun i => iprop(∃ x, ownPts (F := F) c i x))
      ⊢ |={Set.univ}=> iprop(BarRes (F := F) c ∗ All fun i => Start (F := F) c i) := by
  have hj : iprop((All fun i => atPos (ER (F := F)) (kcell c (.cr i)) 0 ∅ 0)
    ∗ (All fun i => bigSep Finset.univ fun j => atPos (ER (F := F)) (kcell c (.sn i j)) 0 ∅ 0)
    ∗ (All fun i => bigSep Finset.univ fun j => atPos (ER (F := F)) (kcell c (.rc i j)) 0 ∅ 0)
    ∗ (All fun i => bigSep (Finset.Ico 0 30) fun w => dutyTok (ER (F := F)) (kcell (upD i c) (.cr i)) 0 w)
    ∗ (All fun i => bigSep (Finset.Ico 0 30) fun w => dutyTok (ER (F := F)) (kcell c (.sn i (sw w))) (rnd w) w)
    ∗ (All fun i => bigSep (Finset.Ico 0 30) fun w => dutyTok (ER (F := F)) (kcell (dnD i c) (.rc i (sw w))) (rnd w) w)
    ∗ (All fun i => bigSep (Finset.Ico 0 30) fun w => writeTok (ES (F := F)) (dnD i c, i, w) 1)
    ∗ (All fun i => bigSep (Finset.Ico 0 30) fun w => readerAt (ES (F := F)) (c, i, w) 0)
    ∗ (All fun i => bigSep (Finset.Ico 0 30) fun w => rcvCred (F := F) c i w)
    ∗ (All fun i => bigSep (Finset.Ico 0 30) fun w => crdCred (F := F) c i w)
    ∗ (All fun i => CommAll (F := F) c i) ∗ (All fun i => OutAll (F := F) c i) ∗ All fun i => iprop(∃ x, ownPts (F := F) c i x)) ⊢ All fun i => RingIn (F := F) c i := by
    unfold RingIn; simp only [All_sep]; exact Entails.refl _
  have ho : iprop(Recs I κ ς ∗ All fun i => RingIn (F := F) c i) ⊢ |={Set.univ}=> All fun i => Start (F := F) c i := by
    rw [← All_bigSep, ← All_bigSep]
    exact (with_persistent fun i _ => ring_open I κ ς c i).trans (bigSep_fupd _ _)
  unfold Lin Creds
  rw [CK_split]
  simp only [pairs_All]
  iintro ⟨#HR, ⟨⟨P0, P1, P2, P3⟩, T1, T2, T3, T4, T5, T6, T7⟩, ⟨C1, C2, C3⟩, B1, B2, B3⟩
  imod ho $$ [P1 P2 P3 T3 T4 T5 T6 T7 C2 C3 B1 B2 B3] with H
  · isplitr; · iexact HR
    iapply hj
    isplitl [P1]; · iexact P1
    isplitl [P2]; · iexact P2
    isplitl [P3]; · iexact P3
    isplitl [T3]; · iexact T3
    isplitl [T4]; · iexact T4
    isplitl [T5]; · iexact T5
    isplitl [T6]; · iexact T6
    isplitl [T7]; · iexact T7
    isplitl [C2]; · iexact C2
    isplitl [C3]; · iexact C3
    isplitl [B1]; · iexact B1
    isplitl [B2]; · iexact B2
    iexact B3
  imodintro
  unfold BarRes
  isplitr [H]
  · isplitl [C1]; · iexact C1
    isplitl [P0]; · iexact P0
    isplitl [T1] <;> iassumption
  iexact H
-- ==== Proof.Ideal.ProgEq.lean ====
/- The printed body is the sequence of steps of Prog.lean. -/
module

public import proofs.«01_k».proof.Proof.Ideal.Prog

@[expose] public section

noncomputable section

namespace Cert.KernelIdeal.Proof

open Idealize.ShloMosaic Idealize.SL.Sem
open Cert.KernelIdeal Cert.KernelIdeal.Gen

variable {F : FTy → Type} [FloatOps F]

theorem body_eq (A : Args) :
    cc0_body (F := F) A.x A.hx A.w A.hw A.sx A.hsx A.sw A.hsw A.o A.ho
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) (Memref.whole cc0_scratch11) (Memref.isWhole_whole _)
      cc0_scratch12 cc0_scratch13 cc0_scratch14 cc0_scratch15 cc0_scratch16 cc0_scratch17 cc0_scratch18 cc0_scratch19
    = .op .deviceId fun d => bodyP A d := by
  chain_rfl

end Cert.KernelIdeal.Proof
-- ==== Proof.Ideal.Launch.lean ====
/- The launch: what the region starts from and what it leaves. -/
module

public import proofs.«01_k».proof.Proof.Ideal.Open
public import proofs.«01_k».proof.Proof.Ideal.ProgEq
public import Idealize.ShloMosaic.Lib.Pipeline.CollectiveSegs
public import Idealize.ShloMosaic.Lib.Quiescent
public import Idealize.SL.BI.BigOpNat

@[expose] public section

noncomputable section

namespace Cert.KernelIdeal.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

open Idealize.ShloMosaic.Pipeline (Dat Cfg Window BodyObligation cellOf)

/-! ## Closing the cells -/

section Close

variable (I : Inp F) (κ : Dev nD × CK → ℕ) (ς : Key → ℕ) (c : Dev nD)

theorem lvl_lt' (e : Ev) : e.lvl < 259 := by revert e; decide +kernel
theorem Ow_last : Ow c 259 = 0 := by
  unfold Ow
  have h : evs 259 = ∅ := Finset.filter_eq_empty_iff.mpr fun e _ => by have := lvl_lt' e; omega
  rw [h, Finset.sum_empty]

theorem close_cell (k : CK) (r : ℕ) (h : ∀ r', r ≤ r' → kduties k r' = ∅) :
    iprop(Recs I κ ς ∗ Pos (F := F) c k r) ⊢ |={Set.univ}=> (semVal (kcell c k) 0 : sProp 𝕄) := by
  unfold Pos
  iintro ⟨#HR, Hp, -⟩
  ihave #Hi := (Recs_inv I κ ς c k) $$ HR
  iapply (Rounds.cell_close (ER (F := F)) (Rd I) (Set.mem_univ (κ (c, k))) (g := kcell c k) (fun h => h) (R := r)
    (fun r' hr => (duties_eq I c k r').trans (h r' hr))) $$ [Hp]
  isplitr; · iexact Hi
  iexact Hp

theorem close_all {J : Type} [Fintype J] [DecidableEq J] (kf : J → CK) (r : J → ℕ) (h : ∀ j r', r j ≤ r' → kduties (kf j) r' = ∅) :
    iprop(Recs I κ ς ∗ bigSep Finset.univ fun j => Pos (F := F) c (kf j) (r j)) ⊢ |={Set.univ}=> bigSep Finset.univ fun j => (semVal (kcell c (kf j)) 0 : sProp 𝕄) :=
  (with_persistent fun j _ => close_cell I κ ς c (kf j) (r j) (h j)).trans (bigSep_fupd _ _)

theorem close_ring (kf : Fin 4 → Fin 4 → CK) (h : ∀ i j r, rn 30 j ≤ r → kduties (kf i j) r = ∅) :
    iprop(Recs I κ ς ∗ All fun i => PosAll (F := F) c (kf i) 30)
      ⊢ |={Set.univ}=> All fun i => bigSep Finset.univ fun j => (semVal (kcell c (kf i j)) 0 : sProp 𝕄) := by
  rw [← All_bigSep, ← All_bigSep]
  exact (with_persistent fun i _ => close_all I κ ς c (kf i) (rn 30) (h i)).trans (bigSep_fupd _ _)

theorem body_close :
    iprop(Recs I κ ς ∗ Pos (F := F) c .bar 1 ∗ (All fun i => Fin0 c i) ∗ (All fun i => Pos c (.cr i) 1) ∗ All fun i => OutAll c i)
      ⊢ |={Set.univ}=> iprop((bigSep Finset.univ fun k : CK => (semVal (kcell c k) 0 : sProp 𝕄)) ∗ Pipeline.scopedRest cfg0.spec c) := by
  rw [CK_split]
  unfold Fin0
  simp only [All_sep]
  iintro ⟨#HR, Hb, ⟨Hr, Hs, HC, Hx⟩, Hc, HO⟩
  imod (close_cell I κ ς c .bar 1 (fun r hr => if_neg (by omega))) $$ [Hb] with Hb
  · isplitr; · iexact HR
    iexact Hb
  imod (close_ring I κ ς c CK.rc (fun i j r hr => wset_later hr)) $$ [Hr] with Hr
  · isplitr; · iexact HR
    iexact Hr
  imod (close_ring I κ ς c CK.sn (fun i j r hr => wset_later hr)) $$ [Hs] with Hs
  · isplitr; · iexact HR
    iexact Hs
  ihave Hc := (Entails.of_eq (All_bigSep fun i => Pos (F := F) c (.cr i) 1).symm) $$ Hc
  imod (close_all I κ ς c CK.cr (fun _ => 1) (fun i r hr => if_neg (by omega))) $$ [Hc] with Hc
  · isplitr; · iexact HR
    iexact Hc
  ihave Hc := (Entails.of_eq (All_bigSep fun i => (semVal (kcell c (.cr i)) 0 : sProp 𝕄))) $$ Hc
  ihave HS := (scr_join (F := F) c) $$ [HC HO Hx]
  · isplitl [HC]; · iexact HC
    isplitl [HO]; · iexact HO
    iexact Hx
  imodintro
  isplitr [HS]
  · isplitl [Hb]; · iexact Hb
    isplitl [Hc]; · iexact Hc
    isplitl [Hs]; · iexact Hs
    iexact Hr
  iexact HS

end Close

/-! ## The pipeline's data -/

variable (m : (ℓ : Loc nD τ sig) → Buf (Elt F) ℓ) (ρ : Dev nD → PrngReg)

def s₀ : MemSt nD τ sig (Elt F) := ⟨m, fun _ => 0, ρ⟩

def t₀ : Fin cfg0.N := t0_0
theorem fin_N (t : Fin cfg0.N) : t = t₀ := fin_N0 t

theorem fetch0_0 (t : Fin cfg0.N) : (cfg0.win (0 : Fin 5)).fetch t = true := by rw [fin_N t]; rfl
theorem fetch0_1 (t : Fin cfg0.N) : (cfg0.win (1 : Fin 5)).fetch t = true := by rw [fin_N t]; rfl
theorem fetch0_2 (t : Fin cfg0.N) : (cfg0.win (2 : Fin 5)).fetch t = true := by rw [fin_N t]; rfl
theorem fetch0_3 (t : Fin cfg0.N) : (cfg0.win (3 : Fin 5)).fetch t = true := by rw [fin_N t]; rfl

/-- The operands as the launch finds them. -/
def Im : Inp F where
  x c := (win0_0.blk (0 : Fin 1)).view.read (Elt F) ((s₀ m ρ).mem ((c : Thread nD τ).loc main_arg0))
  w c := (win0_1.blk (0 : Fin 1)).view.read (Elt F) ((s₀ m ρ).mem ((c : Thread nD τ).loc main_arg1))
  sx c := (win0_2.blk (0 : Fin 1)).view.read (Elt F) ((s₀ m ρ).mem ((c : Thread nD τ).loc main_arg2))
  sw c := (win0_3.blk (0 : Fin 1)).view.read (Elt F) ((s₀ m ρ).mem ((c : Thread nD τ).loc main_arg3))

/-- What device `c`'s body starts from. -/
def start (c : Dev nD) : sProp 𝕄 := iprop(G' (Im m ρ) c ∗ Creds c ∗ Levs)
def Φ₀ (c : Dev nD) : sProp 𝕄 := iprop(start m ρ c ∗ Pipeline.scopedRest cfg0.spec c)
def Φ₁ (c : Dev nD) : sProp 𝕄 := iprop((bigSep Finset.univ fun k : CK => (semVal (kcell c k) 0 : sProp 𝕄)) ∗ Pipeline.scopedRest cfg0.spec c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (Im m ρ).x c
    | ⟨1, _⟩ => (Im m ρ).w c
    | ⟨2, _⟩ => (Im m ρ).sx c
    | ⟨3, _⟩ => (Im m ρ).sw c
    | ⟨4, _⟩ => outV (Im m ρ) c
  Φ t := match t with
    | ⟨0, _⟩ => Φ₀ m ρ c
    | ⟨_ + 1, _⟩ => Φ₁ c
  q _ := fullShare
  owed t := match t with
    | ⟨0, _⟩ => Ow c 1
    | ⟨_ + 1, _⟩ => 0

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

/-- The body's operands. -/
abbrev A₀ : Args :=
  ⟨Memref.whole cc0_stg0_0, Memref.isWhole_whole _, Memref.whole cc0_stg1_0, Memref.isWhole_whole _, Memref.whole cc0_stg2_0, Memref.isWhole_whole _,
    Memref.whole cc0_stg3_0, Memref.isWhole_whole _, Memref.whole cc0_stg4_0, Memref.isWhole_whole _⟩

theorem stg_m (c : Dev nD) (b : Ref sig .tc) (X : b.ty.Contents (Elt F)) : stg c b X
    ⊢ ((Memref.whole b : Memref sig .tc _ _ _).view.loc (c : Thread nD τ) ↦[(Memref.whole b : Memref sig .tc _ _ _).view.set]{fullShare} (Memref.whole b : Memref sig .tc _ _ _).view.rep (Val := Elt F) X : sProp 𝕄) := by
  rw [whole_pts]
  iintro ⟨%f, %h, H⟩
  subst h; iexact H
theorem m_stg (c : Dev nD) (b : Ref sig .tc) (X : b.ty.Contents (Elt F)) :
    ((Memref.whole b : Memref sig .tc _ _ _).view.loc (c : Thread nD τ) ↦[(Memref.whole b : Memref sig .tc _ _ _).view.set]{fullShare} (Memref.whole b : Memref sig .tc _ _ _).view.rep (Val := Elt F) X : sProp 𝕄)
    ⊢ stg c b X := by
  rw [whole_pts]
  iintro H
  iexists X
  isplitr; · ipureintro; rfl
  iexact H

theorem get0 (c : Dev nD) (X : Vec F S4096x256 .i8) : stg c cc0_stg0_0 X ⊢ mPts (F := F) c A₀.x X := by unfold mPts; exact stg_m c cc0_stg0_0 X
theorem put0 (c : Dev nD) (X : Vec F S4096x256 .i8) : mPts (F := F) c A₀.x X ⊢ stg c cc0_stg0_0 X := by unfold mPts; exact m_stg c cc0_stg0_0 X
theorem get1 (c : Dev nD) (X : Vec F S256x2048 .i8) : stg c cc0_stg1_0 X ⊢ mPts (F := F) c A₀.w X := by unfold mPts; exact stg_m c cc0_stg1_0 X
theorem put1 (c : Dev nD) (X : Vec F S256x2048 .i8) : mPts (F := F) c A₀.w X ⊢ stg c cc0_stg1_0 X := by unfold mPts; exact m_stg c cc0_stg1_0 X
theorem get2 (c : Dev nD) (X : Vec F S1 .f32) : stg c cc0_stg2_0 X ⊢ mPts (F := F) c A₀.sx X := by unfold mPts; exact stg_m c cc0_stg2_0 X
theorem put2 (c : Dev nD) (X : Vec F S1 .f32) : mPts (F := F) c A₀.sx X ⊢ stg c cc0_stg2_0 X := by unfold mPts; exact m_stg c cc0_stg2_0 X
theorem get3 (c : Dev nD) (X : Vec F S1 .f32) : stg c cc0_stg3_0 X ⊢ mPts (F := F) c A₀.sw X := by unfold mPts; exact stg_m c cc0_stg3_0 X
theorem put3 (c : Dev nD) (X : Vec F S1 .f32) : mPts (F := F) c A₀.sw X ⊢ stg c cc0_stg3_0 X := by unfold mPts; exact m_stg c cc0_stg3_0 X
theorem get4 (c : Dev nD) (X : Vec F S4096x2048 .f32) : stg c cc0_stg4_0 X ⊢ mPts (F := F) c A₀.o X := by unfold mPts; exact stg_m c cc0_stg4_0 X
theorem put4 (c : Dev nD) (X : Vec F S4096x2048 .f32) : mPts (F := F) c A₀.o X ⊢ stg c cc0_stg4_0 X := by unfold mPts; exact m_stg c cc0_stg4_0 X

theorem before0 (c : Dev nD) (d) : (dats m ρ 0 c).before (0 : Fin 5) t₀ d = (Im m ρ).x c := by unfold Dat.before; rw [if_pos (fetch0_0 t₀)]; rfl
theorem before1 (c : Dev nD) (d) : (dats m ρ 0 c).before (1 : Fin 5) t₀ d = (Im m ρ).w c := by unfold Dat.before; rw [if_pos (fetch0_1 t₀)]; rfl
theorem before2 (c : Dev nD) (d) : (dats m ρ 0 c).before (2 : Fin 5) t₀ d = (Im m ρ).sx c := by unfold Dat.before; rw [if_pos (fetch0_2 t₀)]; rfl
theorem before3 (c : Dev nD) (d) : (dats m ρ 0 c).before (3 : Fin 5) t₀ d = (Im m ρ).sw c := by unfold Dat.before; rw [if_pos (fetch0_3 t₀)]; rfl

def bodyPre (c : Dev nD) : sProp 𝕄 :=
  iprop(Φ₀ m ρ c ∗ (dats m ρ 0 c).owesAt 0 t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop(Φ₁ c ∗ (dats m ρ 0 c).owesAt 0 t₀.succ ∗ stg c cc0_stg0_0 ((Im m ρ).x c) ∗ stg c cc0_stg1_0 ((Im m ρ).w c)
    ∗ stg c cc0_stg2_0 ((Im m ρ).sx c) ∗ stg c cc0_stg3_0 ((Im m ρ).sw c) ∗ stg c cc0_stg4_0 (outV (Im m ρ) c))

theorem staged (c : Dev nD) : bodyPre m ρ c ⊢ iprop(start m ρ c ∗ Pipeline.scopedRest cfg0.spec c ∗ OwesX (F := F) c 1 ∗ Ins (Im m ρ) A₀ c
    ∗ ∃ v, mPts (F := F) c A₀.o v) := by
  unfold bodyPre; simp only [before0, before1, before2, before3]
  unfold Φ₀ Dat.owesAt Pipeline.owesWithin OwesX Ins
  rw [show (dats m ρ 0 c).owed t₀.castSucc = Ow c 1 from rfl]
  iintro ⟨⟨HS, HR⟩, ⟨%W, -, HO⟩, ⟨%d0, H0⟩, ⟨%d1, H1⟩, ⟨%d2, H2⟩, ⟨%d3, H3⟩, ⟨%d4, H4⟩⟩
  isplitl [HS]; · iexact HS
  isplitl [HR]; · iexact HR
  isplitl [HO]; · iexists W; iexact HO
  isplitr [H4]
  · isplitl [H0]; · iapply (get0 (F := F) c _) $$ H0
    isplitl [H1]; · iapply (get1 (F := F) c _) $$ H1
    isplitl [H2]; · iapply (get2 (F := F) c _) $$ H2
    iapply (get3 (F := F) c _) $$ H3
  iexists _
  iapply (get4 (F := F) c _) $$ H4

theorem unstaged (c : Dev nD) : iprop(((bigSep Finset.univ fun k : CK => (semVal (kcell c k) 0 : sProp 𝕄)) ∗ Pipeline.scopedRest cfg0.spec c) ∗ OwesX (F := F) c 259
    ∗ Ins (Im m ρ) A₀ c ∗ mPts (F := F) c A₀.o (outV (Im m ρ) c)) ⊢ bodyPost m ρ c := by
  unfold bodyPost Φ₁ Dat.owesAt Pipeline.owesWithin OwesX Ins
  rw [show (dats m ρ 0 c).owed t₀.succ = 0 from rfl, Ow_last]
  iintro ⟨H, ⟨%W, HO⟩, ⟨H0, H1, H2, H3⟩, H4⟩
  isplitl [H]; · iexact H
  isplitl [HO]
  · iexists W
    isplitr; · ipureintro; exact fun _ _ => Or.inl trivial
    iexact HO
  isplitl [H0]; · iapply (put0 (F := F) c _) $$ H0
  isplitl [H1]; · iapply (put1 (F := F) c _) $$ H1
  isplitl [H2]; · iapply (put2 (F := F) c _) $$ H2
  isplitl [H3]; · iapply (put3 (F := F) c _) $$ H3
  iapply (put4 (F := F) c _) $$ H4

/-- The recs from what the launch deals. -/
theorem recs_intro (I : Inp F) (κ : Dev nD × CK → ℕ) (ς : Key → ℕ) : iprop(RecsG I κ ς ∗ Levs) ⊢ Recs I κ ς := by
  unfold RecsG Recs
  iintro ⟨⟨H1, H2, H3⟩, H4⟩
  isplitl [H1]; · iexact H1
  isplitl [H2]; · iexact H2
  isplitl [H3]; · iexact H3
  iexact H4

theorem dev_step (c : Dev nD) (f : Dev nD → PR F) (Q : PUnit → sProp 𝕄) : wpB c (f c) Q ⊢ wpB c (.op .deviceId f) Q := by
  unfold wpB; rw [wp_deviceId]
theorem ret_step (c : Dev nD) (Q : PUnit → sProp 𝕄) : iprop(|={Set.univ}=> Q ⟨⟩) ⊢ wpB (F := F) c (.ret ⟨⟩) Q := by
  unfold wpB; rw [wp_ret]

theorem sound (c : Dev nD) : bodyPre m ρ c ⊢ wpB (F := F) c (.op .deviceId fun d => bodyP A₀ d) (fun _ => bodyPost m ρ c) := by
  refine (staged m ρ c).trans ?_
  refine .trans ?_ (dev_step c _ _)
  unfold start G'
  iintro ⟨⟨⟨%κ, %ς, HG, HL⟩, HC, HV⟩, HS, HO, HI, Ho⟩
  ihave #HR := (recs_intro (Im m ρ) κ ς) $$ [HG HV]
  · isplitl [HG]; · iexact HG
    iexact HV
  ihave HS := (scr_split (F := F) c) $$ HS
  icases HS with ⟨HS1, HS2, HS3⟩
  imod (body_open (Im m ρ) κ ς c) $$ [HL HC HS1 HS2 HS3] with ⟨HB, HT⟩
  · isplitr; · iexact HR
    isplitl [HL]; · iexact HL
    isplitl [HC]; · iexact HC
    isplitl [HS1]; · iexact HS1
    isplitl [HS2]; · iexact HS2
    iexact HS3
  iapply (wp_body (Im m ρ) κ ς A₀ c) $$ [HO HB HT HI Ho]
  · isplitr; · iexact HR
    unfold BodyPre
    isplitl [HO]; · iexact HO
    isplitl [HB]; · iexact HB
    isplitl [HT]; · iexact HT
    isplitl [HI]; · iexact HI
    iexact Ho
  unfold BodyPost
  iintro ⟨HO, Hb, HF, Hc, Hu, HI, Ho⟩
  iapply (ret_step (F := F) c _)
  imod (body_close (Im m ρ) κ ς c) $$ [Hb HF Hc Hu] with HX
  · isplitr; · iexact HR
    isplitl [Hb]; · iexact Hb
    isplitl [HF]; · iexact HF
    isplitl [Hc]; · iexact Hc
    iexact Hu
  imodintro
  iapply (unstaged m ρ c)
  isplitl [HX]; · iexact HX
  isplitl [HO]; · iexact HO
  isplitl [HI]; · iexact HI
  iexact Ho

theorem sound_eq (c : Dev nD) (P : PR F) (e : P = .op .deviceId fun d => bodyP A₀ d) : bodyPre m ρ c ⊢ wpB (F := F) c P (fun _ => bodyPost m ρ c) := by
  subst e; exact sound m ρ c

set_option maxRecDepth 100000 in
theorem body_obligation (c : Dev nD) : BodyObligation (dats (F := F) m ρ 0 c) (defs₀ (F := F)) 𝒱₀ 0 Set.univ := fun t => by
  rw [fin_N t]
  rw [bigSep_W, bigSep_W]
  simp only [owns_whole_eq]
  exact sound_eq m ρ c _ (body_eq A₀)

/-! ## The run -/

theorem share_eq (c : Dev nD) (w : Fin cfg0.W) : (dats m ρ 0 c).share w = fullShare := by unfold Dat.share; split <;> rfl

theorem start_intro (c : Dev nD) : iprop(Pipeline.unscopedRestP Pipeline.Prefetch.none cfg0.spec c (fun b => m ((c : Thread nD τ).loc b)) ∗ levAts L lv
      ∗ Pipeline.launchCred (fun d => Ow d 1) c ∗ prngReg c (ρ c) ∗ G' (Im m ρ) c) ⊢ |={Set.univ}=> iprop(start m ρ c ∗ emp) := by
  unfold start Levs
  iintro ⟨-, Hlev, Hcr, -, HG⟩
  ihave Hc := (creds (F := F) c) $$ Hcr
  imodintro
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [sems_eq]
  exact sep_assoc.1

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait_zero c _ 1 (by decide)
    · have h := mayWait_zero (F := F) c (SemLoc.dma ((cfg0.win w).sem s)) 259 (by decide)
      rw [Ow_last] at h
      exact h

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => Ow d 1) (howed₀ := fun _ => rfl) (howedN := fun _ => rfl)
    (L := L) (lv := lv) (hL := L_of_ne) (hwaits := waits m ρ)
    (G := G) (G' := G' (Im m ρ)) (u₀ := u₀)
    (hu₀ := by
      unfold u₀
      iintro Hu
      ihave H := (ownU_pair _ _) $$ Hu
      icases H with ⟨HP, HX⟩
      ihave HX := (Entails.of_eq (G_all (F := F)).symm) $$ HX
      imodintro
      isplitl [HP] <;> iassumption)
    (hglob := glob (Im m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands end as they started, the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c 0).trans ((dats (F := F) m ρ 0 c).arrAt_in (0 : Fin 5) rfl _),
    (h.1 c 1).trans ((dats (F := F) m ρ 0 c).arrAt_in (1 : Fin 5) rfl _), (h.1 c 2).trans ((dats (F := F) m ρ 0 c).arrAt_in (2 : Fin 5) rfl _),
    (h.1 c 3).trans ((dats (F := F) m ρ 0 c).arrAt_in (3 : Fin 5) rfl _)⟩, h.2⟩) (run_main m ρ)
-- ==== Proof.Ideal.Value.lean ====
/- The value: what the rings sum and distribute is the activated product, over the extended reals. -/
module

public import proofs.«01_k».proof.Proof.Ideal.Launch
public import proofs.«01_k».proof.Proof.Gen.ReferenceIdeal.Run
public import Idealize.ShloMosaic.Lib.IntMxu
public import Idealize.ShloMosaic.Lib.Layout
public import Idealize.ShloMosaic.Lib.MatmulPlain
public import Idealize.ShloMosaic.Lib.StackMember

@[expose] public section

noncomputable section

namespace Cert.KernelIdeal.Proof

open Cert.KernelIdeal Cert.KernelIdeal.Gen
open Cert.ReferenceIdeal (S4096x4096)
open Idealize.ShloMosaic Idealize.ShloMosaic.ValueIdx
open Idealize.ShloMosaic.TcCoe
open scoped BigOperators

/-! ## The activation -/

/-- An integer as an extended real. -/
abbrev ofZ (z : ℤ) : EReal := ((z : ℝ) : EReal)

theorem ofZ_add (a b : ℤ) : ofZ (a + b) = ofZ a + ofZ b := by
  unfold ofZ; push_cast; rfl

theorem ofZ_mul (a b : ℤ) : ofZ (a * b) = ofZ a * ofZ b := by
  unfold ofZ; push_cast; rfl

theorem ofZ_sum {ι : Type} (s : Finset ι) (f : ι → ℤ) : ofZ (∑ k ∈ s, f k) = ∑ k ∈ s, ofZ (f k) := by
  classical
  induction s using Finset.induction_on with
  | empty => simp [ofZ]
  | insert a s ha ih => rw [Finset.sum_insert ha, Finset.sum_insert ha, ofZ_add, ih]

/-- The scaled and activated sum `a`. -/
def silu (s a : EReal) : EReal := Ideal.div (a * s) (1 + Ideal.exp (-(a * s)))

theorem exp_nonneg (x : EReal) : 0 ≤ Ideal.exp x := by
  induction x with
  | bot => exact le_refl _
  | top => exact le_top
  | coe r => exact EReal.coe_nonneg.mpr (Real.exp_pos r).le

theorem one_add_exp_ne (x : EReal) : (1 : EReal) + Ideal.exp x ≠ 0 := by
  have h : (0 : EReal) < 1 + Ideal.exp x := lt_of_lt_of_le (zero_lt_one) (le_add_of_nonneg_right (exp_nonneg x))
  exact h.ne'

theorem one_bits : (FloatOps.ofBits .f32 0x3F800000#32 : Ideal .f32) = (1 : EReal) := by
  show Ideal.ofBits .f32 0x3F800000#32 = 1
  simp [Ideal.ofBits, Ideal.ieee, -EReal.coe_mul]; norm_num
theorem zero_bits : (FloatOps.ofBits .f32 0x00000000#32 : Ideal .f32) = (0 : EReal) := Ideal.ofBits_zero_f32

theorem siluV_apply (sx sw : Ideal .f32) (a : Vec Ideal S64x2048 .f32) (y : S64x2048.Idx) :
    siluV sx sw a y = silu (sx * sw : EReal) (a y) := by
  have e : siluV sx sw a y = ((a y : EReal) * (sx * sw : EReal)) * Ideal.div (FloatOps.ofBits .f32 0x3F800000#32 : Ideal .f32)
      ((FloatOps.ofBits .f32 0x3F800000#32 : Ideal .f32) + Ideal.exp ((FloatOps.ofBits .f32 0x00000000#32 : Ideal .f32) - (a y : EReal) * (sx * sw : EReal))) := by
    unfold siluV
    rw [shapeCast_self]
    rfl
  rw [e, one_bits, zero_bits, silu, zero_sub]
  unfold Ideal.div
  rw [if_neg (one_add_exp_ne _), if_neg (one_add_exp_ne _), one_mul]

/-! ## A device's part of the product -/

/-- Device `d`'s part of the product at `j`. -/
def part (I : Inp Ideal) (d : Dev nD) (j : S4096x2048.Idx) : ℤ :=
  ∑ q : Fin 256, (I.x d (ix2 (n0 := 4096) (j 0) q) : BitVec 8).toInt * (I.w d (ix2 (n1 := 2048) q (j 1)) : BitVec 8).toInt

theorem gemmV_apply (x : Vec Ideal S256x256 .i8) (w : Vec Ideal S256x2048 .i8) (r : Fin 256) (l : Fin 2048) :
    gemmV (F := Ideal) x w (ix2 r l) = ofZ (∑ q : Fin 256, (x (ix2 r q) : BitVec 8).toInt * (w (ix2 q l) : BitVec 8).toInt) := by
  unfold gemmV
  rw [shapeCast_self, shapeCast_self, sitofp_apply]
  show ofZ (matmulI8 IntMxuNumerics.v7x (DotDims.plain 256 256 2048) x w (constantI S256x2048 32 0#32) (ix2 r l)).toInt = _
  rw [matmulI8_toInt _ _ _ _ _ _ rfl ((absDotI8_le_numel _ _ _ _).trans (by decide))]
  unfold dotI8
  rw [← Equiv.sum_comp (DotDims.plainContr 256 256 2048).symm]
  refine congrArg ofZ (Finset.sum_congr rfl fun k _ => ?_)
  have hk := contrEquiv1_symm_val _ 256 (DotDims.plain_contr_rank 256 256 2048) (DotDims.plain_contr_size 256 256 2048) k
  have el : (DotDims.plain 256 256 2048).lhsIdx (ix2 r l) ((DotDims.plainContr 256 256 2048).symm k) = ix2 r k := by
    funext a; apply Fin.ext
    match a with
    | ⟨0, _⟩ => rfl
    | ⟨1, _⟩ => exact hk
  have er : (DotDims.plain 256 256 2048).rhsIdx (ix2 r l) ((DotDims.plainContr 256 256 2048).symm k) = ix2 k l := by
    funext a; apply Fin.ext
    match a with
    | ⟨0, _⟩ => exact hk
    | ⟨1, _⟩ => rfl
  rw [el, er]

theorem xR_row (c : Fin 16) (i : Fin 4) (y : S64x2048.Idx) (q : Fin 256) :
    (xR c).emb (ix2 (n0 := 256) ((hR i).emb y 0) q) = ix2 (n0 := 4096) ((bR c i).emb y 0) q := by
  funext a
  refine Fin.ext ?_
  refine (unit_emb_val (s := S4096x256) ![256 * c.val, 0] S256x256.size (inbX c) _ a).trans ?_
  have e1 := unit_emb_val (s := S256x2048) ![64 * i.val, 0] S64x2048.size (inbH i) y 0
  have e2 := bR_val c i y
  match a with
  | ⟨0, _⟩ =>
    refine (congrArg (256 * c.val + ·) e1).trans (Eq.trans ?_ e2.symm)
    show 256 * c.val + (64 * i.val + _) = _
    omega
  | ⟨1, _⟩ => exact Nat.zero_add _
theorem col_eq (c : Fin 16) (i : Fin 4) (y : S64x2048.Idx) : ((hR i).emb y 1 : Fin 2048) = ((bR c i).emb y 1 : Fin 2048) := by
  refine Fin.ext ?_
  exact (unit_emb_val (s := S256x2048) ![64 * i.val, 0] S64x2048.size (inbH i) y 1).trans
    (unit_emb_val (s := S4096x2048) ![256 * c.val + 64 * i.val, 0] S64x2048.size (inbB c i) y 1).symm

variable (I : Inp Ideal)

theorem bandV_apply (d : Dev nD) (c : Fin 16) (i : Fin 4) (y : S64x2048.Idx) : bandV I d c i y = ofZ (part I d ((bR c i).emb y)) := by
  have h := gemmV_apply (fun z => I.x d ((xR c).emb z)) (I.w d) ((hR i).emb y 0) ((hR i).emb y 1)
  refine (congrArg (gemmV (fun z => I.x d ((xR c).emb z)) (I.w d)) (eq_ix2 (n0 := 256) (n1 := 2048) ((hR i).emb y))).trans (h.trans ?_)
  refine congrArg ofZ (Finset.sum_congr rfl fun q _ => ?_)
  exact congrArg₂ (fun a b : BitVec 8 => a.toInt * b.toInt) (congrArg (I.x d) (xR_row c i y q))
    (congrArg (fun l : Fin 2048 => I.w d (ix2 q l)) (col_eq c i y))

/-! ## The sums -/

theorem ck_up : ∀ (i : Fin 4) (d : Dev nD) (t : Fin 15), ck i (upD i d) t.val = ck i d (t.val + 1) := by decide +kernel

theorem acc_apply (t : ℕ) : t < 16 → ∀ (i : Fin 4) (d : Dev nD) (y : S64x2048.Idx),
    acc I t i d y = ofZ (∑ s ∈ Finset.range (t + 1), part I ((upD i)^[s] d) ((bR (ck i d t) i).emb y)) := by
  induction t with
  | zero => intro _ i d y; rw [Finset.sum_range_one]; exact bandV_apply I d _ i y
  | succ t ih =>
    intro ht i d y
    have e : acc I (t + 1) i d y = (bandV I d (ck i d (t + 1)) i y : EReal) + (acc I t i (upD i d) y : EReal) := rfl
    rw [e, bandV_apply, ih (by omega), Finset.sum_range_succ' _ (t + 1), add_comm, ofZ_add, ck_up i d ⟨t, by omega⟩]
    rfl

theorem up_inj : ∀ (i : Fin 4) (d : Dev nD), Function.Injective fun s : Fin 16 => (upD i)^[s.val] d := by
  have h : ∀ (i : Fin 4) (d : Dev nD) (s s' : Fin 16), (upD i)^[s.val] d = (upD i)^[s'.val] d → s = s' := by decide +kernel
  exact fun i d s s' => h i d s s'
theorem up_sum (f : Dev nD → ℤ) (i : Fin 4) (d : Dev nD) : (∑ s ∈ Finset.range 16, f ((upD i)^[s] d)) = ∑ e : Dev nD, f e := by
  rw [Finset.sum_range]
  exact Fintype.sum_bijective _ ((Fintype.bijective_iff_injective_and_card _).mpr ⟨up_inj i d, rfl⟩) _ _ fun _ => rfl

theorem fwd_eq (t : ℕ) : ∀ (i : Fin 4) (d : Dev nD), fwd I t i d = fwd I 0 i ((upD i)^[t] d) := by
  induction t with
  | zero => exact fun _ _ => rfl
  | succ t ih => exact fun i d => ih i (upD i d)

theorem fwd_apply (t : ℕ) (i : Fin 4) (d : Dev nD) (y : S64x2048.Idx) : (fwd I t i d y : EReal) = finV I i ((upD i)^[t] d) y := by
  rw [fwd_eq]
  show (ownV (finV I i _) y : EReal) = _
  unfold ownV
  rw [shapeCast_self]
  rfl

theorem ck_source : ∀ (i : Fin 4) (c : Dev nD) (k : Fin 16), ck i ((upD i)^[(ckn i c k).val + 1] c) 15 = k := by decide +kernel

/-- Each device ends with the bands the devices completed. -/
theorem outV_band (c : Dev nD) (k : Fin 16) (i : Fin 4) : ∃ e : Dev nD, ck i e 15 = k ∧ band (outV I c) k i = finV I i e := by
  unfold outV
  rw [band_ofBands]
  by_cases h : (ckn i c k).val = 15
  · refine ⟨c, ?_, if_pos h⟩
    rw [← h]; exact ck_ckn i c k
  · refine ⟨_, ck_source i c k, (if_neg h).trans ?_⟩
    funext y
    show (sent I (15 + (ckn i c k).val) i (upD i c) y : EReal) = _
    unfold sent
    rw [if_neg (by omega), Nat.add_sub_cancel_left]
    exact fwd_apply I _ i _ y

/-! ## Against the whole arrays -/

variable (X : S4096x4096.Idx → BitVec 8) (W : S4096x2048.Idx → BitVec 8)

/-- The product at `j`. -/
def tot (j : S4096x2048.Idx) : ℤ := ∑ q : Fin 4096, (X (ix2 (n0 := 4096) (j 0) q)).toInt * (W (ix2 (n1 := 2048) q (j 1))).toInt

theorem tot_eq (hx : ∀ d : Dev nD, I.x d = Layout.block S4096x256 S4096x4096 1 16 d X)
    (hw : ∀ d : Dev nD, I.w d = Layout.block S256x2048 S4096x2048 0 16 d W) (j : S4096x2048.Idx) :
    (∑ d : Dev nD, part I d j) = tot X W j := by
  unfold tot part
  rw [← Equiv.sum_comp (finProdFinEquiv (m := 16) (n := 256)), Fintype.sum_prod_type]
  refine Finset.sum_congr rfl fun d _ => Finset.sum_congr rfl fun q _ => ?_
  rw [hx d, hw d, Layout.block_apply, Layout.block_apply]
  have hx' : ∀ h : Layout.Tiles S4096x256 S4096x4096 1 16, h.idx d (ix2 (n0 := 4096) (j 0) q) = ix2 (n0 := 4096) (j 0) (finProdFinEquiv (d, q)) := fun h => by
    funext a
    refine Fin.ext ?_
    match a with
    | ⟨0, _⟩ => rfl
    | ⟨1, _⟩ => show d.val * 256 + q.val = q.val + 256 * d.val; omega
  have hw' : ∀ h : Layout.Tiles S256x2048 S4096x2048 0 16, h.idx d (ix2 (n1 := 2048) q (j 1)) = ix2 (n1 := 2048) (finProdFinEquiv (d, q)) (j 1) := fun h => by
    funext a
    refine Fin.ext ?_
    match a with
    | ⟨0, _⟩ => show d.val * 256 + q.val = q.val + 256 * d.val; omega
    | ⟨1, _⟩ => rfl
  rw [hx', hw']
  rfl

variable (sx sw : S1.Idx → EReal)

theorem idx1 (z : S1.Idx) : z = ix1 (0 : Fin 1) := (eq_ix1 z).trans (congrArg ix1 (Subsingleton.elim (α := Fin 1) _ _))

/-- What every device is to end with. -/
def actV (j : S4096x2048.Idx) : EReal := silu (sx (ix1 (0 : Fin 1)) * sw (ix1 (0 : Fin 1))) (ofZ (tot X W j))

theorem outV_eq (hx : ∀ d : Dev nD, I.x d = Layout.block S4096x256 S4096x4096 1 16 d X)
    (hw : ∀ d : Dev nD, I.w d = Layout.block S256x2048 S4096x2048 0 16 d W) (hsx : ∀ d, I.sx d = sx) (hsw : ∀ d, I.sw d = sw)
    (c : Dev nD) : outV I c = actV X W sx sw := by
  refine band_ext fun k i => ?_
  obtain ⟨e, he, hb⟩ := outV_band I c k i
  rw [hb]
  funext y
  unfold finV
  rw [siluV_apply, hsx, hsw, acc_apply I 15 (by decide), up_sum (fun d => part I d _), tot_eq I X W hx hw, he]
  rw [show Shape.Idx.first (s := S1) (numel1_S1.symm ▸ Nat.one_pos) = ix1 (0 : Fin 1) from idx1 _]
  rfl

section Reference

/-- The product as the reference takes it, and what it is scaled by. -/
abbrev refDot : FVec Ideal S4096x2048 .f32 :=
  Host.dotGeneral Cert.ReferenceIdeal.dot_S4096x4096_S4096x2048_S4096x2048_1_0_0_1_n_n none
    (sitofp .f32 (extsi 32 (X : IVec S4096x4096 8) Cert.ReferenceIdeal.Gen.natLt_8_32) : FVec Ideal S4096x4096 .f32)
    (sitofp .f32 (extsi 32 (W : IVec S4096x2048 8) Cert.ReferenceIdeal.Gen.natLt_8_32) : FVec Ideal S4096x2048 .f32)
abbrev refScale (sx sw : FVec Ideal S1 .f32) : FVec Ideal S4096x2048 .f32 :=
  broadcastInDim S4096x2048 ![0, 1] Cert.ReferenceIdeal.Gen.bcast_S1x1_S4096x2048_0_1
    (broadcastInDim Cert.ReferenceIdeal.S1x1 ![1] Cert.ReferenceIdeal.Gen.bcast_S1_S1x1_1 (mulf sx sw))

theorem refDot_apply (j : S4096x2048.Idx) : refDot X W j = ofZ (tot X W j) := by
  have h := StackMember.dotGeneral_plain_apply (m := 4096) (k := 4096) (n := 2048) none
    (sitofp .f32 (extsi 32 (X : IVec S4096x4096 8) Cert.ReferenceIdeal.Gen.natLt_8_32) : FVec Ideal S4096x4096 .f32)
    (sitofp .f32 (extsi 32 (W : IVec S4096x2048 8) Cert.ReferenceIdeal.Gen.natLt_8_32) : FVec Ideal S4096x2048 .f32) (j 0) (j 1)
  refine (congrArg (refDot X W) (eq_ix2 (n0 := 4096) (n1 := 2048) j)).trans (h.trans ?_)
  unfold tot
  rw [ofZ_sum]
  refine Finset.sum_congr rfl fun q _ => ?_
  rw [ofZ_mul]
  exact congrArg₂ (fun a b : ℤ => ofZ a * ofZ b) (BitVec.toInt_signExtend_of_le (by decide)) (BitVec.toInt_signExtend_of_le (by decide))
theorem refScale_apply (sx sw : FVec Ideal S1 .f32) (j : S4096x2048.Idx) :
    refScale sx sw j = (sx (ix1 (0 : Fin 1)) * sw (ix1 (0 : Fin 1)) : EReal) :=
  congrArg (fun z : S1.Idx => (sx z * sw z : EReal)) (idx1 _)

theorem silu_ops (a s : FVec Ideal S4096x2048 .f32) (j : S4096x2048.Idx) :
    (Host.divf (mulf a s) (addf (broadcastInDim S4096x2048 ![] Cert.ReferenceIdeal.Gen.bcast_S_S4096x2048 (constant S_ .f32 0x3F800000#32))
      (Host.exp (Host.negf (mulf a s)))) : FVec Ideal S4096x2048 .f32) j = silu (s j) (a j) := by
  unfold silu
  rw [← one_bits]
  rfl

/-- The reference computes it. -/
theorem ref_eq (sx sw : FVec Ideal S1 .f32) :
    Host.divf (mulf (refDot X W) (refScale sx sw))
      (addf (broadcastInDim S4096x2048 ![] Cert.ReferenceIdeal.Gen.bcast_S_S4096x2048 (constant S_ .f32 0x3F800000#32))
        (Host.exp (Host.negf (mulf (refDot X W) (refScale sx sw))))) = actV X W sx sw := by
  funext j
  rw [silu_ops, refDot_apply, refScale_apply]
  rfl
end Reference

/-! ## The memory -/

section Memory
variable (m : (ℓ : Loc nD τ sig) → Buf (Elt Ideal) ℓ) (ρ : Dev nD → PrngReg) (c : Dev nD)

theorem finalA_o : (win0_4.blk (0 : Fin 1)).view.read (Elt Ideal) (finalA m ρ c (4 : Fin 5)) = outV (Im m ρ) c := by
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _
theorem final_o : (finalA m ρ c (4 : Fin 5) : main_v1.ty.Contents (Elt Ideal)) = outV (Im m ρ) c := by
  have hz : (fun a => (win0_4.index (0 : Fin 1)) a * main_v1.ty.shape.size a) = fun _ => 0 := funext fun a => by fin_cases a <;> decide
  exact (Memref.read_access_unit_zero (Elt Ideal) main_v1 hz (fun a => by fin_cases a <;> decide) _).symm.trans (finalA_o m ρ c)
theorem Im_x : (Im m ρ).x c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _
theorem Im_w : (Im m ρ).w c = m ((c : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _
theorem Im_sx : (Im m ρ).sx c = m ((c : Thread nD τ).loc main_arg2) := by
  have hz : (fun a => (win0_2.index (0 : Fin 1)) a * main_arg2.ty.shape.size a) = fun _ => 0 := funext fun a => by fin_cases a <;> decide
  exact Memref.read_access_unit_zero (Elt Ideal) main_arg2 hz (fun a => by fin_cases a <;> decide) _
theorem Im_sw : (Im m ρ).sw c = m ((c : Thread nD τ).loc main_arg3) := by
  have hz : (fun a => (win0_3.index (0 : Fin 1)) a * main_arg3.ty.shape.size a) = fun _ => 0 := funext fun a => by fin_cases a <;> decide
  exact Memref.read_access_unit_zero (Elt Ideal) main_arg3 hz (fun a => by fin_cases a <;> decide) _
end Memory

end Cert.KernelIdeal.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Ideal.Launch
public import proofs.«01_k».proof.Proof.Ideal.Value
public import Idealize.ShloMosaic.Adequacy
public import Idealize.ShloMosaic.Init

@[expose] public section

noncomputable section

namespace Cert.Proof

open Idealize.ShloMosaic Idealize.SL.Sem Cert.Kernel

theorem frame_p : Cert.quiescent_Kernel := fun m ρ _ => Cert.Kernel.Proof.frame_main (F := Bits) m ρ

theorem frame_pi : Cert.quiescent_KernelIdeal := fun m ρ _ => Cert.KernelIdeal.Proof.frame_main (F := Ideal) m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.KernelIdeal.Proof in
/-- Both end at the activated product: the kernel on every device, the reference on its one. -/
theorem algebraic : Cert.algebraic_KernelIdeal_ReferenceIdeal := by
  intro m ρ m' ρ' _ hag
  let at0 := fun b => m' (((0 : Dev Cert.ReferenceIdeal.nD).tc : Thread Cert.ReferenceIdeal.nD Cert.ReferenceIdeal.τ).loc b)
  refine ⟨actV (at0 Cert.ReferenceIdeal.main_arg0) (at0 Cert.ReferenceIdeal.main_arg1) (at0 Cert.ReferenceIdeal.main_arg2)
    (at0 Cert.ReferenceIdeal.main_arg3), ?_, ?_⟩
  · refine (θ_run Cert.KernelIdeal.defs _ _).mono (fun r h c => ⟨?_, ?_, ?_, ?_, ?_⟩) (run_main (F := Ideal) m ρ)
    · refine (h.1 c 4).trans ((final_o m ρ c).trans ?_)
      exact outV_eq (Im m ρ) _ _ _ _ (fun d => (Im_x m ρ d).trans (hag d).1) (fun d => (Im_w m ρ d).trans (hag d).2.1)
        (fun d => (Im_sx m ρ d).trans (hag d).2.2.1) (fun d => (Im_sw m ρ d).trans (hag d).2.2.2) c
    · exact (h.1 c 0).trans ((dats (F := Ideal) m ρ 0 c).arrAt_in (0 : Fin 5) rfl _)
    · exact (h.1 c 1).trans ((dats (F := Ideal) m ρ 0 c).arrAt_in (1 : Fin 5) rfl _)
    · exact (h.1 c 2).trans ((dats (F := Ideal) m ρ 0 c).arrAt_in (2 : Fin 5) rfl _)
    · exact (h.1 c 3).trans ((dats (F := Ideal) m ρ 0 c).arrAt_in (3 : Fin 5) rfl _)
  · exact (θ_run Cert.ReferenceIdeal.defs _ _).mono (fun r h => ⟨(h 0).1.trans (ref_eq _ _ _ _), (h 0).2⟩)
      (Cert.ReferenceIdeal.Value.run (F := Ideal) m' ρ')

theorem claim : Cert.Claim := ⟨Cert.Kernel.Gen.facts, Cert.KernelIdeal.Gen.facts, Cert.ReferenceIdeal.Gen.facts, frame_p, frame_pi, frame_ri, trivial, algebraic⟩

end Cert.Proof

end
